-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v84) = v1 c
          ∧ r.2.mem ((c.tc : Thread Cert.Reference6Ideal.nD Cert.Reference6Ideal.τ).loc Cert.Reference6Ideal.main_v85) = v2 c
          ∧ r.2.mem ((c.tc : Thread Cert.Reference6Ideal.nD Cert.Reference6Ideal.τ).loc Cert.Reference6Ideal.main_v74) = v3 c
          ∧ r.2.mem ((c.tc : Thread Cert.Reference6Ideal.nD Cert.Reference6Ideal.τ).loc Cert.Reference6Ideal.main_v83) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_v96) = v1 c
          ∧ r.2.mem ((c.tc : Thread Cert.Reference7Ideal.nD Cert.Reference7Ideal.τ).loc Cert.Reference7Ideal.main_v97) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)) (v2 : (c : Dev Cert.Kernel10Ideal.nD) → Buf (Elt Ideal) ((c.tc : Thread Cert.Kernel10Ideal.nD Cert.Kernel10Ideal.τ).loc Cert.Kernel10Ideal.main_v13_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_v13_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v44) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite6 : Cert.Pre_finite6.Facts) (hPre_finite7 : Cert.Pre_finite7.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S8192x1024 : Shape := ⟨2, ![8192, 1024]⟩
abbrev S8192x2048 : Shape := ⟨2, ![8192, 2048]⟩
abbrev S4x512x512 : Shape := ⟨3, ![4, 512, 512]⟩
abbrev S1x2048 : Shape := ⟨2, ![1, 2048]⟩
abbrev S1x1024 : Shape := ⟨2, ![1, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1x2048 .f32) (main_arg5 : FVec F S1x1024 .f32) (main_arg6 : FVec F S2048x1024 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S2048x1024 .f32 := Host.absf main_arg6
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x2048 .f32) (main_arg2 : FVec F S8192x2048 .f32) (main_arg3 : FVec F S4x512x512 .f32) (main_arg4 : FVec F S1x2048 .f32) (main_arg5 : FVec F S1x1024 .f32) (main_arg6 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S4x512x512 .f32 := Host.absf main_arg3
  let main_cst_4 : FVec F S_ .f32 := constant S_ .f32 0x7F800000#32
  let main_v13 : FVec F S4x512x512 .f32 := broadcastInDim S4x512x512 ![] bcast_S_S4x512x512 main_cst_4
  let main_v14 : IVec S4x512x512 1 := cmpf .olt main_v12 main_v13
  let main_c_5 : IVec S_ 1 := constantI S_ 1 1#1
  let main_v15 : IVec S_ 1 := (fun x v => Host.reduce IntOp.andi x v reducesTo_S4x512x512_S_d0_1_2 h_S_) main_v14 main_c_5
  fn_part1 (F := F) main_arg4 main_arg5 main_arg6 main_v3 main_v7 main_v11 main_v15
-- ==== Pre_finite10.lean ====
abbrev S8x1024 : Shape := ⟨2, ![8, 1024]⟩
abbrev S1024 : Shape := ⟨1, ![1024]⟩
abbrev S2x1024x384 : Shape := ⟨3, ![2, 1024, 384]⟩
abbrev S2x8x3072 : Shape := ⟨3, ![2, 8, 3072]⟩
abbrev S8x3072 : Shape := ⟨2, ![8, 3072]⟩
abbrev S2x8x384 : Shape := ⟨3, ![2, 8, 384]⟩
abbrev S8x384 : Shape := ⟨2, ![8, 384]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S2x1024x384 : S_.BroadcastsInDim S2x1024x384 (![] : Fin 0 → Fin S2x1024x384.rank)
  reducesTo_S2x1024x384_S_d0_1_2 : S2x1024x384.ReducesTo [0, 1, 2] S_
  bcast_S_S8x384 : S_.BroadcastsInDim S8x384 (![] : Fin 0 → Fin S8x384.rank)
  reducesTo_S8x384_S_d0_1 : S8x384.ReducesTo [0, 1] S_

variable [Facts]

def fn {F : FTy → Type} [FloatOps F] (main_arg0 : FVec F S8x1024 .f32) (main_arg1 : FVec F S1024 .f32) (main_arg2 : FVec F S2x1024x384 .f32) (main_arg3 : FVec F S2x8x3072 .f32) (main_arg4 : FVec F S8x3072 .f32) (main_arg5 : FVec F S2x8x384 .f32) (main_arg6 : FVec F S8x384 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S2x1024x384 .f32 := Host.absf main_arg2
  let main_cst_0 : FVec F S_ .f32 := constant S_ .f32 0x7F800000#32
  let main_v5 : FVec F S2x1024x384 .f32 := broadcastInDim S2x1024x384 ![] bcast_S_S2x1024x384 main_cst_0
  let main_v6 : IVec S2x1024x384 1 := cmpf .olt main_v4 main_v5
  let main_c_1 : IVec S_ 1 := constantI S_ 1 1#1
  let main_v7 : IVec S_ 1 := (fun x v => Host.reduce IntOp.andi x v reducesTo_S2x1024x384_S_d0_1_2 h_S_) main_v6 main_c_1
  let main_v8 : FVec F S8x384 .f32 := Host.absf main_arg6
  let main_cst_2 : FVec F S_ .f32 := constant S_ .f32 0x7F800000#32
  let main_v9 : FVec F S8x384 .f32 := broadcastInDim S8x384 ![] bcast_S_S8x384 main_cst_2
  let main_v10 : IVec S8x384 1 := cmpf .olt main_v8 main_v9
  let main_c_3 : IVec S_ 1 := constantI S_ 1 1#1
  let main_v11 : IVec S_ 1 := (fun x v => Host.reduce IntOp.andi x v reducesTo_S8x384_S_d0_1 h_S_) main_v10 main_c_3
  let main_v12 : IVec S_ 1 := andi main_v3 main_v7
  let main_v13 : IVec S_ 1 := andi main_v12 main_v11
  main_v13
-- ==== Pre_finite6.lean ====
abbrev S8192x1024 : Shape := ⟨2, ![8192, 1024]⟩
abbrev S1x1024 : Shape := ⟨2, ![1, 1024]⟩
abbrev S8192x2048 : Shape := ⟨2, ![8192, 2048]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S8192x2048 .f32) (main_arg6 : FVec F S8192x2048 .f32) (main_arg7 : FVec F S1x1024 .f32) (main_arg8 : FVec F S2048x1024 .f32) (main_v3 : IVec S_ 1) (main_v7 : IVec S_ 1) (main_v11 : IVec S_ 1) (main_v15 : IVec S_ 1) : IVec S_ 1 :=
  let main_v16 : FVec F S8192x2048 .f32 := Host.absf main_arg5
  let main_cst_6 : FVec F S_ .f32 := constant S_ .f32 0x7F800000#32
  let main_v17 : FVec F S8192x2048 .f32 := broadcastInDim S8192x2048 ![] bcast_S_S8192x2048 main_cst_6
  let main_v18 : IVec S8192x2048 1 := cmpf .olt main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : FVec F S8192x2048 .f32 := Host.absf main_arg6
  let main_cst_8 : FVec F S_ .f32 := constant S_ .f32 0x7F800000#32
  let main_v21 : FVec F S8192x2048 .f32 := broadcastInDim S8192x2048 ![] bcast_S_S8192x2048 main_cst_8
  let main_v22 : IVec S8192x2048 1 := cmpf .olt main_v20 main_v21
  let main_c_9 : IVec S_ 1 := constantI S_ 1 1#1
  let main_v23 : IVec S_ 1 := (fun x v => Host.reduce IntOp.andi x v reducesTo_S8192x2048_S_d0_1 h_S_) main_v22 main_c_9
  let main_v24 : FVec F S1x1024 .f32 := Host.absf main_arg7
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S2048x1024 .f32 := Host.absf main_arg8
  let main_cst_12 : FVec F S_ .f32 := constant S_ .f32 0x7F800000#32
  let main_v29 : FVec F S2048x1024 .f32 := broadcastInDim S2048x1024 ![] bcast_S_S2048x1024 main_cst_12
  let main_v30 : IVec S2048x1024 1 := cmpf .olt main_v28 main_v29
  let main_c_13 : IVec S_ 1 := constantI S_ 1 1#1
  let main_v31 : IVec S_ 1 := (fun x v => Host.reduce IntOp.andi x v reducesTo_S2048x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x2048 .f32) (main_arg5 : FVec F S8192x2048 .f32) (main_arg6 : FVec F S8192x2048 .f32) (main_arg7 : FVec F S1x1024 .f32) (main_arg8 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S8192x2048 .f32 := Host.absf main_arg4
  let main_cst_4 : FVec F S_ .f32 := constant S_ .f32 0x7F800000#32
  let main_v13 : FVec F S8192x2048 .f32 := broadcastInDim S8192x2048 ![] bcast_S_S8192x2048 main_cst_4
  let main_v14 : IVec S8192x2048 1 := cmpf .olt main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_arg5 main_arg6 main_arg7 main_arg8 main_v3 main_v7 main_v11 main_v15
-- ==== Pre_finite7.lean ====
abbrev S8192x2048 : Shape := ⟨2, ![8192, 2048]⟩
abbrev S4x512x512 : Shape := ⟨3, ![4, 512, 512]⟩
abbrev S1x2048 : Shape := ⟨2, ![1, 2048]⟩
abbrev S8192x1024 : Shape := ⟨2, ![8192, 1024]⟩
abbrev S1x1024 : Shape := ⟨2, ![1, 1024]⟩
abbrev S2048x1024 : Shape := ⟨2, ![2048, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg8 : FVec F S1x1024 .f32) (main_arg9 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S8192x1024 .f32 := Host.absf main_arg9
  let main_cst_16 : FVec F S_ .f32 := constant S_ .f32 0x7F800000#32
  let main_v37 : FVec F S8192x1024 .f32 := broadcastInDim S8192x1024 ![] bcast_S_S8192x1024 main_cst_16
  let main_v38 : IVec S8192x1024 1 := cmpf .olt main_v36 main_v37
  let main_c_17 : IVec S_ 1 := constantI S_ 1 1#1
  let main_v39 : IVec S_ 1 := (fun x v => Host.reduce IntOp.andi x v reducesTo_S8192x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S8192x1024 .f32) (main_arg5 : FVec F S1x1024 .f32) (main_arg6 : FVec F S2048x1024 .f32) (main_arg7 : FVec F S1x1024 .f32) (main_arg8 : FVec F S1x1024 .f32) (main_arg9 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S2048x1024 .f32 := Host.absf main_arg6
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x2048 .f32) (main_arg1 : FVec F S4x512x512 .f32) (main_arg2 : FVec F S1x2048 .f32) (main_arg3 : FVec F S8192x2048 .f32) (main_arg4 : FVec F S8192x1024 .f32) (main_arg5 : FVec F S1x1024 .f32) (main_arg6 : FVec F S2048x1024 .f32) (main_arg7 : FVec F S1x1024 .f32) (main_arg8 : FVec F S1x1024 .f32) (main_arg9 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S8192x2048 .f32 := Host.absf main_arg3
  let main_cst_4 : FVec F S_ .f32 := constant S_ .f32 0x7F800000#32
  let main_v13 : FVec F S8192x2048 .f32 := broadcastInDim S8192x2048 ![] bcast_S_S8192x2048 main_cst_4
  let main_v14 : IVec S8192x2048 1 := cmpf .olt main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_arg4 main_arg5 main_arg6 main_arg7 main_arg8 main_arg9 main_v3 main_v7 main_v11 main_v15
-- ==== Kernel.lean ====
abbrev S8192x1024 : Shape := ⟨2, ![8192, 1024]⟩
abbrev S8192x2048 : Shape := ⟨2, ![8192, 2048]⟩
abbrev S4x512x512 : Shape := ⟨3, ![4, 512, 512]⟩
abbrev S1x2048 : Shape := ⟨2, ![1, 2048]⟩
abbrev S1x1024 : Shape := ⟨2, ![1, 1024]⟩
abbrev S2048x1024 : Shape := ⟨2, ![2048, 1024]⟩
abbrev S8192x4x512 : Shape := ⟨3, ![8192, 4, 512]⟩
abbrev S4x512x8192 : Shape := ⟨3, ![4, 512, 8192]⟩
abbrev S8x2048 : Shape := ⟨2, ![8, 2048]⟩
abbrev S512x1024 : Shape := ⟨2, ![512, 1024]⟩
abbrev S512x2048 : Shape := ⟨2, ![512, 2048]⟩
abbrev S2 : Shape := ⟨1, ![2]⟩
abbrev S512x512 : Shape := ⟨2, ![512, 512]⟩
abbrev S1x512 : Shape := ⟨2, ![1, 512]⟩
abbrev S512 : Shape := ⟨1, ![512]⟩
abbrev S1x512x512 : Shape := ⟨3, ![1, 512, 512]⟩
abbrev S1 : Shape := ⟨1, ![1]⟩
abbrev S_ : Shape := ⟨0, ![]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S4x512x512, .f32⟩
  | .hbm, ⟨4, _⟩ => ⟨S1x2048, .f32⟩
  | .hbm, ⟨5, _⟩ => ⟨S1x1024, .f32⟩
  | .hbm, ⟨6, _⟩ => ⟨S2048x1024, .f32⟩
  | .hbm, ⟨7, _⟩ => ⟨S4x512x512, .bf16⟩
  | .hbm, ⟨8, _⟩ => ⟨S2048x1024, .bf16⟩
  | .hbm, ⟨9, _⟩ => ⟨S8192x4x512, .f32⟩
  | .hbm, ⟨10, _⟩ => ⟨S4x512x8192, .f32⟩
  | .hbm, ⟨11, _⟩ => ⟨S8192x4x512, .f32⟩
  | .hbm, ⟨12, _⟩ => ⟨S8192x2048, .f32⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8192x2048, .f32⟩
  | .hbm, ⟨17, _⟩ => ⟨S8192x2048, .bf16⟩
  | .hbm, ⟨18, _⟩ => ⟨S2048x1024, .f32⟩
  | .hbm, ⟨19, _⟩ => ⟨S4x512x512, .f32⟩
  | .hbm, ⟨20, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x512x512, .bf16⟩
  | .local _ .vmem, ⟨9, _⟩ => ⟨S1x2048, .f32⟩
  | .local _ .vmem, ⟨10, _⟩ => ⟨S1x1024, .f32⟩
  | .local _ .vmem, ⟨11, _⟩ => ⟨S2048x1024, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S8x2048, .f32⟩
  | .local _ .vmem, ⟨17, _⟩ => ⟨S2048x1024, .f32⟩
  | .local _ .vmem, ⟨18, _⟩ => ⟨S4x512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S8192x2048 : Shape := ⟨2, ![8192, 2048]⟩
abbrev S4x512x512 : Shape := ⟨3, ![4, 512, 512]⟩
abbrev S1x2048 : Shape := ⟨2, ![1, 2048]⟩
abbrev S1x1024 : Shape := ⟨2, ![1, 1024]⟩
abbrev S2048x1024 : Shape := ⟨2, ![2048, 1024]⟩
abbrev S8192x4x512 : Shape := ⟨3, ![8192, 4, 512]⟩
abbrev S4x512x8192 : Shape := ⟨3, ![4, 512, 8192]⟩
abbrev S_ : Shape := ⟨0, ![]⟩
abbrev S1024 : Shape := ⟨1, ![1024]⟩
abbrev S1024x2048 : Shape := ⟨2, ![1024, 2048]⟩
abbrev S2048 : Shape := ⟨1, ![2048]⟩
abbrev S4x8192x512 : Shape := ⟨3, ![4, 8192, 512]⟩
abbrev S8x2048 : Shape := ⟨2, ![8, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S4x512x512, .f32⟩
  | .hbm, ⟨4, _⟩ => ⟨S1x2048, .f32⟩
  | .hbm, ⟨5, _⟩ => ⟨S1x1024, .f32⟩
  | .hbm, ⟨6, _⟩ => ⟨S2048x1024, .f32⟩
  | .hbm, ⟨7, _⟩ => ⟨S8192x4x512, .f32⟩
  | .hbm, ⟨8, _⟩ => ⟨S4x512x8192, .f32⟩
  | .hbm, ⟨9, _⟩ => ⟨S8192x4x512, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1024x2048, .f32⟩
  | .hbm, ⟨37, _⟩ => ⟨S2048x1024, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x4x512, .f32⟩
  | .hbm, ⟨52, _⟩ => ⟨S4x512x8192, .f32⟩
  | .hbm, ⟨53, _⟩ => ⟨S4x8192x512, .f32⟩
  | .hbm, ⟨54, _⟩ => ⟨S8192x4x512, .f32⟩
  | .hbm, ⟨55, _⟩ => ⟨S4x512x512, .f32⟩
  | .hbm, ⟨56, _⟩ => ⟨S4x512x512, .f32⟩
  | .hbm, ⟨57, _⟩ => ⟨S8192x2048, .f32⟩
  | .hbm, ⟨58, _⟩ => ⟨S8192x2048, .bf16⟩
  | .hbm, ⟨59, _⟩ => ⟨S_, .i32⟩
  | .hbm, ⟨60, _⟩ => ⟨S_, .f32⟩
  | .hbm, ⟨61, _⟩ => ⟨S8x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v6_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v6_1 : Ref sig .tc := ⟨.hbm, 24, rfl⟩
abbrev main_v6_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c : Ref sig .tc := ⟨.hbm, 59, rfl⟩
abbrev main_call2_v0 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S1x1024 : Shape := ⟨2, ![1, 1024]⟩
abbrev S1024x4096 : Shape := ⟨2, ![1024, 4096]⟩
abbrev S1024x2048 : Shape := ⟨2, ![1024, 2048]⟩
abbrev S1024x8x512 : Shape := ⟨3, ![1024, 8, 512]⟩
abbrev S8x1024x512 : Shape := ⟨3, ![8, 1024, 512]⟩
abbrev S1024x4x512 : Shape := ⟨3, ![1024, 4, 512]⟩
abbrev S4x1024x512 : Shape := ⟨3, ![4, 1024, 512]⟩
abbrev S8x1024 : Shape := ⟨2, ![8, 1024]⟩
abbrev S512x2048 : Shape := ⟨2, ![512, 2048]⟩
abbrev S512x1024 : Shape := ⟨2, ![512, 1024]⟩
abbrev S_ : Shape := ⟨0, ![]⟩
abbrev S1024x512 : Shape := ⟨2, ![1024, 512]⟩
abbrev S1x1024x512 : Shape := ⟨3, ![1, 1024, 512]⟩
abbrev S512x512 : Shape := ⟨2, ![512, 512]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S1024x2048, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S1024x4x512, .f32⟩
  | .hbm, ⟨12, _⟩ => ⟨S4x1024x512, .f32⟩
  | .hbm, ⟨13, _⟩ => ⟨S8192x2048, .bf16⟩
  | .hbm, ⟨14, _⟩ => ⟨S8192x2048, .bf16⟩
  | .hbm, ⟨15, _⟩ => ⟨S8192x1024, .f32⟩
  | .hbm, ⟨16, _⟩ => ⟨S8x1024x512, .f32⟩
  | .hbm, ⟨17, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S8x1024x512, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x2048 : Shape := ⟨2, ![8192, 2048]⟩
abbrev S8192x1024 : Shape := ⟨2, ![8192, 1024]⟩
abbrev S1x1024 : Shape := ⟨2, ![1, 1024]⟩
abbrev S1024x4096 : Shape := ⟨2, ![1024, 4096]⟩
abbrev S1024x2048 : Shape := ⟨2, ![1024, 2048]⟩
abbrev S_ : Shape := ⟨0, ![]⟩
abbrev S8192x4096 : Shape := ⟨2, ![8192, 4096]⟩
abbrev S4096x1024 : Shape := ⟨2, ![4096, 1024]⟩
abbrev S1024 : Shape := ⟨1, ![1024]⟩
abbrev S1024x8x512 : Shape := ⟨3, ![1024, 8, 512]⟩
abbrev S8x1024x512 : Shape := ⟨3, ![8, 1024, 512]⟩
abbrev S2x1024 : Shape := ⟨2, ![2, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S1024x2048, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S4096x1024, .f32⟩
  | .hbm, ⟨21, _⟩ => ⟨S1024x4096, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .i32⟩
  | .hbm, ⟨37, _⟩ => ⟨S_, .f32⟩
  | .hbm, ⟨38, _⟩ => ⟨S1024x4096, .f32⟩
  | .hbm, ⟨39, _⟩ => ⟨S1024x4096, .f32⟩
  | .hbm, ⟨40, _⟩ => ⟨S1024x8x512, .f32⟩
  | .hbm, ⟨41, _⟩ => ⟨S8x1024x512, .f32⟩
  | .hbm, ⟨42, _⟩ => ⟨S2x1024, .f32⟩
  | .hbm, ⟨43, _⟩ => ⟨S_, .i32⟩
  | .hbm, ⟨44, _⟩ => ⟨S_, .f32⟩
  | .hbm, ⟨45, _⟩ => ⟨S8x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call1_v0 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x1024 : Shape := ⟨2, ![8, 1024]⟩
abbrev S512x2048 : Shape := ⟨2, ![512, 2048]⟩
abbrev S512x1024 : Shape := ⟨2, ![512, 1024]⟩
abbrev S_ : Shape := ⟨0, ![]⟩
abbrev S1024x512 : Shape := ⟨2, ![1024, 512]⟩
abbrev S1x1024x512 : Shape := ⟨3, ![1, 1024, 512]⟩
abbrev S512x512 : Shape := ⟨2, ![512, 512]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S8192x2048, .bf16⟩
  | .hbm, ⟨11, _⟩ => ⟨S8192x2048, .bf16⟩
  | .hbm, ⟨12, _⟩ => ⟨S8192x1024, .f32⟩
  | .hbm, ⟨13, _⟩ => ⟨S8x1024x512, .f32⟩
  | .hbm, ⟨14, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S8x1024x512, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x2048 : Shape := ⟨2, ![8192, 2048]⟩
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩
abbrev S4096x1024 : Shape := ⟨2, ![4096, 1024]⟩
abbrev S1024 : Shape := ⟨1, ![1024]⟩
abbrev S1024x8x512 : Shape := ⟨3, ![1024, 8, 512]⟩
abbrev S8x1024x512 : Shape := ⟨3, ![8, 1024, 512]⟩
abbrev S2x1024 : Shape := ⟨2, ![2, 1024]⟩
abbrev S8x1024 : Shape := ⟨2, ![8, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S4096x1024, .f32⟩
  | .hbm, ⟨20, _⟩ => ⟨S1024x4096, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x8x512, .f32⟩
  | .hbm, ⟨36, _⟩ => ⟨S8x1024x512, .f32⟩
  | .hbm, ⟨37, _⟩ => ⟨S2x1024, .f32⟩
  | .hbm, ⟨38, _⟩ => ⟨S_, .i32⟩
  | .hbm, ⟨39, _⟩ => ⟨S_, .f32⟩
  | .hbm, ⟨40, _⟩ => ⟨S8x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x2048 : Shape := ⟨2, ![8192, 2048]⟩
abbrev S512x1024 : Shape := ⟨2, ![512, 1024]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S8192x2048, .f32⟩
  | .hbm, ⟨8, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S8x1024x512, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S1x1024 : Shape := ⟨2, ![1, 1024]⟩
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 22
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x4096, .f32⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S2048x1024, .bf16⟩
  | .hbm, ⟨15, _⟩ => ⟨S1024x4096, .bf16⟩
  | .hbm, ⟨16, _⟩ => ⟨S1024x8x512, .bf16⟩
  | .hbm, ⟨17, _⟩ => ⟨S8x1024x512, .bf16⟩
  | .hbm, ⟨18, _⟩ => ⟨S8192x1024, .f32⟩
  | .hbm, ⟨19, _⟩ => ⟨S8192x1024, .bf16⟩
  | .hbm, ⟨20, _⟩ => ⟨S8192x2048, .bf16⟩
  | .hbm, ⟨21, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x1024x512, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S8192x2048 : Shape := ⟨2, ![8192, 2048]⟩
abbrev S8192x1024 : Shape := ⟨2, ![8192, 1024]⟩
abbrev S1x1024 : Shape := ⟨2, ![1, 1024]⟩
abbrev S2048x1024 : Shape := ⟨2, ![2048, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x4096, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x4096, .f32⟩
  | .hbm, ⟨67, _⟩ => ⟨S8192x2048, .f32⟩
  | .hbm, ⟨68, _⟩ => ⟨S8192x2048, .f32⟩
  | .hbm, ⟨69, _⟩ => ⟨S8192x1024, .bf16⟩
  | .hbm, ⟨70, _⟩ => ⟨S8192x2048, .bf16⟩
  | .hbm, ⟨71, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S8192x2048 : Shape := ⟨2, ![8192, 2048]⟩
abbrev S2048x1024 : Shape := ⟨2, ![2048, 1024]⟩
abbrev S_ : Shape := ⟨0, ![]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 31
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x1024, .f32⟩
  | .hbm, ⟨8, _⟩ => ⟨S2048x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .bf16⟩
  | .hbm, ⟨22, _⟩ => ⟨S8192x2048, .bf16⟩
  | .hbm, ⟨23, _⟩ => ⟨S8192x2048, .bf16⟩
  | .hbm, ⟨24, _⟩ => ⟨S8192x2048, .bf16⟩
  | .hbm, ⟨25, _⟩ => ⟨S2048x1024, .bf16⟩
  | .hbm, ⟨26, _⟩ => ⟨S8192x1024, .f32⟩
  | .hbm, ⟨27, _⟩ => ⟨S8192x2048, .bf16⟩
  | .hbm, ⟨28, _⟩ => ⟨S8192x2048, .bf16⟩
  | .hbm, ⟨29, _⟩ => ⟨S2048x1024, .f32⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S1x1024, .f32⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S8x1024, .f32⟩
  | .local _ .vmem, ⟨22, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S8192x1024 : Shape := ⟨2, ![8192, 1024]⟩
abbrev S1x1024 : Shape := ⟨2, ![1, 1024]⟩
abbrev S8192x2048 : Shape := ⟨2, ![8192, 2048]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x2048 : Shape := ⟨2, ![1024, 2048]⟩
abbrev S3x1024 : Shape := ⟨2, ![3, 1024]⟩
abbrev S8x1024 : Shape := ⟨2, ![8, 1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S8192x2048, .f32⟩
  | 5 => ⟨S8192x2048, .f32⟩
  | 6 => ⟨S8192x2048, .f32⟩
  | 7 => ⟨S1x1024, .f32⟩
  | 8 => ⟨S2048x1024, .f32⟩
  | 9 => ⟨S_, .f32⟩
  | 10 => ⟨S8192x1024, .f32⟩
  | 11 => ⟨S8192x1024, .f32⟩
  | 12 => ⟨S8192x2048, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S8192x2048, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S8192x1024, .f32⟩
  | 76 => ⟨S8192x1024, .f32⟩
  | 77 => ⟨S8192x1, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S1024x2048, .f32⟩
  | 109 => ⟨S2048x1024, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S_, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S_, .f32⟩
  | 122 => ⟨S8192x2048, .f32⟩
  | 123 => ⟨S8192x2048, .f32⟩
  | 124 => ⟨S8192x2048, .f32⟩
  | 125 => ⟨S8192x2048, .f32⟩
  | 126 => ⟨S_, .f32⟩
  | 127 => ⟨S8192x2048, .f32⟩
  | _ => ⟨S8192x1024, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | 5 => ⟨S3x1024, .f32⟩
  | 6 => ⟨S_, .i32⟩
  | 7 => ⟨S_, .f32⟩
  | 8 => ⟨S8x1024, .f32⟩
  | 9 => ⟨S8192x2048, .bf16⟩
  | 10 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_v78_2 : Ref sig .tc := ⟨.hbm, 120, rfl⟩
abbrev main_call1_cst_1 : Ref sig .tc := ⟨.hbm, 121, rfl⟩
abbrev main_call1_v6 : Ref sig .tc := ⟨.hbm, 122, rfl⟩
abbrev main_call1_v7 : Ref sig .tc := ⟨.hbm, 123, rfl⟩
abbrev main_v78_1 : Ref sig .tc := ⟨.hbm, 124, rfl⟩
abbrev main_v78_0 : Ref sig .tc := ⟨.hbm, 125, rfl⟩
abbrev main_cst_17 : Ref sig .tc := ⟨.hbm, 126, rfl⟩
abbrev main_v79 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_c : Ref sig .tc := ⟨.hbm, 134, rfl⟩
abbrev main_call3_v0 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩

abbrev nD : Nat := 1
abbrev τ : Topo := Topo.v7x

variable {F : FTy → Type} [FloatOps F]
-- ==== Kernel7.lean ====
abbrev S8192x2048 : Shape := ⟨2, ![8192, 2048]⟩
abbrev S4x512x512 : Shape := ⟨3, ![4, 512, 512]⟩
abbrev S1x2048 : Shape := ⟨2, ![1, 2048]⟩
abbrev S8192x1024 : Shape := ⟨2, ![8192, 1024]⟩
abbrev S1x1024 : Shape := ⟨2, ![1, 1024]⟩
abbrev S2048x1024 : Shape := ⟨2, ![2048, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S8192x1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S4x512x512, .bf16⟩
  | .hbm, ⟨11, _⟩ => ⟨S2048x1024, .bf16⟩
  | .hbm, ⟨12, _⟩ => ⟨S8192x2048, .bf16⟩
  | .hbm, ⟨13, _⟩ => ⟨S8192x2048, .bf16⟩
  | .hbm, ⟨14, _⟩ => ⟨S8192x1024, .f32⟩
  | .hbm, ⟨15, _⟩ => ⟨S8x1024, .f32⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x512, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S512x2048, .bf16⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S8192x2048 : Shape := ⟨2, ![8192, 2048]⟩
abbrev S4x512x512 : Shape := ⟨3, ![4, 512, 512]⟩
abbrev S1x2048 : Shape := ⟨2, ![1, 2048]⟩
abbrev S8192x1024 : Shape := ⟨2, ![8192, 1024]⟩
abbrev S1x1024 : Shape := ⟨2, ![1, 1024]⟩
abbrev S2048x1024 : Shape := ⟨2, ![2048, 1024]⟩
abbrev S8192x4x512 : Shape := ⟨3, ![8192, 4, 512]⟩
abbrev S4x512x8192 : Shape := ⟨3, ![4, 512, 8192]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 146
  | .vmem => 0
  | .smem => 0
  | _ => 0

abbrev hbmTy0_0 (i : Nat) : BufTy := match i % 128 with
  | 0 => ⟨S8192x2048, .f32⟩
  | 1 => ⟨S4x512x512, .f32⟩
  | 2 => ⟨S1x2048, .f32⟩
  | 3 => ⟨S8192x2048, .f32⟩
  | 4 => ⟨S8192x1024, .f32⟩
  | 5 => ⟨S1x1024, .f32⟩
  | 6 => ⟨S2048x1024, .f32⟩
  | 7 => ⟨S1x1024, .f32⟩
  | 8 => ⟨S1x1024, .f32⟩
  | 9 => ⟨S8192x1024, .f32⟩
  | 10 => ⟨S8192x4x512, .f32⟩
  | 11 => ⟨S4x512x8192, .f32⟩
  | 12 => ⟨S8192x4x512, .f32⟩
  | 13 => ⟨S8192x2048, .f32⟩
  | 14 => ⟨S8192x2048, .f32⟩
  | 15 => ⟨S8192x2048, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S8192x2048, .f32⟩
  | 25 => ⟨S8192x2048, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S_, .f32⟩
  | 89 => ⟨S_, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1024, .f32⟩
  | 112 => ⟨S8192x1, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x2048, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S4x1024, .f32⟩
  | 14 => ⟨S_, .i32⟩
  | 15 => ⟨S_, .f32⟩
  | 16 => ⟨S8x1024, .f32⟩
  | 17 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_17 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_18 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_19 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_20 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_v78 : Ref sig .tc := ⟨.hbm, 119, rfl⟩
abbrev main_cst_22 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_23 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_24 : Ref sig .tc := ⟨.hbm, 130, rfl⟩
abbrev main_v87 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_26 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c : Ref sig .tc := ⟨.hbm, 142, rfl⟩
abbrev main_call1_v0 : Ref sig .tc := ⟨.hbm, 143, rfl⟩
abbrev main_v96 : Ref sig .tc := ⟨.hbm, 144, rfl⟩
abbrev main_v97 : Ref sig .tc := ⟨.hbm, 145, rfl⟩

abbrev nD : Nat := 1
abbrev τ : Topo := Topo.v7x

variable {F : FTy → Type} [FloatOps F]
-- ==== Kernel8.lean ====
abbrev S1x2x16x128x128 : Shape := ⟨5, ![1, 2, 16, 128, 128]⟩
abbrev S4096x128 : Shape := ⟨2, ![4096, 128]⟩
abbrev S2048x128 : Shape := ⟨2, ![2048, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S1x2x16x128x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S1x2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S1x2x16x128x128 : Shape := ⟨5, ![1, 2, 16, 128, 128]⟩
abbrev S_ : Shape := ⟨0, ![]⟩
abbrev S4096x128 : Shape := ⟨2, ![4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S1x2x16x128x128, .f32⟩
  | .hbm, ⟨4, _⟩ => ⟨S_, .f32⟩
  | .hbm, ⟨5, _⟩ => ⟨S1x2x16x128x128, .f32⟩
  | .hbm, ⟨6, _⟩ => ⟨S1x2x16x128x128, .f32⟩
  | .hbm, ⟨7, _⟩ => ⟨S_, .f32⟩
  | .hbm, ⟨8, _⟩ => ⟨S1x2x16x128x128, .f32⟩
  | .hbm, ⟨9, _⟩ => ⟨S1x2x16x128x128, .f32⟩
  | .hbm, ⟨10, _⟩ => ⟨S1x2x16x128x128, .f32⟩
  | .hbm, ⟨11, _⟩ => ⟨S_, .f32⟩
  | .hbm, ⟨12, _⟩ => ⟨S1x2x16x128x128, .f32⟩
  | .hbm, ⟨13, _⟩ => ⟨S1x2x16x128x128, .f32⟩
  | .hbm, ⟨14, _⟩ => ⟨S1x2x16x128x128, .f32⟩
  | .hbm, ⟨15, _⟩ => ⟨S_, .f32⟩
  | .hbm, ⟨16, _⟩ => ⟨S1x2x16x128x128, .f32⟩
  | .hbm, ⟨17, _⟩ => ⟨S1x2x16x128x128, .f32⟩
  | .hbm, ⟨18, _⟩ => ⟨S1x2x16x128x128, .f32⟩
  | .hbm, ⟨19, _⟩ => ⟨S_, .f32⟩
  | .hbm, ⟨20, _⟩ => ⟨S1x2x16x128x128, .f32⟩
  | .hbm, ⟨21, _⟩ => ⟨S1x2x16x128x128, .f32⟩
  | .hbm, ⟨22, _⟩ => ⟨S_, .f32⟩
  | .hbm, ⟨23, _⟩ => ⟨S1x2x16x128x128, .f32⟩
  | .hbm, ⟨24, _⟩ => ⟨S1x2x16x128x128, .f32⟩
  | .hbm, ⟨25, _⟩ => ⟨S1x2x16x128x128, .f32⟩
  | .hbm, ⟨26, _⟩ => ⟨S_, .f32⟩
  | .hbm, ⟨27, _⟩ => ⟨S1x2x16x128x128, .f32⟩
  | .hbm, ⟨28, _⟩ => ⟨S1x2x16x128x128, .f32⟩
  | .hbm, ⟨29, _⟩ => ⟨S1x2x16x128x128, .f32⟩
  | .hbm, ⟨30, _⟩ => ⟨S_, .f32⟩
  | .hbm, ⟨31, _⟩ => ⟨S1x2x16x128x128, .f32⟩
  | .hbm, ⟨32, _⟩ => ⟨S1x2x16x128x128, .f32⟩
  | .hbm, ⟨33, _⟩ => ⟨S1x2x16x128x128, .f32⟩
  | .hbm, ⟨34, _⟩ => ⟨S_, .f32⟩
  | .hbm, ⟨35, _⟩ => ⟨S1x2x16x128x128, .f32⟩
  | .hbm, ⟨36, _⟩ => ⟨S1x2x16x128x128, .f32⟩
  | .hbm, ⟨37, _⟩ => ⟨S4096x128, .f32⟩
  | .hbm, ⟨38, _⟩ => ⟨S4096x128, .f32⟩
  | .hbm, ⟨39, _⟩ => ⟨S4096x128, .f32⟩
  | _, _ => ⟨S1x2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S2x1024x384 : Shape := ⟨3, ![2, 1024, 384]⟩
abbrev S2048x384 : Shape := ⟨2, ![2048, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S8x1024 : Shape := ⟨2, ![8, 1024]⟩
abbrev S1024 : Shape := ⟨1, ![1024]⟩
abbrev S2x1024x384 : Shape := ⟨3, ![2, 1024, 384]⟩
abbrev S2x8x3072 : Shape := ⟨3, ![2, 8, 3072]⟩
abbrev S8x3072 : Shape := ⟨2, ![8, 3072]⟩
abbrev S2x8x384 : Shape := ⟨3, ![2, 8, 384]⟩
abbrev S8x384 : Shape := ⟨2, ![8, 384]⟩
abbrev S1x1024 : Shape := ⟨2, ![1, 1024]⟩
abbrev S16x1024 : Shape := ⟨2, ![16, 1024]⟩
abbrev S_ : Shape := ⟨0, ![]⟩
abbrev S1x8x3072 : Shape := ⟨3, ![1, 8, 3072]⟩
abbrev S2x16x3072 : Shape := ⟨3, ![2, 16, 3072]⟩
abbrev S1x8x384 : Shape := ⟨3, ![1, 8, 384]⟩
abbrev S2x16x384 : Shape := ⟨3, ![2, 16, 384]⟩
abbrev S2x1x3072 : Shape := ⟨3, ![2, 1, 3072]⟩
abbrev S1x16x384 : Shape := ⟨3, ![1, 16, 384]⟩
abbrev S16x384 : Shape := ⟨2, ![16, 384]⟩
abbrev S1024x384 : Shape := ⟨2, ![1024, 384]⟩
abbrev S1x1024x384 : Shape := ⟨3, ![1, 1024, 384]⟩
abbrev S1x16x3072 : Shape := ⟨3, ![1, 16, 3072]⟩
abbrev S16x3072 : Shape := ⟨2, ![16, 3072]⟩
abbrev S3072 : Shape := ⟨1, ![3072]⟩
abbrev S1x3072 : Shape := ⟨2, ![1, 3072]⟩
abbrev S1x1x3072 : Shape := ⟨3, ![1, 1, 3072]⟩

abbrev nBuf : Space → Nat
  | .hbm => 25
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S2x8x3072, .f32⟩
  | .hbm, ⟨4, _⟩ => ⟨S8x3072, .f32⟩
  | .hbm, ⟨5, _⟩ => ⟨S2x8x384, .f32⟩
  | .hbm, ⟨6, _⟩ => ⟨S8x384, .f32⟩
  | .hbm, ⟨7, _⟩ => ⟨S1x1024, .f32⟩
  | .hbm, ⟨8, _⟩ => ⟨S8x1024, .f32⟩
  | .hbm, ⟨9, _⟩ => ⟨S16x1024, .f32⟩
  | .hbm, ⟨10, _⟩ => ⟨S_, .f32⟩
  | .hbm, ⟨11, _⟩ => ⟨S8x3072, .f32⟩
  | .hbm, ⟨12, _⟩ => ⟨S1x8x3072, .f32⟩
  | .hbm, ⟨13, _⟩ => ⟨S1x8x3072, .f32⟩
  | .hbm, ⟨14, _⟩ => ⟨S2x8x3072, .f32⟩
  | .hbm, ⟨15, _⟩ => ⟨S2x16x3072, .f32⟩
  | .hbm, ⟨16, _⟩ => ⟨S_, .f32⟩
  | .hbm, ⟨17, _⟩ => ⟨S8x384, .f32⟩
  | .hbm, ⟨18, _⟩ => ⟨S1x8x384, .f32⟩
  | .hbm, ⟨19, _⟩ => ⟨S1x8x384, .f32⟩
  | .hbm, ⟨20, _⟩ => ⟨S2x8x384, .f32⟩
  | .hbm, ⟨21, _⟩ => ⟨S2x16x384, .f32⟩
  | .hbm, ⟨22, _⟩ => ⟨S2x1024x384, .f32⟩
  | .hbm, ⟨23, _⟩ => ⟨S2x1x3072, .f32⟩
  | .hbm, ⟨24, _⟩ => ⟨S1x1024, .f32⟩
  | .local _ .vmem, ⟨0, _⟩ => ⟨S16x1024, .f32⟩
  | .local _ .vmem, ⟨1, _⟩ => ⟨S2x16x3072, .f32⟩
  | .local _ .vmem, ⟨2, _⟩ => ⟨S2x16x384, .f32⟩
  | .local _ .vmem, ⟨3, _⟩ => ⟨S2x1024x384, .f32⟩
  | .local _ .vmem, ⟨4, _⟩ => ⟨S2x1024x384, .f32⟩
  | .local _ .vmem, ⟨5, _⟩ => ⟨S2x1x3072, .f32⟩
  | .local _ .vmem, ⟨6, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference10Ideal.lean ====
abbrev S8x1024 : Shape := ⟨2, ![8, 1024]⟩
abbrev S1024 : Shape := ⟨1, ![1024]⟩
abbrev S2x1024x384 : Shape := ⟨3, ![2, 1024, 384]⟩
abbrev S2x8x3072 : Shape := ⟨3, ![2, 8, 3072]⟩
abbrev S8x3072 : Shape := ⟨2, ![8, 3072]⟩
abbrev S2x8x384 : Shape := ⟨3, ![2, 8, 384]⟩
abbrev S8x384 : Shape := ⟨2, ![8, 384]⟩
abbrev S1x1024x384 : Shape := ⟨3, ![1, 1024, 384]⟩
abbrev S1024x384 : Shape := ⟨2, ![1024, 384]⟩
abbrev S_ : Shape := ⟨0, ![]⟩
abbrev S1x8x384 : Shape := ⟨3, ![1, 8, 384]⟩
abbrev S384x1024 : Shape := ⟨2, ![384, 1024]⟩
abbrev S3072 : Shape := ⟨1, ![3072]⟩
abbrev S1x8x3072 : Shape := ⟨3, ![1, 8, 3072]⟩
abbrev S1x3072 : Shape := ⟨2, ![1, 3072]⟩
abbrev S2x3072 : Shape := ⟨2, ![2, 3072]⟩
abbrev S2x1x3072 : Shape := ⟨3, ![2, 1, 3072]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S2x8x3072, .f32⟩
  | .hbm, ⟨4, _⟩ => ⟨S8x3072, .f32⟩
  | .hbm, ⟨5, _⟩ => ⟨S2x8x384, .f32⟩
  | .hbm, ⟨6, _⟩ => ⟨S8x384, .f32⟩
  | .hbm, ⟨7, _⟩ => ⟨S1x1024x384, .f32⟩
  | .hbm, ⟨8, _⟩ => ⟨S1024x384, .f32⟩
  | .hbm, ⟨9, _⟩ => ⟨S1x1024x384, .f32⟩
  | .hbm, ⟨10, _⟩ => ⟨S1024x384, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x384, .f32⟩
  | .hbm, ⟨21, _⟩ => ⟨S8x384, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S8x384, .f32⟩
  | .hbm, ⟨37, _⟩ => ⟨S1x8x384, .f32⟩
  | .hbm, ⟨38, _⟩ => ⟨S8x384, .f32⟩
  | .hbm, ⟨39, _⟩ => ⟨S1x8x384, .f32⟩
  | .hbm, ⟨40, _⟩ => ⟨S8x384, .f32⟩
  | .hbm, ⟨41, _⟩ => ⟨S384x1024, .f32⟩
  | .hbm, ⟨42, _⟩ => ⟨S1024x384, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S1024, .f32⟩
  | .hbm, ⟨50, _⟩ => ⟨S384x1024, .f32⟩
  | .hbm, ⟨51, _⟩ => ⟨S1024x384, .f32⟩
  | .hbm, ⟨52, _⟩ => ⟨S384x1024, .f32⟩
  | .hbm, ⟨53, _⟩ => ⟨S1024x384, .f32⟩
  | .hbm, ⟨54, _⟩ => ⟨S1024x384, .f32⟩
  | .hbm, ⟨55, _⟩ => ⟨S_, .f32⟩
  | .hbm, ⟨56, _⟩ => ⟨S3072, .f32⟩
  | .hbm, ⟨57, _⟩ => ⟨S_, .f32⟩
  | .hbm, ⟨58, _⟩ => ⟨S3072, .f32⟩
  | .hbm, ⟨59, _⟩ => ⟨S8x3072, .f32⟩
  | .hbm, ⟨60, _⟩ => ⟨S8x3072, .f32⟩
  | .hbm, ⟨61, _⟩ => ⟨S8x3072, .f32⟩
  | .hbm, ⟨62, _⟩ => ⟨S1x8x3072, .f32⟩
  | .hbm, ⟨63, _⟩ => ⟨S8x3072, .f32⟩
  | .hbm, ⟨64, _⟩ => ⟨S1x8x3072, .f32⟩
  | .hbm, ⟨65, _⟩ => ⟨S8x3072, .f32⟩
  | .hbm, ⟨66, _⟩ => ⟨S_, .f32⟩
  | .hbm, ⟨67, _⟩ => ⟨S3072, .f32⟩
  | .hbm, ⟨68, _⟩ => ⟨S_, .f32⟩
  | .hbm, ⟨69, _⟩ => ⟨S3072, .f32⟩
  | .hbm, ⟨70, _⟩ => ⟨S_, .f32⟩
  | .hbm, ⟨71, _⟩ => ⟨S3072, .f32⟩
  | .hbm, ⟨72, _⟩ => ⟨S3072, .f32⟩
  | .hbm, ⟨73, _⟩ => ⟨S1x1024x384, .f32⟩
  | .hbm, ⟨74, _⟩ => ⟨S1x1024x384, .f32⟩
  | .hbm, ⟨75, _⟩ => ⟨S2x1024x384, .f32⟩
  | .hbm, ⟨76, _⟩ => ⟨S1x3072, .f32⟩
  | .hbm, ⟨77, _⟩ => ⟨S1x3072, .f32⟩
  | .hbm, ⟨78, _⟩ => ⟨S2x3072, .f32⟩
  | .hbm, ⟨79, _⟩ => ⟨S2x1x3072, .f32⟩
  | .hbm, ⟨80, _⟩ => ⟨S1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_v8_2 : Ref sig .tc := ⟨.hbm, 30, rfl⟩
abbrev main_call1_cst_1 : Ref sig .tc := ⟨.hbm, 31, rfl⟩
abbrev main_call1_v6 : Ref sig .tc := ⟨.hbm, 32, rfl⟩
abbrev main_call1_v7 : Ref sig .tc := ⟨.hbm, 33, rfl⟩
abbrev main_v8_1 : Ref sig .tc := ⟨.hbm, 34, rfl⟩
abbrev main_v8_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_0 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_2 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]
-- ==== Proof.Gate.lean ====
/- The gate's arithmetic on the extended reals: the sigmoid written with a hyperbolic tangent is the sigmoid written with an
   exponential, and the two ways of writing the gradient of `x * sigmoid x` agree where everything is finite. -/
module

public import Idealize.ShloMosaic.Lib.Pointwise
public import Idealize.ShloMosaic.Lib.IdealHost

@[expose] public section

noncomputable section

namespace Cert.Gate

open Idealize.ShloMosaic

/-- One half, as the kernel's constant spells it. -/
def hf : EReal := Ideal.ofBits .f32 1056964608#32

theorem hf_eq : hf = ((1 / 2 : ℝ) : EReal) := by
  simp [hf, Ideal.ofBits, Ideal.ieee]
  rw [← EReal.coe_mul]
  norm_num

/-- The sigmoid as the kernel computes it. -/
def sgT (x : EReal) : EReal := hf * Ideal.tanh (hf * x) + hf

/-- On the reals, `½ tanh (x / 2) + ½ = 1 / (1 + e⁻ˣ)`. -/
theorem real_half_tanh (x : ℝ) : 1 / 2 * Real.tanh (1 / 2 * x) + 1 / 2 = (1 + Real.exp (-x))⁻¹ := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by rw [← Real.exp_add]; simp
  have ha := Real.exp_pos (1 / 2 * x)
  have hb := Real.exp_pos (-(1 / 2 * x))
  rw [Real.tanh_eq_sinh_div_cosh, Real.sinh_eq, Real.cosh_eq, h1]
  generalize Real.exp (1 / 2 * x) = a at *
  generalize Real.exp (-(1 / 2 * x)) = b at *
  have hab : a + b ≠ 0 := by positivity
  have hbb : 1 + b * b ≠ 0 := by positivity
  field_simp
  linear_combination (2 * b) * h2

/-- The kernel's sigmoid is the host's, at every extended real. -/
theorem sgT_eq (x : EReal) : sgT x = Ideal.logistic x := by
  unfold sgT
  rw [hf_eq]
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_half_tanh]

/-- The sigmoid of a real number is a real number. -/
theorem logistic_real (r : ℝ) : ∃ s : ℝ, Ideal.logistic (r : EReal) = s := ⟨_, Ideal.logistic_coe r⟩

end Cert.Gate

end
-- ==== Proof.Model.lean ====
/- What the gradient of `dz ↦ gate · ((group product of d · scale · silu g) · w_out)` is, entry by entry, on the extended reals.
   `R` is a row (a token), `j` a column of the 2048 channels, `b` one of the 1024 outputs; `PO` is the group product the forward
   pass saved. Both programs are read to these formulas. -/
module

public import proofs.«01_k».proof.Proof.Gate

@[expose] public section

noncomputable section

namespace Cert.Model

open Idealize.ShloMosaic

/-- The arrays of the call, by their shapes. -/
abbrev Tok : Shape := ⟨2, ![8192, 1024]⟩
abbrev Chan : Shape := ⟨2, ![8192, 2048]⟩
abbrev Grp : Shape := ⟨3, ![4, 512, 512]⟩
abbrev Row : Shape := ⟨2, ![1, 2048]⟩
abbrev GateRow : Shape := ⟨2, ![1, 1024]⟩
abbrev Out : Shape := ⟨2, ![2048, 1024]⟩

/-- The gradient at the output projection's input: `(gate · dz) w_outᵀ`. -/
def dp (DZ : Tok.Idx → EReal) (GT : GateRow.Idx → EReal) (WO : Out.Idx → EReal) (R : Fin 8192) (j : Fin 2048) : EReal :=
  ∑ b : Fin 1024, GT (ix2 0 b) * DZ (ix2 R b) * WO (ix2 j b)

/-- The gradient at the scaled group product: `dp · silu g`. -/
def dy (DZ : Tok.Idx → EReal) (G : Chan.Idx → EReal) (GT : GateRow.Idx → EReal) (WO : Out.Idx → EReal) (R : Fin 8192)
    (j : Fin 2048) : EReal :=
  dp DZ GT WO R j * (G (ix2 R j) * Gate.sgT (G (ix2 R j)))

/-- The gradient with respect to the group product's input. -/
def dd (DZ : Tok.Idx → EReal) (G : Chan.Idx → EReal) (W : Grp.Idx → EReal) (SC : Row.Idx → EReal) (GT : GateRow.Idx → EReal)
    (WO : Out.Idx → EReal) (R : Fin 8192) (j : Fin 2048) : EReal :=
  ∑ x : Fin 512, dy DZ G GT WO R ⟨512 * (j / 512) + x, by omega⟩ * SC (ix2 0 ⟨512 * (j / 512) + x, by omega⟩)
    * W (ix3 ⟨j / 512, by omega⟩ ⟨j % 512, by omega⟩ x)

/-- The gradient with respect to the gate's input, as the kernel associates it. -/
def dg (DZ : Tok.Idx → EReal) (PO G : Chan.Idx → EReal) (SC : Row.Idx → EReal) (GT : GateRow.Idx → EReal) (WO : Out.Idx → EReal)
    (R : Fin 8192) (j : Fin 2048) : EReal :=
  dp DZ GT WO R j * (PO (ix2 R j) * SC (ix2 0 j))
    * (Gate.sgT (G (ix2 R j)) * (1 + G (ix2 R j) * (1 - Gate.sgT (G (ix2 R j)))))

/-- Row `R`'s part of the gradient with respect to the output projection. -/
def gwoAt (DZ : Tok.Idx → EReal) (PO G : Chan.Idx → EReal) (SC : Row.Idx → EReal) (GT : GateRow.Idx → EReal) (R : Fin 8192)
    (j : Fin 2048) (b : Fin 1024) : EReal :=
  PO (ix2 R j) * SC (ix2 0 j) * (G (ix2 R j) * Gate.sgT (G (ix2 R j))) * (GT (ix2 0 b) * DZ (ix2 R b))

/-- Row `R`'s part of the gradient with respect to the group weights. -/
def gpwAt (DZ : Tok.Idx → EReal) (D G : Chan.Idx → EReal) (SC : Row.Idx → EReal) (GT : GateRow.Idx → EReal) (WO : Out.Idx → EReal)
    (R : Fin 8192) (k : Fin 4) (g h : Fin 512) : EReal :=
  D (ix2 R ⟨512 * k + g, by omega⟩)
    * (dy DZ G GT WO R ⟨512 * k + h, by omega⟩ * SC (ix2 0 ⟨512 * k + h, by omega⟩))

/-- Row `R`'s part of the gradient with respect to the scale. -/
def gpsAt (DZ : Tok.Idx → EReal) (PO G : Chan.Idx → EReal) (GT : GateRow.Idx → EReal) (WO : Out.Idx → EReal) (R : Fin 8192)
    (j : Fin 2048) : EReal :=
  dy DZ G GT WO R j * PO (ix2 R j)

end Cert.Model

end
-- ==== Proof.Rows.lean ====
/- What the calls share: 512 rows at each of sixteen grid points, sums over all rows, and which of several writes an entry shows. -/
module
public import Idealize.ShloMosaic.Lib.Pointwise
public import Idealize.ShloMosaic.Lib.Pipeline.ValueKit
public import Idealize.ShloMosaic.Lib.Pipeline.ReadBack
@[expose] public section
noncomputable section
open Idealize.ShloMosaic
namespace Cert.Rows

/-- Row `r` of grid point `t`'s 512 rows, as a row of the whole arrays. -/
def row {N : Nat} (hN : N = 16) (t : Fin N) (r : Fin 512) : Fin 8192 := ⟨t.val * 512 + r, by have := t.isLt; omega⟩

/-- An accumulator that starts from `init` at the first point and gains every point's 512 rows holds, after the last point,
    `init` and the sum over all rows. -/
theorem acc_total {ι : Type} {N : Nat} (hN : N = 16) (f : (n : Nat) → n < N → ι → EReal) (init : ι → EReal)
    (part : Fin 8192 → ι → EReal)
    (h0 : ∀ t : Fin N, t.val % 16 = 0 → ∀ i, f t.val t.isLt i = init i + ∑ r : Fin 512, part (row hN t r) i)
    (hs : ∀ t : Fin N, ¬t.val % 16 = 0 → ∀ i,
      f t.val t.isLt i = f (t.val - 1) (Nat.lt_of_le_of_lt (Nat.sub_le _ _) t.isLt) i + ∑ r : Fin 512, part (row hN t r) i)
    (t : Fin N) (ht : t.val % 16 = 16 - 1) (i : ι) : f t.val t.isLt i = init i + ∑ R : Fin 8192, part R i := by
  rw [Pipeline.eq_sum_fin_of_reset_step_apply_of_flush f 16 init (fun t i => ∑ r : Fin 512, part (row hN t r) i)
    h0 hs t ht i]
  refine congrArg (init i + ·) (Fin.sum_mul_add_congr fun s k hl => ?_)
  have := t.isLt
  refine congrArg (part · i) (Fin.ext ?_)
  show (16 * (t.val / 16) + s.val) * 512 + k.val = s.val * 512 + k.val
  omega

/-- An older write under pieces that already hold an index does not show there. -/
theorem canon_drop {s : Shape} {e : EltTy} (L' : List (View.Piece (Elt Ideal) s e)) :
    ∀ (L : List (View.Piece (Elt Ideal) s e)) (y : s.Idx), (∃ q ∈ L, y ∈ q.1.set) → View.canon (L ++ L') y = View.canon L y
  | [], _, h => by obtain ⟨q, hq, _⟩ := h; simp at hq
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_drop L' L y ?_
      obtain ⟨q, hq, hy⟩ := h
      rcases List.mem_cons.mp hq with rfl | hq
      · exact absurd hy hm
      · exact ⟨q, hq, hy⟩

/-- A load of a rectangle that lies in the last write's rectangle reads that write's payload there. -/
theorem readCov_inner {sig : RefSig} {κ : Kind} {sp : Space} {s : Shape} {e : EltTy} (v : View sig κ sp s e)
    {o o' n n' : Fin s.rank → Nat} (inb : ∀ a, o a + n a ≤ s.size a) (inb' : ∀ a, o' a + n' a ≤ s.size a)
    (w : (⟨s.rank, n⟩ : Shape).Idx → Elt Ideal e) (L : List (View.Piece (Elt Ideal) s e))
    (h : ∀ a, o a ≤ o' a ∧ o' a + n' a ≤ o a + n a) :
    v.readCov ((⟨Rect.unit o n inb, w⟩ : View.Piece (Elt Ideal) s e) :: L) (Rect.unit o' n' inb').toLoadRect
      = fun j : (⟨s.rank, n'⟩ : Shape).Idx => w fun a => ⟨o' a - o a + (j a).val, by
          have := h a; have : (j a).val < n' a := (j a).isLt; show _ < n a; omega⟩ := by
  rw [View.readCov_eq_canon']
  funext j
  refine Eq.trans (congrArg (View.canon _) ?_) (View.canon_cons_emb (Rect.unit o n inb) w L _)
  funext a
  refine Fin.ext ?_
  have := h a
  show o' a + 1 * (j a).val = o a + 1 * (o' a - o a + (j a).val)
  omega

/-- Four rectangles of which one holds an index. -/
theorem cover4 {s : Shape} {e : EltTy} {p q r u : View.Piece (Elt Ideal) s e} {y : s.Idx}
    (h : y ∈ p.1.set ∨ y ∈ q.1.set ∨ y ∈ r.1.set ∨ y ∈ u.1.set) : ∃ x ∈ [p, q, r, u], y ∈ x.1.set := by
  rcases h with h | h | h | h
  · exact ⟨_, by simp, h⟩
  · exact ⟨_, by simp, h⟩
  · exact ⟨_, by simp, h⟩
  · exact ⟨_, by simp, h⟩

end Cert.Rows

end
-- ==== Proof.Blocks.lean ====
/- The grid's blocks and the arrays the kernel takes, by short names. -/
module
public import proofs.«01_k».proof.Proof.Gen.KernelIdeal.Value
public import Idealize.ShloMosaic.Lib.Pointwise
public import Idealize.ShloMosaic.Lib.Pipeline.ValueKit
public import Idealize.ShloMosaic.Lib.Pipeline.ReadBack
public import proofs.«01_k».proof.Proof.Model
public import proofs.«01_k».proof.Proof.Rows
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- Where each window's block lies at a grid point: 512 rows of the token arrays, the whole of the others. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![t.val, 0] ∧ win0_9.index t = ![t.val, 0] ∧ win0_10.index t = ![0, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The argument arrays of the call, and the group product the host computes for it. -/
abbrev aDZ (c : Dev nD) : Model.Tok.Idx → EReal := m ((c : Thread nD τ).loc main_arg0)
abbrev aD (c : Dev nD) : Model.Chan.Idx → EReal := m ((c : Thread nD τ).loc main_arg1)
abbrev aPO (c : Dev nD) : Model.Chan.Idx → EReal := V m c main_v6
abbrev aG (c : Dev nD) : Model.Chan.Idx → EReal := m ((c : Thread nD τ).loc main_arg2)
abbrev aW (c : Dev nD) : Model.Grp.Idx → EReal := m ((c : Thread nD τ).loc main_arg3)
abbrev aSC (c : Dev nD) : Model.Row.Idx → EReal := m ((c : Thread nD τ).loc main_arg4)
abbrev aGT (c : Dev nD) : Model.GateRow.Idx → EReal := m ((c : Thread nD τ).loc main_arg5)
abbrev aWO (c : Dev nD) : Model.Out.Idx → EReal := m ((c : Thread nD τ).loc main_arg6)

/-- An accumulator that starts afresh at the first point and gains every point's 512 rows holds, after the last point, the sum
    over all rows. -/
theorem acc_total {ι : Type} (f : (n : Nat) → n < cfg0.N → ι → EReal) (part : Fin 8192 → ι → EReal)
    (h0 : ∀ t : Fin cfg0.N, t.val % 16 = 0 → ∀ i, f t.val t.isLt i = ∑ r : Fin 512, part (row t r) i)
    (hs : ∀ t : Fin cfg0.N, ¬t.val % 16 = 0 → ∀ i,
      f t.val t.isLt i = f (t.val - 1) (Nat.lt_of_le_of_lt (Nat.sub_le _ _) t.isLt) i + ∑ r : Fin 512, part (row t r) i)
    (t : Fin cfg0.N) (ht : t.val % 16 = 16 - 1) (i : ι) : f t.val t.isLt i = ∑ R : Fin 8192, part R i :=
  (Rows.acc_total N_0 f (fun _ => 0) part (fun t h i => (h0 t h i).trans (zero_add _).symm) hs t ht i).trans (zero_add _)

end Cert.KernelIdeal.Value

end
-- ==== Proof.Dd.lean ====
/- The gradient with respect to the group product's input: every grid point writes its own 512 rows. -/
module
public import proofs.«01_k».proof.Proof.Gen.KernelIdeal.Value
public import Idealize.ShloMosaic.Lib.Pointwise
public import Idealize.ShloMosaic.Lib.Pipeline.ValueKit
public import proofs.«01_k».proof.Proof.Model
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

theorem dd_A (c : Dev nD) (t : Fin cfg0.N) (h0 : t.val % 16 = 0) (h1 : ¬t.val % 16 = 15) (y : S512x2048.Idx) :
    (outsAt0 m c t.val t.isLt).1 y = Model.dd (aDZ m c) (aG m c) (aW m c) (aSC m c) (aGT m c) (aWO m c) (row t (y 0)) (y 1) := by
  have ht := lt16 t
  rw [outsAt0_A m c t h0 h1]; frame_out
  canon_tiles x h
  all_goals
    open_payloads
    pointwise [Model.dd, Model.dy, Model.dp, Gate.sgT, Gate.hf, row, Rows.row, aDZ, aG, aW, aSC, aGT, aWO]
    blk_point [iblk, V, idx_val t]

theorem dd_B (c : Dev nD) (t : Fin cfg0.N) (h0 : ¬t.val % 16 = 0) (h1 : ¬t.val % 16 = 15) (y : S512x2048.Idx) :
    (outsAt0 m c t.val t.isLt).1 y = Model.dd (aDZ m c) (aG m c) (aW m c) (aSC m c) (aGT m c) (aWO m c) (row t (y 0)) (y 1) := by
  have ht := lt16 t
  rw [outsAt0_B m c t h0 h1]; frame_out
  canon_tiles x h
  all_goals
    open_payloads
    pointwise [Model.dd, Model.dy, Model.dp, Gate.sgT, Gate.hf, row, Rows.row, aDZ, aG, aW, aSC, aGT, aWO]
    blk_point [iblk, V, idx_val t]

theorem dd_C (c : Dev nD) (t : Fin cfg0.N) (h0 : ¬t.val % 16 = 0) (h1 : t.val % 16 = 15) (y : S512x2048.Idx) :
    (outsAt0 m c t.val t.isLt).1 y = Model.dd (aDZ m c) (aG m c) (aW m c) (aSC m c) (aGT m c) (aWO m c) (row t (y 0)) (y 1) := by
  have ht := lt16 t
  rw [outsAt0_C m c t h0 h1]; frame_out
  canon_tiles x h
  all_goals
    open_payloads
    pointwise [Model.dd, Model.dy, Model.dp, Gate.sgT, Gate.hf, row, Rows.row, aDZ, aG, aW, aSC, aGT, aWO]
    blk_point [iblk, V, idx_val t]

/-- What a grid point writes of the first result, at any point. -/
theorem dd_point (c : Dev nD) (t : Fin cfg0.N) (y : S512x2048.Idx) :
    (outsAt0 m c t.val t.isLt).1 y = Model.dd (aDZ m c) (aG m c) (aW m c) (aSC m c) (aGT m c) (aWO m c) (row t (y 0)) (y 1) := by
  by_cases h0 : t.val % 16 = 0
  · exact dd_A m c t h0 (by omega) y
  by_cases h1 : t.val % 16 = 15
  · exact dd_C m c t h0 h1 y
  · exact dd_B m c t h0 h1 y

/-- The first result, whole: the gradient with respect to the group product's input. -/
theorem dd_final (c : Dev nD) : (dats m 0 c).arrAt 8 (cfgs 0).N
    = fun i : S8192x2048.Idx => Model.dd (aDZ m c) (aG m c) (aW m c) (aSC m c) (aGT m c) (aWO m c) (i 0) (i 1) := by
  refine (dats m 0 c).arrAt_eq_of_covers 8 _ (by decide +kernel) fun t _ y => ?_
  blk_simp
  rw [after0_8]
  refine (dd_point m c t y).trans ?_
  have e := idx_val t
  refine congrArg₂ (Model.dd _ _ _ _ _ _) (Fin.ext ?_) (Fin.ext ?_) <;> blk_simp [e, row, Rows.row]

end Cert.KernelIdeal.Value

end
-- ==== Proof.Dg.lean ====
/- The gradient with respect to the gate's input: every grid point writes its own 512 rows. -/
module
public import proofs.«01_k».proof.Proof.Gen.KernelIdeal.Value
public import Idealize.ShloMosaic.Lib.Pointwise
public import Idealize.ShloMosaic.Lib.Pipeline.ValueKit
public import proofs.«01_k».proof.Proof.Model
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

theorem dg_point (c : Dev nD) (t : Fin cfg0.N) (y : S512x2048.Idx) :
    (outsAt0 m c t.val t.isLt).2.1 y = Model.dg (aDZ m c) (aPO m c) (aG m c) (aSC m c) (aGT m c) (aWO m c) (row t (y 0)) (y 1) := by
  have ht := lt16 t
  by_cases h0 : t.val % 16 = 0
  · rw [outsAt0_A m c t h0 (by omega)]; frame_out
    canon_tiles x h
    all_goals
      open_payloads
      pointwise [Model.dg, Model.dp, Gate.sgT, Gate.hf, row, Rows.row, aDZ, aPO, aG, aSC, aGT, aWO]
      blk_point [iblk, idx_val t]
  by_cases h1 : t.val % 16 = 15
  · rw [outsAt0_C m c t h0 h1]; frame_out
    canon_tiles x h
    all_goals
      open_payloads
      pointwise [Model.dg, Model.dp, Gate.sgT, Gate.hf, row, Rows.row, aDZ, aPO, aG, aSC, aGT, aWO]
      blk_point [iblk, idx_val t]
  · rw [outsAt0_B m c t h0 h1]; frame_out
    canon_tiles x h
    all_goals
      open_payloads
      pointwise [Model.dg, Model.dp, Gate.sgT, Gate.hf, row, Rows.row, aDZ, aPO, aG, aSC, aGT, aWO]
      blk_point [iblk, idx_val t]

/-- The second result, whole: the gradient with respect to the gate's input. -/
theorem dg_final (c : Dev nD) : (dats m 0 c).arrAt 9 (cfgs 0).N
    = fun i : S8192x2048.Idx => Model.dg (aDZ m c) (aPO m c) (aG m c) (aSC m c) (aGT m c) (aWO m c) (i 0) (i 1) := by
  refine (dats m 0 c).arrAt_eq_of_covers 9 _ (by decide +kernel) fun t _ y => ?_
  blk_simp
  rw [after0_9]
  refine (dg_point m c t y).trans ?_
  have e := idx_val t
  refine congrArg₂ (Model.dg _ _ _ _ _ _) (Fin.ext ?_) (Fin.ext ?_) <;> blk_simp [e, row, Rows.row]

end Cert.KernelIdeal.Value

end
-- ==== Proof.Gwo.lean ====
/- The output projection's gradient: the accumulator over the grid points, and its copy to the result. -/
module
public import proofs.«01_k».proof.Proof.Gen.KernelIdeal.Value
public import Idealize.ShloMosaic.Lib.Pointwise
public import Idealize.ShloMosaic.Lib.Pipeline.ValueKit
public import proofs.«01_k».proof.Proof.Model
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.Rows (canon_drop cover4)
variable (m : (ℓ : Loc nD τ sig) → Buf (Elt Ideal) ℓ)

/-- What grid point `t` adds to the output projection's gradient. -/
def gwoPart (c : Dev nD) (t : Fin cfg0.N) (j : Fin 2048) (b : Fin 1024) : EReal :=
  ∑ r : Fin 512, Model.gwoAt (aDZ m c) (aPO m c) (aG m c) (aSC m c) (aGT m c) (row t r) j b

/-- The four column groups' rows of the output projection fill it. -/
theorem gwo_cover {w₃ w₂ w₁ w₀ : S512x1024.Idx → EReal} (y : S2048x1024.Idx) :
    ∃ q ∈ ([⟨Rect.unit ![1536, 0] S512x1024.size inb_S2048x1024_S512x1024_1536_0, w₃⟩,
      ⟨Rect.unit ![1024, 0] S512x1024.size inb_S2048x1024_S512x1024_1024_0, w₂⟩,
      ⟨Rect.unit ![512, 0] S512x1024.size inb_S2048x1024_S512x1024_512_0, w₁⟩,
      ⟨Rect.unit ![0, 0] S512x1024.size inb_S2048x1024_S512x1024_0_0, w₀⟩] : List (View.Piece (Elt Ideal) S2048x1024 .f32)), y ∈ q.1.set := by
  have hy : (y 0).val < 2048 := (y 0).isLt
  have hz : (y 1).val < 1024 := (y 1).isLt
  apply cover4
  rcases (by omega : 1536 ≤ (y 0).val ∨ (1024 ≤ (y 0).val ∧ (y 0).val < 1536) ∨ (512 ≤ (y 0).val ∧ (y 0).val < 1024) ∨ (y 0).val < 512) with h | h | h | h
  · left; rw [Rect.mem_set_unit]; intro a; fin_cases a <;> simp <;> omega
  · right; left; rw [Rect.mem_set_unit]; intro a; fin_cases a <;> simp <;> omega
  · right; right; left; rw [Rect.mem_set_unit]; intro a; fin_cases a <;> simp <;> omega
  · right; right; right; rw [Rect.mem_set_unit]; intro a; fin_cases a <;> simp <;> omega

theorem gwo_A (c : Dev nD) (t : Fin cfg0.N) (h0 : t.val % 16 = 0) (h1 : ¬t.val % 16 = 15) (y : S2048x1024.Idx) :
    (outsAt0 m c t.val t.isLt).2.2.2.1 y = gwoPart m c t (y 0) (y 1) := by
  have ht := lt16 t
  rw [outsAt0_A m c t h0 h1]
  frame_open
  simp (disch := decide) only [↓ View.readCov_skip, ↓ View.readCov_cons_toLoadRect, ↓ View.readCov_fill]
  frame_out
  refine (canon_drop [_] [_, _, _, _] y ?_).trans ?_
  · exact gwo_cover y
  canon_tiles x h
  all_goals
    open_payloads
    pointwise [gwoPart, Model.gwoAt, Gate.sgT, Gate.hf, row, Rows.row, aDZ, aPO, aG, aSC, aGT]
    blk_point [iblk, idx_val t]

theorem gwo_B (c : Dev nD) (t : Fin cfg0.N) (h0 : ¬t.val % 16 = 0) (h1 : ¬t.val % 16 = 15) (y : S2048x1024.Idx) :
    (outsAt0 m c t.val t.isLt).2.2.2.1 y = (show EReal from (outsAt0 m c (t.val - 1) (Nat.lt_of_le_of_lt (Nat.sub_le _ _) t.isLt)).2.2.2.1 y)
      + gwoPart m c t (y 0) (y 1) := by
  have ht := lt16 t
  rw [outsAt0_B m c t h0 h1]; frame_out
  simp only [read_unread_whole]
  canon_tiles x h
  all_goals
    open_payloads
    pointwise [gwoPart, Model.gwoAt, Gate.sgT, Gate.hf, row, Rows.row, aDZ, aPO, aG, aSC, aGT]
    blk_point [iblk, idx_val t]
theorem gwo_C (c : Dev nD) (t : Fin cfg0.N) (h0 : ¬t.val % 16 = 0) (h1 : t.val % 16 = 15)  :
    (outsAt0 m c t.val t.isLt).2.2.2.2.2.1 = (outsAt0 m c t.val t.isLt).2.2.2.1 := by
  rw [outsAt0_C m c t h0 h1]
  dsimp only [hbw0_C_0, sout0_C_0]
  unfold kernelRun0_C
  dsimp only
  refine (View.write_whole_univ _ _ _).trans ?_
  unfold kernelRun0_C.sl.dma78
  refine View.read_writes_of_cover _ _ _ _ _ fun y => ?_
  unfold kernelRun0_C.sl.HS0_4
  exact gwo_cover y

theorem gwo_CB (c : Dev nD) (t : Fin cfg0.N) (h0 : ¬t.val % 16 = 0) (h1 : t.val % 16 = 15) (y : S2048x1024.Idx) :
    (outsAt0 m c t.val t.isLt).2.2.2.1 y = (show EReal from (outsAt0 m c (t.val - 1) (Nat.lt_of_le_of_lt (Nat.sub_le _ _) t.isLt)).2.2.2.1 y)
      + gwoPart m c t (y 0) (y 1) := by
  have ht := lt16 t
  rw [outsAt0_C m c t h0 h1]; frame_out
  simp only [read_unread_whole]
  canon_tiles x h
  all_goals
    open_payloads
    pointwise [gwoPart, Model.gwoAt, Gate.sgT, Gate.hf, row, Rows.row, aDZ, aPO, aG, aSC, aGT]
    blk_point [iblk, idx_val t]

/-- The copy of the accumulator after the last point, whole. -/
theorem gwo_last (c : Dev nD) (t : Fin cfg0.N) (ht : t.val % 16 = 16 - 1) :
    (outsAt0 m c t.val t.isLt).2.2.2.2.2.1 = fun y : S2048x1024.Idx => ∑ R : Fin 8192, Model.gwoAt (aDZ m c) (aPO m c) (aG m c) (aSC m c) (aGT m c) R (y 0) (y 1) := by
  rw [gwo_C m c t (by omega) ht]
  funext y
  exact acc_total (fun n h => (outsAt0 m c n h).2.2.2.1) (fun R y => Model.gwoAt (aDZ m c) (aPO m c) (aG m c) (aSC m c) (aGT m c) R (y 0) (y 1))
    (fun t h i => gwo_A m c t h (by omega) i) (fun t h i => by
      by_cases h1 : t.val % 16 = 15
      · exact gwo_CB m c t h h1 i
      · exact gwo_B m c t h h1 i) t ht y

end Cert.KernelIdeal.Value

end
-- ==== Proof.Gpw.lean ====
/- The group weights' gradient: the accumulator over the grid points, and its copy to the result. -/
module
public import proofs.«01_k».proof.Proof.Gen.KernelIdeal.Value
public import Idealize.ShloMosaic.Lib.Pointwise
public import Idealize.ShloMosaic.Lib.Pipeline.ValueKit
public import proofs.«01_k».proof.Proof.Model
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.Rows (canon_drop cover4)
variable (m : (ℓ : Loc nD τ sig) → Buf (Elt Ideal) ℓ)

/-- What grid point `t` adds to the group weights' gradient. -/
def gpwPart (c : Dev nD) (t : Fin cfg0.N) (k : Fin 4) (g h : Fin 512) : EReal :=
  ∑ r : Fin 512, Model.gpwAt (aDZ m c) (aD m c) (aG m c) (aSC m c) (aGT m c) (aWO m c) (row t r) k g h

/-- The four groups' slices fill the group weights. -/
theorem gpw_cover {w₃ w₂ w₁ w₀ : S1x512x512.Idx → EReal} (y : S4x512x512.Idx) :
    ∃ q ∈ ([⟨Rect.unit ![3, 0, 0] S1x512x512.size inb_S4x512x512_S1x512x512_3_0_0, w₃⟩,
      ⟨Rect.unit ![2, 0, 0] S1x512x512.size inb_S4x512x512_S1x512x512_2_0_0, w₂⟩,
      ⟨Rect.unit ![1, 0, 0] S1x512x512.size inb_S4x512x512_S1x512x512_1_0_0, w₁⟩,
      ⟨Rect.unit ![0, 0, 0] S1x512x512.size inb_S4x512x512_S1x512x512_0_0_0, w₀⟩] : List (View.Piece (Elt Ideal) S4x512x512 .f32)), y ∈ q.1.set := by
  have hx : (y 0).val < 4 := (y 0).isLt
  have hy : (y 1).val < 512 := (y 1).isLt
  have hz : (y 2).val < 512 := (y 2).isLt
  apply cover4
  rcases (by omega : (y 0).val = 3 ∨ (y 0).val = 2 ∨ (y 0).val = 1 ∨ (y 0).val = 0) with h | h | h | h
  · left; rw [Rect.mem_set_unit]; intro a; fin_cases a <;> simp <;> omega
  · right; left; rw [Rect.mem_set_unit]; intro a; fin_cases a <;> simp <;> omega
  · right; right; left; rw [Rect.mem_set_unit]; intro a; fin_cases a <;> simp <;> omega
  · right; right; right; rw [Rect.mem_set_unit]; intro a; fin_cases a <;> simp <;> omega

theorem gpw_A (c : Dev nD) (t : Fin cfg0.N) (h0 : t.val % 16 = 0) (h1 : ¬t.val % 16 = 15) (y : S4x512x512.Idx) :
    (outsAt0 m c t.val t.isLt).2.2.2.2.1 y = gpwPart m c t (y 0) (y 1) (y 2) := by
  have ht := lt16 t
  rw [outsAt0_A m c t h0 h1]
  frame_open
  simp (disch := decide) only [↓ View.readCov_skip, ↓ View.readCov_cons_toLoadRect, ↓ View.readCov_fill]
  frame_out
  refine (canon_drop [_] [_, _, _, _] y ?_).trans ?_
  · exact gpw_cover y
  canon_tiles x h
  all_goals
    open_payloads
    pointwise [gpwPart, Model.gpwAt, Model.dy, Model.dp, Gate.sgT, Gate.hf, row, Rows.row, aDZ, aD, aG, aSC, aGT, aWO]
    blk_point [iblk, V, idx_val t]

theorem gpw_B (c : Dev nD) (t : Fin cfg0.N) (h0 : ¬t.val % 16 = 0) (h1 : ¬t.val % 16 = 15) (y : S4x512x512.Idx) :
    (outsAt0 m c t.val t.isLt).2.2.2.2.1 y = (show EReal from (outsAt0 m c (t.val - 1) (Nat.lt_of_le_of_lt (Nat.sub_le _ _) t.isLt)).2.2.2.2.1 y)
      + gpwPart m c t (y 0) (y 1) (y 2) := by
  have ht := lt16 t
  rw [outsAt0_B m c t h0 h1]; frame_out
  simp only [read_unread_whole]
  canon_tiles x h
  all_goals
    open_payloads
    pointwise [gpwPart, Model.gpwAt, Model.dy, Model.dp, Gate.sgT, Gate.hf, row, Rows.row, aDZ, aD, aG, aSC, aGT, aWO]
    blk_point [iblk, V, idx_val t]

theorem gpw_CB (c : Dev nD) (t : Fin cfg0.N) (h0 : ¬t.val % 16 = 0) (h1 : t.val % 16 = 15) (y : S4x512x512.Idx) :
    (outsAt0 m c t.val t.isLt).2.2.2.2.1 y = (show EReal from (outsAt0 m c (t.val - 1) (Nat.lt_of_le_of_lt (Nat.sub_le _ _) t.isLt)).2.2.2.2.1 y)
      + gpwPart m c t (y 0) (y 1) (y 2) := by
  have ht := lt16 t
  rw [outsAt0_C m c t h0 h1]; frame_out
  simp only [read_unread_whole]
  canon_tiles x h
  all_goals
    open_payloads
    pointwise [gpwPart, Model.gpwAt, Model.dy, Model.dp, Gate.sgT, Gate.hf, row, Rows.row, aDZ, aD, aG, aSC, aGT, aWO]
    blk_point [iblk, V, idx_val t]

theorem gpw_C (c : Dev nD) (t : Fin cfg0.N) (h0 : ¬t.val % 16 = 0) (h1 : t.val % 16 = 15) :
    (outsAt0 m c t.val t.isLt).2.2.2.2.2.2 = (outsAt0 m c t.val t.isLt).2.2.2.2.1 := by
  rw [outsAt0_C m c t h0 h1]
  dsimp only [hbw0_C_1, sout0_C_1]
  unfold kernelRun0_C
  dsimp only
  refine (View.write_whole_univ _ _ _).trans ?_
  unfold kernelRun0_C.sl.dma78_1
  refine View.read_writes_of_cover _ _ _ _ _ fun y => ?_
  unfold kernelRun0_C.sl.HS1_4
  exact gpw_cover y

/-- The copy of the accumulator after the last point, whole. -/
theorem gpw_last (c : Dev nD) (t : Fin cfg0.N) (ht : t.val % 16 = 16 - 1) :
    (outsAt0 m c t.val t.isLt).2.2.2.2.2.2 = fun y : S4x512x512.Idx => ∑ R : Fin 8192, Model.gpwAt (aDZ m c) (aD m c) (aG m c) (aSC m c) (aGT m c) (aWO m c) R (y 0) (y 1) (y 2) := by
  rw [gpw_C m c t (by omega) ht]
  funext y
  exact acc_total (fun n h => (outsAt0 m c n h).2.2.2.2.1) (fun R y => Model.gpwAt (aDZ m c) (aD m c) (aG m c) (aSC m c) (aGT m c) (aWO m c) R (y 0) (y 1) (y 2))
    (fun t h i => gpw_A m c t h (by omega) i) (fun t h i => by
      by_cases h1 : t.val % 16 = 15
      · exact gpw_CB m c t h h1 i
      · exact gpw_B m c t h h1 i) t ht y

end Cert.KernelIdeal.Value

end
-- ==== Proof.Gps.lean ====
/- The scale's gradient: the last result, one row summed over the grid points. -/
module
public import proofs.«01_k».proof.Proof.Gen.KernelIdeal.Value
public import Idealize.ShloMosaic.Lib.Pointwise
public import Idealize.ShloMosaic.Lib.Pipeline.ValueKit
public import Idealize.ShloMosaic.Lib.WritesUnit
public import proofs.«01_k».proof.Proof.Model
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.Rows (canon_drop cover4)
variable (m : (ℓ : Loc nD τ sig) → Buf (Elt Ideal) ℓ)

/-- Row `R`'s part of the scale's gradient, as a block of eight rows of which the first holds it and the others nothing. -/
def gpsRow (c : Dev nD) (R : Fin 8192) (y : S8x2048.Idx) : EReal :=
  if (y 0).val = 0 then Model.gpsAt (aDZ m c) (aPO m c) (aG m c) (aGT m c) (aWO m c) R (y 1) else 0

/-- What grid point `t` adds to that block. -/
def gpsPart (c : Dev nD) (t : Fin cfg0.N) (y : S8x2048.Idx) : EReal := ∑ r : Fin 512, gpsRow m c (row t r) y

theorem gpsPart_zero (c : Dev nD) (t : Fin cfg0.N) (y : S8x2048.Idx) (hy : (y 0).val = 0) :
    gpsPart m c t y = ∑ r : Fin 512, Model.gpsAt (aDZ m c) (aPO m c) (aG m c) (aGT m c) (aWO m c) (row t r) (y 1) :=
  Finset.sum_congr rfl fun _ _ => if_pos hy

theorem gpsPart_pos (c : Dev nD) (t : Fin cfg0.N) (y : S8x2048.Idx) (hy : ¬(y 0).val = 0) : gpsPart m c t y = 0 :=
  Finset.sum_eq_zero fun _ _ => if_neg hy

/-- The four column groups fill the block's first row. -/
theorem gps_cover {w₃ w₂ w₁ w₀ : S1x512.Idx → EReal} (y : S8x2048.Idx) (hx : (y 0).val = 0) :
    ∃ q ∈ ([⟨Rect.unit ![0, 1536] S1x512.size inb_S8x2048_S1x512_0_1536, w₃⟩,
      ⟨Rect.unit ![0, 1024] S1x512.size inb_S8x2048_S1x512_0_1024, w₂⟩,
      ⟨Rect.unit ![0, 512] S1x512.size inb_S8x2048_S1x512_0_512, w₁⟩,
      ⟨Rect.unit ![0, 0] S1x512.size inb_S8x2048_S1x512_0_0, w₀⟩] : List (View.Piece (Elt Ideal) S8x2048 .f32)), y ∈ q.1.set := by
  have hz : (y 1).val < 2048 := (y 1).isLt
  apply cover4
  rcases (by omega : 1536 ≤ (y 1).val ∨ (1024 ≤ (y 1).val ∧ (y 1).val < 1536) ∨ (512 ≤ (y 1).val ∧ (y 1).val < 1024) ∨ (y 1).val < 512) with h | h | h | h
  · left; rw [Rect.mem_set_unit]; intro a; fin_cases a <;> simp <;> omega
  · right; left; rw [Rect.mem_set_unit]; intro a; fin_cases a <;> simp <;> omega
  · right; right; left; rw [Rect.mem_set_unit]; intro a; fin_cases a <;> simp <;> omega
  · right; right; right; rw [Rect.mem_set_unit]; intro a; fin_cases a <;> simp <;> omega

theorem gps_A (c : Dev nD) (t : Fin cfg0.N) (h0 : t.val % 16 = 0) (h1 : ¬t.val % 16 = 15) (y : S8x2048.Idx) :
    (outsAt0 m c t.val t.isLt).2.2.1 y = gpsPart m c t y := by
  have ht := lt16 t
  rw [outsAt0_A m c t h0 h1]
  frame_open
  simp (disch := decide) only [↓ View.readCov_skip, ↓ View.readCov_cons_toLoadRect, ↓ View.readCov_fill]
  frame_out
  by_cases hy : (y 0).val = 0
  · rw [gpsPart_zero m c t y hy]
    refine (canon_drop [_] [_, _, _, _] y (gps_cover y hy)).trans ?_
    canon_tiles x h using gps_cover y hy
    all_goals
      open_payloads
      pointwise [Model.gpsAt, Model.dy, Model.dp, Gate.sgT, Gate.hf, row, Rows.row, aDZ, aPO, aG, aGT, aWO]
      blk_point [iblk, idx_val t]
  · rw [gpsPart_pos m c t y hy]
    have hn : ∀ (o : Fin 2 → ℕ) (inb : ∀ a, o a + S1x512.size a ≤ S8x2048.size a) (w : S1x512.Idx → EReal)
        (L : List (View.Piece (Elt Ideal) S8x2048 .f32)), o 0 = 0 →
        View.canon ((⟨Rect.unit o S1x512.size inb, w⟩ : View.Piece (Elt Ideal) S8x2048 .f32) :: L) y = View.canon L y := by
      intro o inb w L ho
      refine View.canon_cons_of_not_mem _ _ fun hm => ?_
      rw [Rect.mem_set_unit] at hm
      have := (hm 0).2
      rw [ho] at this
      have : (y 0).val < 0 + 1 := this
      omega
    refine (hn ![0, 1536] inb_S8x2048_S1x512_0_1536 _ _ rfl).trans ?_
    refine (hn ![0, 1024] inb_S8x2048_S1x512_0_1024 _ _ rfl).trans ?_
    refine (hn ![0, 512] inb_S8x2048_S1x512_0_512 _ _ rfl).trans ?_
    refine (hn ![0, 0] inb_S8x2048_S1x512_0_0 _ _ rfl).trans ?_
    canon_tiles x h
    open_payloads
    pointwise

theorem gps_B (c : Dev nD) (t : Fin cfg0.N) (h0 : ¬t.val % 16 = 0) (h1 : ¬t.val % 16 = 15) (y : S8x2048.Idx) :
    (outsAt0 m c t.val t.isLt).2.2.1 y = (show EReal from (outsAt0 m c (t.val - 1) (Nat.lt_of_le_of_lt (Nat.sub_le _ _) t.isLt)).2.2.1 y) + gpsPart m c t y := by
  have ht := lt16 t
  rw [outsAt0_B m c t h0 h1]; frame_out
  by_cases hy : (y 0).val = 0
  · rw [gpsPart_zero m c t y hy]
    refine (View.read_writes_apply_eq_canon _ _ y [_, _, _, _] (gps_cover y hy)).trans ?_
    canon_tiles x h using gps_cover y hy
    all_goals
      open_payloads
      pointwise [Model.gpsAt, Model.dy, Model.dp, Gate.sgT, Gate.hf, row, Rows.row, aDZ, aPO, aG, aGT, aWO]
      blk_point [iblk, idx_val t]
  · rw [gpsPart_pos m c t y hy]
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (congrFun (Memref.IsWhole.read_unread _ _) y).trans ?_
    exact (add_zero _).symm

theorem gps_C (c : Dev nD) (t : Fin cfg0.N) (h0 : ¬t.val % 16 = 0) (h1 : t.val % 16 = 15) (y : S8x2048.Idx) :
    (outsAt0 m c t.val t.isLt).2.2.1 y = (show EReal from (outsAt0 m c (t.val - 1) (Nat.lt_of_le_of_lt (Nat.sub_le _ _) t.isLt)).2.2.1 y) + gpsPart m c t y := by
  have ht := lt16 t
  rw [outsAt0_C m c t h0 h1]; frame_out
  by_cases hy : (y 0).val = 0
  · rw [gpsPart_zero m c t y hy]
    refine (View.read_writes_apply_eq_canon _ _ y [_, _, _, _] (gps_cover y hy)).trans ?_
    canon_tiles x h using gps_cover y hy
    all_goals
      open_payloads
      pointwise [Model.gpsAt, Model.dy, Model.dp, Gate.sgT, Gate.hf, row, Rows.row, aDZ, aPO, aG, aGT, aWO]
      blk_point [iblk, idx_val t]
  · rw [gpsPart_pos m c t y hy]
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (View.read_writes_cons_unit_of_not_mem _ _ _ _ _ y rfl 0 (Or.inr ?_)).trans ?_
    · show 1 ≤ (y 0).val; omega
    refine (congrFun (Memref.IsWhole.read_unread _ _) y).trans ?_
    exact (add_zero _).symm

/-- The last result, whole: the scale's gradient in the first of eight rows. -/
theorem gps_final (c : Dev nD) : (dats m 0 c).arrAt 10 (cfgs 0).N = fun y : S8x2048.Idx => ∑ R : Fin 8192, gpsRow m c R y := by
  refine (dats m 0 c).arrAt_eq_of_covers 10 _ (by decide +kernel) fun t hf y => ?_
  blk_simp
  rw [after0_10]
  have e := idx_val t
  refine (acc_total (fun n h => (outsAt0 m c n h).2.2.1) (gpsRow m c) (fun t h i => gps_A m c t h (by omega) i) (fun t h i => ?_) t ?_ y).trans ?_
  · by_cases h1 : t.val % 16 = 15
    · exact gps_C m c t h h1 i
    · exact gps_B m c t h h1 i
  · exact (flush0_10 t).mp hf
  · refine Finset.sum_congr rfl fun R _ => congrArg (gpsRow m c R) (funext fun a => Fin.ext ?_)
    fin_cases a <;> blk_simp [e]

end Cert.KernelIdeal.Value

end
-- ==== Proof.Po.lean ====
/- The group product the host computes for the call is the reference's. -/
module
public import proofs.«01_k».proof.Proof.Gen.KernelIdeal.Value
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Blocks
public import proofs.«01_k».proof.Proof.Gen.ReferenceIdeal.Read
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

theorem po_eq (c : Dev nD) : aPO m c = Cert.ReferenceIdeal.Read.val_main_v3 (F := Ideal) (aD m c) (aW m c) := by
  funext i
  show V m c main_v6 i = _
  entry_read
  pointwise [Cert.ReferenceIdeal.Read.val_main_v3, Cert.ReferenceIdeal.Read.val_main_v2, Cert.ReferenceIdeal.Read.val_main_v1, Cert.ReferenceIdeal.Read.val_main_v0]

end Cert.KernelIdeal.Value

end
-- ==== Proof.Run.lean ====
/- What the kernel's run leaves in its five results, as formulas over the arrays it is given. -/
module
public import proofs.«01_k».proof.Proof.Gen.KernelIdeal.Value
public import proofs.«01_k».proof.Proof.Gen.ReferenceIdeal.Read
public import proofs.«01_k».proof.Proof.Dd
public import proofs.«01_k».proof.Proof.Dg
public import proofs.«01_k».proof.Proof.Gwo
public import proofs.«01_k».proof.Proof.Gpw
public import proofs.«01_k».proof.Proof.Gps
public import proofs.«01_k».proof.Proof.Po
@[expose] public section
set_option maxRecDepth 16384
noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ) (ρ : Dev nD → PrngReg)

/-- The group product of `d`, before its scale. -/
abbrev po (c : Dev nD) : Model.Chan.Idx → EReal := Cert.ReferenceIdeal.Read.val_main_v3 (F := Ideal) (aD m c) (aW m c)

/-- The five gradients the call leaves: at the group product, at the gate, and those of the output projection, the group weights and the scale. -/
def outDd (c : Dev nD) : S8192x2048.Idx → EReal :=
  fun i => Model.dd (aDZ m c) (aG m c) (aW m c) (aSC m c) (aGT m c) (aWO m c) (i 0) (i 1)
def outDg (c : Dev nD) : S8192x2048.Idx → EReal :=
  fun i => Model.dg (aDZ m c) (po m c) (aG m c) (aSC m c) (aGT m c) (aWO m c) (i 0) (i 1)
def outGwo (c : Dev nD) : S2048x1024.Idx → EReal :=
  fun y => ∑ R : Fin 8192, Model.gwoAt (aDZ m c) (po m c) (aG m c) (aSC m c) (aGT m c) R (y 0) (y 1)
def outGpw (c : Dev nD) : S4x512x512.Idx → EReal :=
  fun y => ∑ R : Fin 8192, Model.gpwAt (aDZ m c) (aD m c) (aG m c) (aSC m c) (aGT m c) (aWO m c) R (y 0) (y 1) (y 2)
def outGps (c : Dev nD) : S8x2048.Idx → EReal :=
  fun y => if (y 0).val = 0 then ∑ R : Fin 8192, Model.gpsAt (aDZ m c) (po m c) (aG m c) (aGT m c) (aWO m c) R (y 1) else 0

theorem dg_out (c : Dev nD) : (dats m 0 c).arrAt 9 (cfgs 0).N = outDg m c := by
  refine (dg_final m c).trans ?_
  rw [po_eq]
  rfl

theorem gwo_out (c : Dev nD) (n : Nat) (h : n < cfg0.N) (hn : n % 16 = 16 - 1) : (outsAt0 m c n h).2.2.2.2.2.1 = outGwo m c := by
  refine (gwo_last m c ⟨n, h⟩ hn).trans ?_
  rw [po_eq]
  rfl

theorem gpw_out (c : Dev nD) (n : Nat) (h : n < cfg0.N) (hn : n % 16 = 16 - 1) : (outsAt0 m c n h).2.2.2.2.2.2 = outGpw m c :=
  gpw_last m c ⟨n, h⟩ hn

theorem gps_out (c : Dev nD) : (dats m 0 c).arrAt 10 (cfgs 0).N = outGps m c := by
  refine (gps_final m c).trans ?_
  unfold gpsRow
  rw [po_eq]
  funext y
  unfold outGps
  split
  · rfl
  · exact Finset.sum_eq_zero fun _ _ => rfl

theorem last_mod : ((Fin.last cfg0.N).val - 1) % 16 = 16 - 1 := by rw [Fin.val_last, show cfg0.N = 16 from N_0]

theorem run_model : θ_run defs (onTc (τ := τ) (main (F := Ideal))) ⟨m, fun _ => 0, ρ⟩ fun r => ∀ c : Dev nD,
      r.2.mem ((c : Thread nD τ).loc main_v9_0) = outDd m c
      ∧ r.2.mem ((c : Thread nD τ).loc main_v9_1) = outDg m c
      ∧ r.2.mem ((c : Thread nD τ).loc main_v9_2) = outGwo m c
      ∧ r.2.mem ((c : Thread nD τ).loc main_v9_3) = outGpw m c
      ∧ r.2.mem ((c : Thread nD τ).loc main_v9_4) = outGps m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨h8, h9, h10, a0, a1, a2, a3, a4, a5, a6, hwo, hpw⟩ := h c
  exact ⟨h8.trans (dd_final m c), h9.trans (dg_out m c), hwo.trans (gwo_out m c _ _ last_mod), hpw.trans (gpw_out m c _ _ last_mod),
    h10.trans (gps_out m c), a0, a1, a2, a3, a4, a5, a6⟩

end Cert.KernelIdeal.Value
end
-- ==== Proof.Real.lean ====
/- Real numbers among the extended reals: sums and products of reals are real, and the two ways of writing the gradient of
   `y * (x * sigmoid x)` with respect to `x` agree on the reals. -/
module

public import proofs.«01_k».proof.Proof.Gate

@[expose] public section

noncomputable section

namespace Cert.Gate

open Idealize.ShloMosaic

/-- The extended real is a real number. -/
def Re (x : EReal) : Prop := ∃ r : ℝ, x = r

theorem Re.mul {x y : EReal} (hx : Re x) (hy : Re y) : Re (x * y) := by
  obtain ⟨a, rfl⟩ := hx; obtain ⟨b, rfl⟩ := hy; exact ⟨a * b, (EReal.coe_mul a b).symm⟩

theorem Re.add {x y : EReal} (hx : Re x) (hy : Re y) : Re (x + y) := by
  obtain ⟨a, rfl⟩ := hx; obtain ⟨b, rfl⟩ := hy; exact ⟨a + b, (EReal.coe_add a b).symm⟩

theorem Re.sum {ι : Type} (s : Finset ι) (f : ι → EReal) (h : ∀ i, Re (f i)) : Re (∑ i ∈ s, f i) :=
  Finset.sum_induction f Re (fun _ _ => Re.add) ⟨0, rfl⟩ fun i _ => h i

theorem Re.logistic {x : EReal} (hx : Re x) : Re (Ideal.logistic x) := by
  obtain ⟨a, rfl⟩ := hx; exact ⟨_, Ideal.logistic_coe a⟩

/-- An extended real whose absolute value is below infinity is real. -/
theorem Re.of_abs_lt {x : EReal} (h : Ideal.cmp .olt (max x (-x)) (Ideal.ofBits .f32 0x7F800000#32) = 1#1) : Re x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The gradient through the gate, two ways, on the reals. -/
theorem gate_grad {p y x l : EReal} (hp : Re p) (hy : Re y) (hx : Re x) (hl : Re l) :
    y * p * l + x * (y * p) * (l * (1 - l)) = p * y * (l * (1 + x * (1 - l))) := by
  obtain ⟨p, rfl⟩ := hp; obtain ⟨y, rfl⟩ := hy; obtain ⟨x, rfl⟩ := hx; obtain ⟨l, rfl⟩ := hl
  rw [show (1 : EReal) = ((1 : ℝ) : EReal) from rfl]
  simp only [← EReal.coe_mul, ← EReal.coe_add, ← EReal.coe_sub]
  congr 1
  ring

end Cert.Gate

end
-- ==== Proof.Pre.lean ====
/- The precondition read at an element: every entry of every argument is a real number. -/
module

public import proofs.«01_k».proof.Proof.Gen.Pre_finite
public import proofs.«01_k».proof.Proof.Real
public import Idealize.ShloMosaic.Lib.ReduceAll

@[expose] public section

noncomputable section

namespace Cert.Pre_finite

open Idealize.ShloMosaic Cert.Pre_finite.Gen

theorem real_of_fn (x0 : FVec Ideal S8192x1024 .f32) (x1 x2 : FVec Ideal S8192x2048 .f32) (x3 : FVec Ideal S4x512x512 .f32)
    (x4 : FVec Ideal S1x2048 .f32) (x5 : FVec Ideal S1x1024 .f32) (x6 : FVec Ideal S2048x1024 .f32)
    (h : fn (F := Ideal) x0 x1 x2 x3 x4 x5 x6 = fun _ => 1#1) :
    (∀ i, Gate.Re (x0 i)) ∧ (∀ i, Gate.Re (x1 i)) ∧ (∀ i, Gate.Re (x2 i)) ∧ (∀ i, Gate.Re (x3 i)) ∧ (∀ i, Gate.Re (x4 i))
      ∧ (∀ i, Gate.Re (x5 i)) ∧ (∀ i, Gate.Re (x6 i)) := by
  have e : ∀ j : S_.Idx, fn (F := Ideal) x0 x1 x2 x3 x4 x5 x6 j = 1#1 := fun j => congrFun h j
  dsimp only [fn, fn_part1, andi] at e
  have e := e (Shape.Idx.first h_S_)
  simp only [IntOp.andi_eq_one] at e
  obtain ⟨⟨⟨⟨⟨⟨e0, e1⟩, e2⟩, e3⟩, e4⟩, e5⟩, e6⟩ := e
  exact ⟨fun i => Gate.Re.of_abs_lt (Host.reduce_andi_all _ _ _ _ _ e0 i), fun i => Gate.Re.of_abs_lt (Host.reduce_andi_all _ _ _ _ _ e1 i),
    fun i => Gate.Re.of_abs_lt (Host.reduce_andi_all _ _ _ _ _ e2 i), fun i => Gate.Re.of_abs_lt (Host.reduce_andi_all _ _ _ _ _ e3 i),
    fun i => Gate.Re.of_abs_lt (Host.reduce_andi_all _ _ _ _ _ e4 i), fun i => Gate.Re.of_abs_lt (Host.reduce_andi_all _ _ _ _ _ e5 i),
    fun i => Gate.Re.of_abs_lt (Host.reduce_andi_all _ _ _ _ _ e6 i)⟩

end Cert.Pre_finite

end
-- ==== Proof.Ref.lean ====
/- The reference's results, read at an index. -/
module
public import proofs.«01_k».proof.Proof.Gen.ReferenceIdeal.Read
public import Idealize.ShloMosaic.Lib.Pointwise
public import Idealize.ShloMosaic.Lib.Claim
public import proofs.«01_k».proof.Proof.Real
public import proofs.«01_k».proof.Proof.Model
@[expose] public section
set_option maxRecDepth 16384
noncomputable section
open Idealize.ShloMosaic Idealize.ShloMosaic.TcCoe Idealize.SL.Sem Idealize.ShloMosaic.StableHlo
namespace Cert.ReferenceIdeal.Read
open Cert.ReferenceIdeal Cert.ReferenceIdeal.Gen
variable (x0 : Model.Tok.Idx → EReal) (x1 : Model.Chan.Idx → EReal) (x2 : Model.Chan.Idx → EReal) (x3 : Model.Grp.Idx → EReal) (x4 : Model.Row.Idx → EReal) (x5 : Model.GateRow.Idx → EReal) (x6 : Model.Out.Idx → EReal)
theorem groups_real (h1 : ∀ i, Gate.Re (x1 i)) (h3 : ∀ i, Gate.Re (x3 i)) (i : S8192x2048.Idx) :
    Gate.Re (val_main_v3 (F := Ideal) x1 x3 i) := by
  pointwise [val_main_v3, val_main_v2, val_main_v1, val_main_v0]
  exact Gate.Re.sum _ _ fun k => (h3 _).mul (h1 _)

theorem read_v33 (i : S8192x2048.Idx) : val_main_v33 (F := Ideal) x0 x2 x3 x4 x5 x6 i = Model.dd x0 x2 x3 x4 x5 x6 (i 0) (i 1) := by
  pointwise [val_main_v4, val_main_v5, val_main_call0_v0, val_main_call0_v1, val_main_call0_cst, val_main_call0_v2, val_main_call0_v3, val_main_call0_cst_0, val_main_call0_v4, val_main_v6_2, val_main_call0_cst_1, val_main_call0_v6, val_main_call0_v7, val_main_v6_1, val_main_v6_0, val_main_v7, val_main_v8, val_main_v9, val_main_v10, val_main_v11, val_main_v12, val_main_v13, val_main_cst, val_main_v14, val_main_v15, val_main_v16, val_main_v17, val_main_v18, val_main_v19, val_main_v20, val_main_call1_v0, val_main_call1_v1, val_main_call1_v2, val_main_v21, val_main_v22, val_main_cst_0, val_main_v23, val_main_v24, val_main_v25, val_main_v26, val_main_v27, val_main_v28, val_main_v29, val_main_v30, val_main_v31, val_main_v32, val_main_v33, val_main_v34, val_main_c, val_main_call2_v0, val_main_v35, Model.dd, Model.dg, Model.dy, Model.dp, Model.gwoAt, Model.gpwAt, Model.gpsAt, Gate.sgT_eq]
  simp only [Nat.mul_comm _ 512, Ideal.logistic]

theorem read_v34 (h0 : ∀ i, Gate.Re (x0 i)) (h1 : ∀ i, Gate.Re (x1 i)) (h2 : ∀ i, Gate.Re (x2 i)) (h3 : ∀ i, Gate.Re (x3 i))
    (h4 : ∀ i, Gate.Re (x4 i)) (h5 : ∀ i, Gate.Re (x5 i)) (h6 : ∀ i, Gate.Re (x6 i)) (i : S8192x2048.Idx) : val_main_v34 (F := Ideal) x0 x1 x2 x3 x4 x5 x6 i = Model.dg x0 (val_main_v3 (F := Ideal) x1 x3) x2 x4 x5 x6 (i 0) (i 1) := by
  pointwise [val_main_v4, val_main_v5, val_main_call0_v0, val_main_call0_v1, val_main_call0_cst, val_main_call0_v2, val_main_call0_v3, val_main_call0_cst_0, val_main_call0_v4, val_main_v6_2, val_main_call0_cst_1, val_main_call0_v6, val_main_call0_v7, val_main_v6_1, val_main_v6_0, val_main_v7, val_main_v8, val_main_v9, val_main_v10, val_main_v11, val_main_v12, val_main_v13, val_main_cst, val_main_v14, val_main_v15, val_main_v16, val_main_v17, val_main_v18, val_main_v19, val_main_v20, val_main_call1_v0, val_main_call1_v1, val_main_call1_v2, val_main_v21, val_main_v22, val_main_cst_0, val_main_v23, val_main_v24, val_main_v25, val_main_v26, val_main_v27, val_main_v28, val_main_v29, val_main_v30, val_main_v31, val_main_v32, val_main_v33, val_main_v34, val_main_c, val_main_call2_v0, val_main_v35, Model.dd, Model.dg, Model.dy, Model.dp, Model.gwoAt, Model.gpwAt, Model.gpsAt, Gate.sgT_eq]
  simp only [Nat.mul_comm _ 512, Ideal.logistic]
  exact Gate.gate_grad (Gate.Re.sum _ _ fun k => ((h5 _).mul (h0 _)).mul (h6 _)) ((groups_real x1 x3 h1 h3 i).mul (h4 _)) (h2 i)
    (h2 i).logistic

theorem read_v17 (i : S2048x1024.Idx) : val_main_v17 (F := Ideal) x0 x1 x2 x3 x4 x5 i = ∑ R : Fin 8192, Model.gwoAt x0 (val_main_v3 (F := Ideal) x1 x3) x2 x4 x5 R (i 0) (i 1) := by
  pointwise [val_main_v4, val_main_v5, val_main_call0_v0, val_main_call0_v1, val_main_call0_cst, val_main_call0_v2, val_main_call0_v3, val_main_call0_cst_0, val_main_call0_v4, val_main_v6_2, val_main_call0_cst_1, val_main_call0_v6, val_main_call0_v7, val_main_v6_1, val_main_v6_0, val_main_v7, val_main_v8, val_main_v9, val_main_v10, val_main_v11, val_main_v12, val_main_v13, val_main_cst, val_main_v14, val_main_v15, val_main_v16, val_main_v17, val_main_v18, val_main_v19, val_main_v20, val_main_call1_v0, val_main_call1_v1, val_main_call1_v2, val_main_v21, val_main_v22, val_main_cst_0, val_main_v23, val_main_v24, val_main_v25, val_main_v26, val_main_v27, val_main_v28, val_main_v29, val_main_v30, val_main_v31, val_main_v32, val_main_v33, val_main_v34, val_main_c, val_main_call2_v0, val_main_v35, Model.dd, Model.dg, Model.dy, Model.dp, Model.gwoAt, Model.gpwAt, Model.gpsAt, Gate.sgT_eq]
  simp only [Nat.mul_comm _ 512, Ideal.logistic]
  exact Finset.sum_congr rfl fun _ _ => mul_comm _ _

theorem read_v32 (i : S4x512x512.Idx) : val_main_v32 (F := Ideal) x0 x1 x2 x4 x5 x6 i = ∑ R : Fin 8192, Model.gpwAt x0 x1 x2 x4 x5 x6 R (i 0) (i 1) (i 2) := by
  pointwise [val_main_v4, val_main_v5, val_main_call0_v0, val_main_call0_v1, val_main_call0_cst, val_main_call0_v2, val_main_call0_v3, val_main_call0_cst_0, val_main_call0_v4, val_main_v6_2, val_main_call0_cst_1, val_main_call0_v6, val_main_call0_v7, val_main_v6_1, val_main_v6_0, val_main_v7, val_main_v8, val_main_v9, val_main_v10, val_main_v11, val_main_v12, val_main_v13, val_main_cst, val_main_v14, val_main_v15, val_main_v16, val_main_v17, val_main_v18, val_main_v19, val_main_v20, val_main_call1_v0, val_main_call1_v1, val_main_call1_v2, val_main_v21, val_main_v22, val_main_cst_0, val_main_v23, val_main_v24, val_main_v25, val_main_v26, val_main_v27, val_main_v28, val_main_v29, val_main_v30, val_main_v31, val_main_v32, val_main_v33, val_main_v34, val_main_c, val_main_call2_v0, val_main_v35, val_main_v0, Model.dd, Model.dg, Model.dy, Model.dp, Model.gwoAt, Model.gpwAt, Model.gpsAt, Gate.sgT_eq]
  simp only [Nat.mul_comm _ 512, Ideal.logistic]
  exact Finset.sum_congr rfl fun _ _ => mul_comm _ _

theorem read_v35 (i : S8x2048.Idx) : val_main_v35 (F := Ideal) x0 x1 x2 x3 x5 x6 i = if (i 0).val = 0 then ∑ R : Fin 8192, Model.gpsAt x0 (val_main_v3 (F := Ideal) x1 x3) x2 x5 x6 R (i 1) else 0 := by
  pointwise [val_main_v4, val_main_v5, val_main_call0_v0, val_main_call0_v1, val_main_call0_cst, val_main_call0_v2, val_main_call0_v3, val_main_call0_cst_0, val_main_call0_v4, val_main_v6_2, val_main_call0_cst_1, val_main_call0_v6, val_main_call0_v7, val_main_v6_1, val_main_v6_0, val_main_v7, val_main_v8, val_main_v9, val_main_v10, val_main_v11, val_main_v12, val_main_v13, val_main_cst, val_main_v14, val_main_v15, val_main_v16, val_main_v17, val_main_v18, val_main_v19, val_main_v20, val_main_call1_v0, val_main_call1_v1, val_main_call1_v2, val_main_v21, val_main_v22, val_main_cst_0, val_main_v23, val_main_v24, val_main_v25, val_main_v26, val_main_v27, val_main_v28, val_main_v29, val_main_v30, val_main_v31, val_main_v32, val_main_v33, val_main_v34, val_main_c, val_main_call2_v0, val_main_v35, Model.dd, Model.dg, Model.dy, Model.dp, Model.gwoAt, Model.gpwAt, Model.gpsAt, Gate.sgT_eq]
  simp only [Nat.mul_comm _ 512, Ideal.logistic]
  by_cases h : (i 0).val = 0
  · rw [dif_pos (by omega), if_pos h]
    exact Finset.sum_congr rfl fun _ _ => mul_comm _ _
  · rw [dif_neg (by omega), if_neg h]
    show (((0#32 : BitVec 32).toInt : ℝ) : EReal) = 0
    simp

end Cert.ReferenceIdeal.Read

end
-- ==== Proof.InModel.lean ====
/- What the gradient of the modulated in-projection `(x·(1 + sc) + sh) · w` is, entry by entry, on the extended reals, where the
   products' cotangent comes in two halves, `du` for the first 2048 columns and `dg` for the last. `R` is a row (a token), `i` one
   of the 1024 inputs; the columns come in eight blocks of 512. Both programs are read to these formulas. -/
module
public import Idealize.ShloMosaic.Lib.Pointwise
@[expose] public section
noncomputable section
namespace Cert.InModel
open Idealize.ShloMosaic

/-- The arrays of the call, by their shapes. -/
abbrev Tok : Shape := ⟨2, ![8192, 1024]⟩
abbrev Chan : Shape := ⟨2, ![8192, 2048]⟩
abbrev Row : Shape := ⟨2, ![1, 1024]⟩
abbrev Blk : Shape := ⟨3, ![8, 1024, 512]⟩
abbrev Half : Shape := ⟨3, ![4, 1024, 512]⟩
abbrev Wt : Shape := ⟨2, ![1024, 4096]⟩
abbrev WtHalf : Shape := ⟨2, ![1024, 2048]⟩

/-- The weights in column blocks, and the first half of the columns in column blocks. -/
def wBlk (W : Wt.Idx → EReal) (b : Blk.Idx) : EReal := W (ix2 (b 1) ⟨(b 0).val * 512 + (b 2).val, by
  have : (b 0).val < 8 := (b 0).isLt; have : (b 2).val < 512 := (b 2).isLt; omega⟩)
def halfBlk (W : WtHalf.Idx → EReal) (b : Half.Idx) : EReal := W (ix2 (b 1) ⟨(b 0).val * 512 + (b 2).val, by
  have : (b 0).val < 4 := (b 0).isLt; have : (b 2).val < 512 := (b 2).isLt; omega⟩)

/-- The projection's input: the token, modulated. -/
def h (X : Tok.Idx → EReal) (SC SH : Row.Idx → EReal) (R : Fin 8192) (i : Fin 1024) : EReal :=
  X (ix2 R i) * (1 + SC (ix2 0 i)) + SH (ix2 0 i)

/-- One column block's part of the gradient at the projection's input; `D` is the cotangent's half, `k` the block in it, `kw` the
    block in `W`. -/
def blk (D : Chan.Idx → EReal) (W : Blk.Idx → EReal) (k : Fin 4) (kw : Fin 8) (R : Fin 8192) (i : Fin 1024) : EReal :=
  ∑ l : Fin 512, D (ix2 R ⟨512 * k + l, by omega⟩) * W (ix3 kw i l)

/-- The gradient at the projection's input. -/
def dh (DU DG : Chan.Idx → EReal) (W : Blk.Idx → EReal) (R : Fin 8192) (i : Fin 1024) : EReal :=
  blk DU W 0 0 R i + blk DU W 1 1 R i + blk DU W 2 2 R i + blk DU W 3 3 R i
    + blk DG W 0 4 R i + blk DG W 1 5 R i + blk DG W 2 6 R i + blk DG W 3 7 R i

/-- A sum over half of the columns, by its four blocks. -/
theorem sum_half (f : Fin 2048 → EReal) : ∑ x, f x = ∑ k : Fin 4, ∑ l : Fin 512, f ⟨512 * k + l, by omega⟩ := by
  rw [← Fintype.sum_prod_type' (f := fun (k : Fin 4) (l : Fin 512) => f ⟨512 * k + l, by omega⟩)]
  refine (Fintype.sum_equiv (finProdFinEquiv (m := 4) (n := 512)) _ f fun p => congrArg f (Fin.ext ?_)).symm
  show 512 * p.1.val + p.2.val = p.2.val + 512 * p.1.val
  omega

/-- The gradient at the projection's input, from the weights as they are given: two sums, each over half of the columns. -/
theorem dh_eq (DU DG : Chan.Idx → EReal) (W : Wt.Idx → EReal) (R : Fin 8192) (i : Fin 1024) :
    ∑ x : Fin 2048, DU (ix2 R x) * W (ix2 i ⟨x.val, by omega⟩) + ∑ x : Fin 2048, DG (ix2 R x) * W (ix2 i ⟨2048 + x.val, by omega⟩)
      = dh DU DG (wBlk W) R i := by
  have e : ∀ (D : Chan.Idx → EReal) (o : Nat) (k : Fin 4) (kw : Fin 8) (ho : o ≤ 2048), kw.val * 512 = o + 512 * k.val →
      ∑ l : Fin 512, D (ix2 R ⟨512 * k + l, by omega⟩) * W (ix2 i ⟨o + (512 * k.val + l.val), by omega⟩) = blk D (wBlk W) k kw R i := by
    intro D o k kw ho h
    refine Finset.sum_congr rfl fun l _ => congrArg (_ * W ·) (congrArg (ix2 i) (Fin.ext ?_))
    show o + (512 * k.val + l.val) = kw.val * 512 + l.val
    omega
  have e0 : ∀ (k : Fin 4) (kw : Fin 8), kw.val = k.val →
      ∑ l : Fin 512, DU (ix2 R ⟨512 * k + l, by omega⟩) * W (ix2 i ⟨512 * k.val + l.val, by omega⟩) = blk DU (wBlk W) k kw R i := by
    intro k kw h
    refine (Finset.sum_congr rfl fun l _ => congrArg (_ * W ·) (congrArg (ix2 i) (Fin.ext ?_))).trans
      (e DU 0 k kw (by omega) (by omega))
    exact (Nat.zero_add _).symm
  rw [sum_half, sum_half, Fin.sum_univ_four, Fin.sum_univ_four, e0 0 0 rfl, e0 1 1 rfl, e0 2 2 rfl, e0 3 3 rfl,
    e DG 2048 0 4 le_rfl rfl, e DG 2048 1 5 le_rfl rfl, e DG 2048 2 6 le_rfl rfl, e DG 2048 3 7 le_rfl rfl]
  simp only [dh, add_assoc]

/-- The gradient with respect to the token: the residual's share (by the word of its factor) and the projection's. -/
def dx (DU DG : Chan.Idx → EReal) (DZ : Tok.Idx → EReal) (SC : Row.Idx → EReal) (W : Blk.Idx → EReal) (R : Fin 8192)
    (i : Fin 1024) : EReal :=
  Ideal.ofBits .f32 0x3FB504F3#32 * DZ (ix2 R i) + dh DU DG W R i * (1 + SC (ix2 0 i))

/-- Row `R`'s part of the gradient with respect to column block `k` of the weights. -/
def gwAt (DU DG : Chan.Idx → EReal) (X : Tok.Idx → EReal) (SC SH : Row.Idx → EReal) (R : Fin 8192) (k : Fin 8) (i : Fin 1024)
    (l : Fin 512) : EReal :=
  h X SC SH R i * if hk : k.val < 4 then DU (ix2 R ⟨512 * k + l, by omega⟩) else DG (ix2 R ⟨512 * (k - 4) + l, by omega⟩)

/-- What the gradient of the weights starts from: `init` on the first half of the columns, nothing on the other. -/
def gwInit (init : Half.Idx → EReal) (k : Fin 8) (i : Fin 1024) (l : Fin 512) : EReal :=
  if hk : k.val < 4 then init (ix3 ⟨k, hk⟩ i l) else 0

/-- Row `R`'s part of the modulation's gradients: the scale's in the first of eight rows, the shift's in the second. -/
def stAt (DU DG : Chan.Idx → EReal) (X : Tok.Idx → EReal) (W : Blk.Idx → EReal) (R : Fin 8192) (y : Fin 8) (i : Fin 1024) : EReal :=
  if y.val = 0 then dh DU DG W R i * X (ix2 R i) else if y.val = 1 then dh DU DG W R i else 0

/-- One entry of the projection itself: column `q` of the half that starts at column block `o`. -/
def proj (H : Fin 8192 → Fin 1024 → EReal) (W : Blk.Idx → EReal) (o : Nat) (ho : o ≤ 4) (R : Fin 8192) (q : Fin 2048) : EReal :=
  ∑ i : Fin 1024, H R i * W (ix3 ⟨o + q / 512, by omega⟩ i ⟨q % 512, by omega⟩)

/-- The projection's entry, from the weights as they are given. -/
theorem proj_lo (H : Fin 8192 → Fin 1024 → EReal) (W : Wt.Idx → EReal) (R : Fin 8192) (q : Fin 2048) :
    ∑ i : Fin 1024, H R i * W (ix2 i ⟨q.val, by omega⟩) = proj H (wBlk W) 0 (by omega) R q := by
  refine Finset.sum_congr rfl fun i _ => congrArg (_ * W ·) (congrArg (ix2 i) (Fin.ext ?_))
  show q.val = (0 + q.val / 512) * 512 + q.val % 512
  omega

theorem proj_hi (H : Fin 8192 → Fin 1024 → EReal) (W : Wt.Idx → EReal) (R : Fin 8192) (q : Fin 2048) :
    ∑ i : Fin 1024, H R i * W (ix2 i ⟨2048 + q.val, by omega⟩) = proj H (wBlk W) 4 (by omega) R q := by
  refine Finset.sum_congr rfl fun i _ => congrArg (_ * W ·) (congrArg (ix2 i) (Fin.ext ?_))
  show 2048 + q.val = (4 + q.val / 512) * 512 + q.val % 512
  omega

end Cert.InModel

end
-- ==== Proof.In0Blocks.lean ====
/- The in-projection's backward call of layer 0: its grid's blocks and the arrays it takes, by short names. -/
module
public import proofs.«01_k».proof.Proof.Gen.Kernel2Ideal.Value
public import proofs.«01_k».proof.Proof.InModel
public import proofs.«01_k».proof.Proof.Rows
@[expose] public section
set_option maxRecDepth 16384
noncomputable section
open Idealize.ShloMosaic Idealize.ShloMosaic.TcCoe Idealize.SL.Sem
namespace Cert.Kernel2Ideal.Value
open Cert.Kernel2Ideal Cert.Kernel2Ideal.Gen
variable (m : (ℓ : Loc nD τ sig) → Buf (Elt Ideal) ℓ)

/-- Where each window's block lies at a grid point: 512 rows of the token arrays, the whole of the others. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![t.val, 0] ∧ win0_8.index t = ![0, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The three kinds of grid point: the first, those between, the last. -/
theorem point_cases (t : Fin cfg0.N) : (t.val % 16 = 0 ∧ ¬t.val % 16 = 15) ∨ (¬t.val % 16 = 0 ∧ ¬t.val % 16 = 15)
    ∨ (¬t.val % 16 = 0 ∧ t.val % 16 = 15) := by omega

/-- The argument arrays of the call; the weights and the start of their gradient as the host lays them out, in column blocks. -/
abbrev aDU (c : Dev nD) : InModel.Chan.Idx → EReal := m ((c : Thread nD τ).loc main_arg0)
abbrev aDG (c : Dev nD) : InModel.Chan.Idx → EReal := m ((c : Thread nD τ).loc main_arg1)
abbrev aX (c : Dev nD) : InModel.Tok.Idx → EReal := m ((c : Thread nD τ).loc main_arg2)
abbrev aDZ (c : Dev nD) : InModel.Tok.Idx → EReal := m ((c : Thread nD τ).loc main_arg3)
abbrev aSC (c : Dev nD) : InModel.Row.Idx → EReal := m ((c : Thread nD τ).loc main_arg4)
abbrev aSH (c : Dev nD) : InModel.Row.Idx → EReal := m ((c : Thread nD τ).loc main_arg5)
abbrev aW (c : Dev nD) : InModel.Blk.Idx → EReal := V m c main_v2
abbrev aI (c : Dev nD) : InModel.Half.Idx → EReal := V m c main_v4

end Cert.Kernel2Ideal.Value
end
-- ==== Proof.In0Dx.lean ====
/- The gradient with respect to the tokens: every grid point writes its own 512 rows. -/
module
public import proofs.«01_k».proof.Proof.In0Blocks
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
variable (m : (ℓ : Loc nD τ sig) → Buf (Elt Ideal) ℓ)

theorem dx_point (c : Dev nD) (t : Fin cfg0.N) (y : S512x1024.Idx) :
    (outsAt0 m c t.val t.isLt).1 y = InModel.dx (aDU m c) (aDG m c) (aDZ m c) (aSC m c) (aW m c) (row t (y 0)) (y 1) := by
  have ht := lt16 t
  rcases point_cases t with ⟨h0, h1⟩ | ⟨h0, h1⟩ | ⟨h0, h1⟩
  · rw [outsAt0_A m c t h0 h1]; frame_out
    open_payloads
    pointwise [InModel.dx, InModel.dh, InModel.blk, row, Rows.row, aDU, aDG, aDZ, aSC, aW]
    blk_point [iblk, idx_val t]
  · rw [outsAt0_B m c t h0 h1]; frame_out
    open_payloads
    pointwise [InModel.dx, InModel.dh, InModel.blk, row, Rows.row, aDU, aDG, aDZ, aSC, aW]
    blk_point [iblk, idx_val t]
  · rw [outsAt0_C m c t h0 h1]; frame_out
    open_payloads
    pointwise [InModel.dx, InModel.dh, InModel.blk, row, Rows.row, aDU, aDG, aDZ, aSC, aW]
    blk_point [iblk, idx_val t]

/-- The first result, whole: the gradient with respect to the tokens. -/
theorem dx_final (c : Dev nD) : (dats m 0 c).arrAt 7 (cfgs 0).N
    = fun i : S8192x1024.Idx => InModel.dx (aDU m c) (aDG m c) (aDZ m c) (aSC m c) (aW m c) (i 0) (i 1) := by
  refine (dats m 0 c).arrAt_eq_of_covers 7 _ (by decide +kernel) fun t _ y => ?_
  blk_simp
  rw [after0_7]
  refine (dx_point m c t y).trans ?_
  have e := idx_val t
  refine congrArg₂ (InModel.dx _ _ _ _ _) (Fin.ext ?_) (Fin.ext ?_) <;> blk_simp [e, row, Rows.row]

end Cert.Kernel2Ideal.Value

end
-- ==== Proof.In0Gw.lean ====
/- The weights' gradient: the accumulator over the grid points, which starts from a given first half, and its copy to the result. -/
module
public import proofs.«01_k».proof.Proof.In0Blocks
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
open Cert.Rows (canon_drop)
variable (m : (ℓ : Loc nD τ sig) → Buf (Elt Ideal) ℓ)

/-- What row `R` adds to the weights' gradient. -/
def gwRow (c : Dev nD) (R : Fin 8192) (y : S8x1024x512.Idx) : EReal :=
  InModel.gwAt (aDU m c) (aDG m c) (aX m c) (aSC m c) (aSH m c) R (y 0) (y 1) (y 2)

theorem gwRow_lo (c : Dev nD) (R : Fin 8192) (y : S8x1024x512.Idx) (hk : (y 0).val < 4) : gwRow m c R y
    = InModel.h (aX m c) (aSC m c) (aSH m c) R (y 1) * aDU m c (ix2 R ⟨512 * (y 0).val + (y 2).val, by
        have : (y 2).val < 512 := (y 2).isLt; omega⟩) :=
  congrArg (_ * ·) (dif_pos hk)

theorem gwRow_hi (c : Dev nD) (R : Fin 8192) (y : S8x1024x512.Idx) (hk : ¬(y 0).val < 4) : gwRow m c R y
    = InModel.h (aX m c) (aSC m c) (aSH m c) R (y 1) * aDG m c (ix2 R ⟨512 * ((y 0).val - 4) + (y 2).val, by
        have : (y 2).val < 512 := (y 2).isLt; have : (y 0).val < 8 := (y 0).isLt; omega⟩) :=
  congrArg (_ * ·) (dif_neg hk)

/-- The eight column blocks fill the gradient. -/
theorem gw_cover {w₇ w₆ w₅ w₄ w₃ w₂ w₁ w₀ : S1x1024x512.Idx → EReal} (y : S8x1024x512.Idx) :
    ∃ q ∈ ([⟨Rect.unit ![7, 0, 0] S1x1024x512.size inb_S8x1024x512_S1x1024x512_7_0_0, w₇⟩,
      ⟨Rect.unit ![6, 0, 0] S1x1024x512.size inb_S8x1024x512_S1x1024x512_6_0_0, w₆⟩,
      ⟨Rect.unit ![5, 0, 0] S1x1024x512.size inb_S8x1024x512_S1x1024x512_5_0_0, w₅⟩,
      ⟨Rect.unit ![4, 0, 0] S1x1024x512.size inb_S8x1024x512_S1x1024x512_4_0_0, w₄⟩,
      ⟨Rect.unit ![3, 0, 0] S1x1024x512.size inb_S8x1024x512_S1x1024x512_3_0_0, w₃⟩,
      ⟨Rect.unit ![2, 0, 0] S1x1024x512.size inb_S8x1024x512_S1x1024x512_2_0_0, w₂⟩,
      ⟨Rect.unit ![1, 0, 0] S1x1024x512.size inb_S8x1024x512_S1x1024x512_1_0_0, w₁⟩,
      ⟨Rect.unit ![0, 0, 0] S1x1024x512.size inb_S8x1024x512_S1x1024x512_0_0_0, w₀⟩] : List (View.Piece (Elt Ideal) S8x1024x512 .f32)), y ∈ q.1.set :=
  View.cover_of_tiled_head _ _ _ rfl y

theorem gw_A (c : Dev nD) (t : Fin cfg0.N) (h0 : t.val % 16 = 0) (h1 : ¬t.val % 16 = 15) (y : S8x1024x512.Idx) :
    (outsAt0 m c t.val t.isLt).2.2.1 y = InModel.gwInit (aI m c) (y 0) (y 1) (y 2) + ∑ r : Fin 512, gwRow m c (row t r) y := by
  have ht := lt16 t
  rw [outsAt0_A m c t h0 h1]
  frame_open
  simp (disch := decide) only [↓ View.readCov_skip, ↓ View.readCov_cons_toLoadRect, ↓ Rows.readCov_inner]
  frame_out
  refine (canon_drop [_, _, _, _, _] [_, _, _, _, _, _, _, _] y ?_).trans ?_
  · exact gw_cover y
  by_cases hk : (y 0).val < 4
  · rw [Finset.sum_congr rfl fun r _ => gwRow_lo m c (row t r) y hk,
      show InModel.gwInit (aI m c) (y 0) (y 1) (y 2) = aI m c (ix3 ⟨(y 0).val, hk⟩ (y 1) (y 2)) from dif_pos hk]
    canon_tiles x h
    all_goals first
      | (exfalso; omega)
      | (open_payloads
         pointwise [InModel.h, row, Rows.row, aDU, aX, aSC, aSH, aI]
         refine congrArg₂ (· + ·) ?_ ?_
         · refine congrArg (V m c main_v4) (funext fun a => Fin.ext ?_)
           fin_cases a <;> simp [ix3] <;> omega
         · blk_point [iblk, idx_val t])
  · rw [Finset.sum_congr rfl fun r _ => gwRow_hi m c (row t r) y hk,
      show InModel.gwInit (aI m c) (y 0) (y 1) (y 2) = 0 from dif_neg hk]
    canon_tiles x h
    all_goals first
      | (exfalso; omega)
      | (open_payloads
         pointwise [InModel.h, row, Rows.row, aDG, aX, aSC, aSH]
         blk_point [iblk, idx_val t])

theorem gw_B (c : Dev nD) (t : Fin cfg0.N) (h0 : ¬t.val % 16 = 0) (h1 : ¬t.val % 16 = 15) (y : S8x1024x512.Idx) :
    (outsAt0 m c t.val t.isLt).2.2.1 y = (show EReal from (outsAt0 m c (t.val - 1) (Nat.lt_of_le_of_lt (Nat.sub_le _ _) t.isLt)).2.2.1 y)
      + ∑ r : Fin 512, gwRow m c (row t r) y := by
  have ht := lt16 t
  rw [outsAt0_B m c t h0 h1]; frame_out
  simp only [read_unread_whole]
  by_cases hk : (y 0).val < 4
  · rw [Finset.sum_congr rfl fun r _ => gwRow_lo m c (row t r) y hk]
    canon_tiles x h
    all_goals first
      | (exfalso; omega)
      | (open_payloads
         pointwise [InModel.h, row, Rows.row, aDU, aX, aSC, aSH]
         blk_point [iblk, idx_val t])
  · rw [Finset.sum_congr rfl fun r _ => gwRow_hi m c (row t r) y hk]
    canon_tiles x h
    all_goals first
      | (exfalso; omega)
      | (open_payloads
         pointwise [InModel.h, row, Rows.row, aDG, aX, aSC, aSH]
         blk_point [iblk, idx_val t])

theorem gw_CB (c : Dev nD) (t : Fin cfg0.N) (h0 : ¬t.val % 16 = 0) (h1 : t.val % 16 = 15) (y : S8x1024x512.Idx) :
    (outsAt0 m c t.val t.isLt).2.2.1 y = (show EReal from (outsAt0 m c (t.val - 1) (Nat.lt_of_le_of_lt (Nat.sub_le _ _) t.isLt)).2.2.1 y)
      + ∑ r : Fin 512, gwRow m c (row t r) y := by
  have ht := lt16 t
  rw [outsAt0_C m c t h0 h1]; frame_out
  simp only [read_unread_whole]
  by_cases hk : (y 0).val < 4
  · rw [Finset.sum_congr rfl fun r _ => gwRow_lo m c (row t r) y hk]
    canon_tiles x h
    all_goals first
      | (exfalso; omega)
      | (open_payloads
         pointwise [InModel.h, row, Rows.row, aDU, aX, aSC, aSH]
         blk_point [iblk, idx_val t])
  · rw [Finset.sum_congr rfl fun r _ => gwRow_hi m c (row t r) y hk]
    canon_tiles x h
    all_goals first
      | (exfalso; omega)
      | (open_payloads
         pointwise [InModel.h, row, Rows.row, aDG, aX, aSC, aSH]
         blk_point [iblk, idx_val t])

theorem gw_C (c : Dev nD) (t : Fin cfg0.N) (h0 : ¬t.val % 16 = 0) (h1 : t.val % 16 = 15)  :
    (outsAt0 m c t.val t.isLt).2.2.2 = (outsAt0 m c t.val t.isLt).2.2.1 := by
  rw [outsAt0_C m c t h0 h1]
  dsimp only [hbw0_C_1, sout0_C_0]
  unfold kernelRun0_C
  dsimp only
  refine (View.write_whole_univ _ _ _).trans ?_
  unfold kernelRun0_C.sl.dma52
  refine View.read_writes_of_cover _ _ _ _ _ fun y => ?_
  unfold kernelRun0_C.sl.HS0_8
  exact gw_cover y

/-- The copy of the accumulator after the last point, whole. -/
theorem gw_last (c : Dev nD) (t : Fin cfg0.N) (ht : t.val % 16 = 16 - 1) : (outsAt0 m c t.val t.isLt).2.2.2
    = fun y : S8x1024x512.Idx => InModel.gwInit (aI m c) (y 0) (y 1) (y 2) + ∑ R : Fin 8192, gwRow m c R y := by
  rw [gw_C m c t (by omega) ht]
  funext y
  exact Rows.acc_total N_0 (fun n h => (outsAt0 m c n h).2.2.1) (fun y => InModel.gwInit (aI m c) (y 0) (y 1) (y 2)) (gwRow m c)
    (fun t h i => gw_A m c t h (by omega) i) (fun t h i => by
      by_cases h1 : t.val % 16 = 15
      · exact gw_CB m c t h h1 i
      · exact gw_B m c t h h1 i) t ht y

end Cert.Kernel2Ideal.Value

end
-- ==== Proof.In0Run.lean ====
/- What the in-projection's backward call of layer 0 leaves in its three results, as formulas over the arrays it is given. -/
module
public import proofs.«01_k».proof.Proof.In0Dx
public import proofs.«01_k».proof.Proof.In0Gw
public import proofs.«01_k».proof.Proof.In0St
public import Idealize.ShloMosaic.Lib.Claim
@[expose] public section
set_option maxRecDepth 16384
noncomputable section
open Idealize.ShloMosaic Idealize.ShloMosaic.TcCoe Idealize.SL.Sem
namespace Cert.Kernel2Ideal.Value
open Cert.Kernel2Ideal Cert.Kernel2Ideal.Gen
variable (m : (ℓ : Loc nD τ sig) → Buf (Elt Ideal) ℓ) (ρ : Dev nD → PrngReg)

/-- The weights and the given part of their gradient, as the program takes them. -/
abbrev wt (c : Dev nD) : InModel.Wt.Idx → EReal := m ((c : Thread nD τ).loc main_arg6)
abbrev ctx (c : Dev nD) : InModel.WtHalf.Idx → EReal := m ((c : Thread nD τ).loc main_arg7)

theorem w_eq (c : Dev nD) : aW m c = InModel.wBlk (wt m c) := by
  funext i
  show V m c main_v2 i = _
  entry_read
  pointwise [InModel.wBlk, wt]

theorem init_eq (c : Dev nD) : aI m c = InModel.halfBlk (ctx m c) := by
  funext i
  show V m c main_v4 i = _
  entry_read
  pointwise [InModel.halfBlk, ctx]

/-- The gradients the call leaves: the tokens', the weights' in column blocks, the modulation's. -/
def outDx (c : Dev nD) : S8192x1024.Idx → EReal :=
  fun i => InModel.dx (aDU m c) (aDG m c) (aDZ m c) (aSC m c) (InModel.wBlk (wt m c)) (i 0) (i 1)
def outGw (c : Dev nD) : S8x1024x512.Idx → EReal := fun y => InModel.gwInit (InModel.halfBlk (ctx m c)) (y 0) (y 1) (y 2)
  + ∑ R : Fin 8192, InModel.gwAt (aDU m c) (aDG m c) (aX m c) (aSC m c) (aSH m c) R (y 0) (y 1) (y 2)
def outSt (c : Dev nD) : S8x1024.Idx → EReal :=
  fun y => ∑ R : Fin 8192, InModel.stAt (aDU m c) (aDG m c) (aX m c) (InModel.wBlk (wt m c)) R (y 0) (y 1)

theorem dx_out (c : Dev nD) : (dats m 0 c).arrAt 7 (cfgs 0).N = outDx m c := by
  refine (dx_final m c).trans ?_
  rw [w_eq]
  rfl

theorem gw_out (c : Dev nD) (n : Nat) (h : n < cfg0.N) (hn : n % 16 = 16 - 1) : (outsAt0 m c n h).2.2.2 = outGw m c := by
  refine (gw_last m c ⟨n, h⟩ hn).trans ?_
  rw [init_eq]
  rfl

theorem st_out (c : Dev nD) : (dats m 0 c).arrAt 8 (cfgs 0).N = outSt m c := by
  refine (st_final m c).trans ?_
  unfold stRow
  rw [w_eq]
  rfl

theorem last_mod : ((Fin.last cfg0.N).val - 1) % 16 = 16 - 1 := by rw [Fin.val_last, show cfg0.N = 16 from N_0]

theorem run_model : θ_run defs (onTc (τ := τ) (main (F := Ideal))) ⟨m, fun _ => 0, ρ⟩ fun r => ∀ c : Dev nD,
      r.2.mem ((c : Thread nD τ).loc main_v7_0) = outDx m c
      ∧ r.2.mem ((c : Thread nD τ).loc main_v7_1) = outGw m c
      ∧ r.2.mem ((c : Thread nD τ).loc main_v7_2) = outSt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_blocks m ρ)
  obtain ⟨hdx, hst, a0, a1, a2, a3, a4, a5, a6, a7, hgw⟩ := h c
  exact ⟨hdx.trans (dx_out m c), hgw.trans (gw_out m c _ _ last_mod), hst.trans (st_out m c), a0, a1, a2, a3, a4, a5, a6, a7⟩

end Cert.Kernel2Ideal.Value
end
-- ==== Proof.In0Ref.lean ====
/- The reference's results for the in-projection of layer 0, read at an index. -/
module
public import proofs.«01_k».proof.Proof.Gen.Reference2Ideal.Read
public import Idealize.ShloMosaic.Lib.Pointwise
public import Idealize.ShloMosaic.Lib.Claim
public import proofs.«01_k».proof.Proof.InModel
@[expose] public section
set_option maxRecDepth 16384
noncomputable section
open Idealize.ShloMosaic Idealize.ShloMosaic.TcCoe Idealize.SL.Sem Idealize.ShloMosaic.StableHlo
namespace Cert.Reference2Ideal.Read
open Cert.Reference2Ideal Cert.Reference2Ideal.Gen
variable (x0 x1 : InModel.Chan.Idx → EReal) (x2 x3 : InModel.Tok.Idx → EReal) (x4 x5 : InModel.Row.Idx → EReal)
  (x6 : InModel.Wt.Idx → EReal) (x7 : InModel.WtHalf.Idx → EReal)

theorem read_v12 (i : S8192x1024.Idx) : val_main_v12 (F := Ideal) x0 x1 x6 i = InModel.dh x0 x1 (InModel.wBlk x6) (i 0) (i 1) := by
  pointwise [val_main_v12, val_main_v9]
  exact InModel.dh_eq x0 x1 x6 (i 0) (i 1)

theorem read_v22 (i : S8192x1024.Idx) : val_main_v22 (F := Ideal) x0 x1 x3 x4 x6 i
    = InModel.dx x0 x1 x3 x4 (InModel.wBlk x6) (i 0) (i 1) := by
  pointwise [val_main_v22, val_main_v21, val_main_v14, val_main_v13, val_main_cst_1, val_main_v20, val_main_v1, val_main_v0, val_main_cst,
    read_v12, InModel.dx]

theorem read_v26 (i : S8x1024x512.Idx) : val_main_v26 (F := Ideal) x0 x1 x2 x4 x5 x7 i
    = InModel.gwInit (InModel.halfBlk x7) (i 0) (i 1) (i 2) + ∑ R : Fin 8192, InModel.gwAt x0 x1 x2 x4 x5 R (i 0) (i 1) (i 2) := by
  have hl : (i 2).val < 512 := (i 2).isLt
  pointwise [val_main_v26, val_main_v25, val_main_v24, val_main_v23, val_main_c, val_main_call0_v0, val_main_v11, val_main_v10,
    val_main_v9, val_main_v5, val_main_v4, val_main_v3, val_main_v2, val_main_v1, val_main_v0, val_main_cst, InModel.gwAt, InModel.h,
    InModel.gwInit, InModel.halfBlk]
  refine (add_comm _ _).trans ?_
  by_cases hk : (i 0).val < 4
  · simp only [dif_pos hk, dif_pos (show (i 0).val * 512 + (i 2).val < 2048 by omega)]
    refine congrArg (_ + ·) (Finset.sum_congr rfl fun R _ => (mul_comm _ _).trans ?_)
    refine congrArg (_ * x0 ·) (congrArg (ix2 R) (Fin.ext ?_))
    show (i 0).val * 512 + (i 2).val = 512 * (i 0).val + (i 2).val
    omega
  · simp only [dif_neg hk, dif_neg (show ¬(i 0).val * 512 + (i 2).val < 2048 by omega)]
    refine congrArg₂ (· + ·) ?_ (Finset.sum_congr rfl fun R _ => (mul_comm _ _).trans ?_)
    · show (((0#32 : BitVec 32).toInt : ℝ) : EReal) = 0
      simp
    · refine congrArg (_ * x1 ·) (congrArg (ix2 R) (Fin.ext ?_))
      show (i 0).val * 512 + (i 2).val - 2048 = 512 * ((i 0).val - 4) + (i 2).val
      omega

theorem read_v28 (i : S8x1024.Idx) : val_main_v28 (F := Ideal) x0 x1 x2 x6 i
    = ∑ R : Fin 8192, InModel.stAt x0 x1 x2 (InModel.wBlk x6) R (i 0) (i 1) := by
  pointwise [val_main_v28, val_main_v27, val_main_v19, val_main_v16, val_main_v15, val_main_v18, val_main_v17, val_main_c_4, val_main_cst_2,
    val_main_cst_3, val_main_call1_v0, read_v12, InModel.stAt]
  by_cases h0 : (i 0).val = 0
  · rw [dif_pos (by omega), dif_pos (by omega)]
    exact Finset.sum_congr rfl fun R _ => (mul_comm _ _).trans (if_pos h0).symm
  by_cases h1 : (i 0).val = 1
  · rw [dif_pos (by omega), dif_neg (by omega)]
    exact Finset.sum_congr rfl fun R _ => ((if_neg h0).trans (if_pos h1)).symm
  · rw [dif_neg (by omega)]
    refine Eq.trans ?_ (Finset.sum_eq_zero fun R _ => (if_neg h0).trans (if_neg h1)).symm
    show (((0#32 : BitVec 32).toInt : ℝ) : EReal) = 0
    simp

end Cert.Reference2Ideal.Read

end
-- ==== Proof.In1Dx.lean ====
/- The in-projection's backward call of layer 1: its blocks and arrays, and the gradient with respect to the tokens. -/
module
public import proofs.«01_k».proof.Proof.Gen.Kernel3Ideal.Value
public import proofs.«01_k».proof.Proof.InModel
public import proofs.«01_k».proof.Proof.Rows
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen
variable (m : (ℓ : Loc nD τ sig) → Buf (Elt Ideal) ℓ)

/-- Where each window's block lies at a grid point: 512 rows of the token arrays, the whole of the others. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![t.val, 0] ∧ win0_8.index t = ![0, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The three kinds of grid point: the first, those between, the last. -/
theorem point_cases (t : Fin cfg0.N) : (t.val % 16 = 0 ∧ ¬t.val % 16 = 15) ∨ (¬t.val % 16 = 0 ∧ ¬t.val % 16 = 15)
    ∨ (¬t.val % 16 = 0 ∧ t.val % 16 = 15) := by omega

/-- The argument arrays of the call; the weights as the host lays them out, in column blocks. -/
abbrev aDU (c : Dev nD) : InModel.Chan.Idx → EReal := m ((c : Thread nD τ).loc main_arg0)
abbrev aDG (c : Dev nD) : InModel.Chan.Idx → EReal := m ((c : Thread nD τ).loc main_arg1)
abbrev aX (c : Dev nD) : InModel.Tok.Idx → EReal := m ((c : Thread nD τ).loc main_arg2)
abbrev aDZ (c : Dev nD) : InModel.Tok.Idx → EReal := m ((c : Thread nD τ).loc main_arg3)
abbrev aSC (c : Dev nD) : InModel.Row.Idx → EReal := m ((c : Thread nD τ).loc main_arg4)
abbrev aSH (c : Dev nD) : InModel.Row.Idx → EReal := m ((c : Thread nD τ).loc main_arg5)
abbrev aW (c : Dev nD) : InModel.Blk.Idx → EReal := V m c main_v2

theorem dx_point (c : Dev nD) (t : Fin cfg0.N) (y : S512x1024.Idx) :
    (outsAt0 m c t.val t.isLt).1 y = InModel.dx (aDU m c) (aDG m c) (aDZ m c) (aSC m c) (aW m c) (row t (y 0)) (y 1) := by
  have ht := lt16 t
  rcases point_cases t with ⟨h0, h1⟩ | ⟨h0, h1⟩ | ⟨h0, h1⟩
  · rw [outsAt0_A m c t h0 h1]; frame_out
    open_payloads
    pointwise [InModel.dx, InModel.dh, InModel.blk, row, Rows.row, aDU, aDG, aDZ, aSC, aW]
    blk_point [iblk, idx_val t]
  · rw [outsAt0_B m c t h0 h1]; frame_out
    open_payloads
    pointwise [InModel.dx, InModel.dh, InModel.blk, row, Rows.row, aDU, aDG, aDZ, aSC, aW]
    blk_point [iblk, idx_val t]
  · rw [outsAt0_C m c t h0 h1]; frame_out
    open_payloads
    pointwise [InModel.dx, InModel.dh, InModel.blk, row, Rows.row, aDU, aDG, aDZ, aSC, aW]
    blk_point [iblk, idx_val t]

/-- The first result, whole: the gradient with respect to the tokens. -/
theorem dx_final (c : Dev nD) : (dats m 0 c).arrAt 7 (cfgs 0).N
    = fun i : S8192x1024.Idx => InModel.dx (aDU m c) (aDG m c) (aDZ m c) (aSC m c) (aW m c) (i 0) (i 1) := by
  refine (dats m 0 c).arrAt_eq_of_covers 7 _ (by decide +kernel) fun t _ y => ?_
  blk_simp
  rw [after0_7]
  refine (dx_point m c t y).trans ?_
  have e := idx_val t
  refine congrArg₂ (InModel.dx _ _ _ _ _) (Fin.ext ?_) (Fin.ext ?_) <;> blk_simp [e, row, Rows.row]

end Cert.Kernel3Ideal.Value

end
-- ==== Proof.In1Gw.lean ====
/- The weights' gradient of layer 1's in-projection: the accumulator, which starts from nothing, and its copy to the result. -/
module
public import proofs.«01_k».proof.Proof.In1Dx
public import proofs.«01_k».proof.Proof.In0Gw
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen
open Cert.Rows (canon_drop)
variable (m : (ℓ : Loc nD τ sig) → Buf (Elt Ideal) ℓ)

/-- What row `R` adds to the weights' gradient. -/
def gwRow (c : Dev nD) (R : Fin 8192) (y : S8x1024x512.Idx) : EReal :=
  InModel.gwAt (aDU m c) (aDG m c) (aX m c) (aSC m c) (aSH m c) R (y 0) (y 1) (y 2)

theorem gwRow_lo (c : Dev nD) (R : Fin 8192) (y : S8x1024x512.Idx) (hk : (y 0).val < 4) : gwRow m c R y
    = InModel.h (aX m c) (aSC m c) (aSH m c) R (y 1) * aDU m c (ix2 R ⟨512 * (y 0).val + (y 2).val, by
        have : (y 2).val < 512 := (y 2).isLt; omega⟩) :=
  congrArg (_ * ·) (dif_pos hk)

theorem gwRow_hi (c : Dev nD) (R : Fin 8192) (y : S8x1024x512.Idx) (hk : ¬(y 0).val < 4) : gwRow m c R y
    = InModel.h (aX m c) (aSC m c) (aSH m c) R (y 1) * aDG m c (ix2 R ⟨512 * ((y 0).val - 4) + (y 2).val, by
        have : (y 2).val < 512 := (y 2).isLt; have : (y 0).val < 8 := (y 0).isLt; omega⟩) :=
  congrArg (_ * ·) (dif_neg hk)

/-- The eight column blocks fill the gradient. -/
theorem gw_cover {w₇ w₆ w₅ w₄ w₃ w₂ w₁ w₀ : S1x1024x512.Idx → EReal} (y : S8x1024x512.Idx) :
    ∃ q ∈ ([⟨Rect.unit ![7, 0, 0] S1x1024x512.size inb_S8x1024x512_S1x1024x512_7_0_0, w₇⟩,
      ⟨Rect.unit ![6, 0, 0] S1x1024x512.size inb_S8x1024x512_S1x1024x512_6_0_0, w₆⟩,
      ⟨Rect.unit ![5, 0, 0] S1x1024x512.size inb_S8x1024x512_S1x1024x512_5_0_0, w₅⟩,
      ⟨Rect.unit ![4, 0, 0] S1x1024x512.size inb_S8x1024x512_S1x1024x512_4_0_0, w₄⟩,
      ⟨Rect.unit ![3, 0, 0] S1x1024x512.size inb_S8x1024x512_S1x1024x512_3_0_0, w₃⟩,
      ⟨Rect.unit ![2, 0, 0] S1x1024x512.size inb_S8x1024x512_S1x1024x512_2_0_0, w₂⟩,
      ⟨Rect.unit ![1, 0, 0] S1x1024x512.size inb_S8x1024x512_S1x1024x512_1_0_0, w₁⟩,
      ⟨Rect.unit ![0, 0, 0] S1x1024x512.size inb_S8x1024x512_S1x1024x512_0_0_0, w₀⟩] : List (View.Piece (Elt Ideal) S8x1024x512 .f32)), y ∈ q.1.set :=
  View.cover_of_tiled_head _ _ _ rfl y

theorem gw_A (c : Dev nD) (t : Fin cfg0.N) (h0 : t.val % 16 = 0) (h1 : ¬t.val % 16 = 15) (y : S8x1024x512.Idx) :
    (outsAt0 m c t.val t.isLt).2.2.1 y = ∑ r : Fin 512, gwRow m c (row t r) y := by
  have ht := lt16 t
  rw [outsAt0_A m c t h0 h1]
  frame_open
  simp (disch := decide) only [↓ View.readCov_skip, ↓ View.readCov_cons_toLoadRect, ↓ View.readCov_fill]
  frame_out
  refine (canon_drop [_, _, _, _, _, _, _, _] [_, _, _, _, _, _, _, _] y ?_).trans ?_
  · exact gw_cover y
  by_cases hk : (y 0).val < 4
  · rw [Finset.sum_congr rfl fun r _ => gwRow_lo m c (row t r) y hk]
    canon_tiles x h
    all_goals first
      | (exfalso; omega)
      | (open_payloads
         pointwise [InModel.h, row, Rows.row, aDU, aX, aSC, aSH]
         blk_point [iblk, idx_val t])
  · rw [Finset.sum_congr rfl fun r _ => gwRow_hi m c (row t r) y hk]
    canon_tiles x h
    all_goals first
      | (exfalso; omega)
      | (open_payloads
         pointwise [InModel.h, row, Rows.row, aDG, aX, aSC, aSH]
         blk_point [iblk, idx_val t])

theorem gw_B (c : Dev nD) (t : Fin cfg0.N) (h0 : ¬t.val % 16 = 0) (y : S8x1024x512.Idx) :
    (outsAt0 m c t.val t.isLt).2.2.1 y = (show EReal from (outsAt0 m c (t.val - 1) (Nat.lt_of_le_of_lt (Nat.sub_le _ _) t.isLt)).2.2.1 y)
      + ∑ r : Fin 512, gwRow m c (row t r) y := by
  have ht := lt16 t
  by_cases h1 : t.val % 16 = 15
  all_goals first
    | (rw [outsAt0_B m c t h0 h1]; frame_out)
    | (rw [outsAt0_C m c t h0 h1]; frame_out)
  all_goals
    simp only [read_unread_whole]
    by_cases hk : (y 0).val < 4
  all_goals first
    | rw [Finset.sum_congr rfl fun r _ => gwRow_lo m c (row t r) y hk]
    | rw [Finset.sum_congr rfl fun r _ => gwRow_hi m c (row t r) y hk]
  all_goals canon_tiles x h
  all_goals first
    | (exfalso; omega)
    | (open_payloads
       pointwise [InModel.h, row, Rows.row, aDU, aDG, aX, aSC, aSH]
       blk_point [iblk, idx_val t])

theorem gw_C (c : Dev nD) (t : Fin cfg0.N) (h0 : ¬t.val % 16 = 0) (h1 : t.val % 16 = 15)  :
    (outsAt0 m c t.val t.isLt).2.2.2 = (outsAt0 m c t.val t.isLt).2.2.1 := by
  rw [outsAt0_C m c t h0 h1]
  dsimp only [hbw0_C_0, sout0_C_0]
  unfold kernelRun0_C
  dsimp only
  refine (View.write_whole_univ _ _ _).trans ?_
  unfold kernelRun0_C.sl.dma52
  refine View.read_writes_of_cover _ _ _ _ _ fun y => ?_
  unfold kernelRun0_C.sl.HS0_8
  exact gw_cover y

/-- The copy of the accumulator after the last point, whole. -/
theorem gw_last (c : Dev nD) (t : Fin cfg0.N) (ht : t.val % 16 = 16 - 1) : (outsAt0 m c t.val t.isLt).2.2.2
    = fun y : S8x1024x512.Idx => ∑ R : Fin 8192, gwRow m c R y := by
  rw [gw_C m c t (by omega) ht]
  funext y
  exact (Rows.acc_total N_0 (fun n h => (outsAt0 m c n h).2.2.1) (fun _ => 0) (gwRow m c)
    (fun t h i => (gw_A m c t h (by omega) i).trans (zero_add _).symm) (fun t h i => gw_B m c t h i) t ht y).trans (zero_add _)

end Cert.Kernel3Ideal.Value

end
-- ==== Proof.In1St.lean ====
/- The modulation's gradients of layer 1: two rows summed over the grid points. -/
module
public import proofs.«01_k».proof.Proof.In1Dx
public import proofs.«01_k».proof.Proof.In0St
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen
open Cert.Kernel2Ideal.Value (st_cover)
open Cert.Rows (canon_drop)
variable (m : (ℓ : Loc nD τ sig) → Buf (Elt Ideal) ℓ)

/-- Row `R`'s part of the modulation's gradients, as a block of eight rows: the scale's, the shift's, and nothing. -/
def stRow (c : Dev nD) (R : Fin 8192) (y : S8x1024.Idx) : EReal :=
  InModel.stAt (aDU m c) (aDG m c) (aX m c) (aW m c) R (y 0) (y 1)

/-- What grid point `t` adds to that block. -/
def stPart (c : Dev nD) (t : Fin cfg0.N) (y : S8x1024.Idx) : EReal := ∑ r : Fin 512, stRow m c (row t r) y

theorem stPart_zero (c : Dev nD) (t : Fin cfg0.N) (y : S8x1024.Idx) (hy : (y 0).val = 0) : stPart m c t y
    = ∑ r : Fin 512, InModel.dh (aDU m c) (aDG m c) (aW m c) (row t r) (y 1) * aX m c (ix2 (row t r) (y 1)) :=
  Finset.sum_congr rfl fun _ _ => if_pos hy

theorem stPart_one (c : Dev nD) (t : Fin cfg0.N) (y : S8x1024.Idx) (hy : (y 0).val = 1) : stPart m c t y
    = ∑ r : Fin 512, InModel.dh (aDU m c) (aDG m c) (aW m c) (row t r) (y 1) :=
  Finset.sum_congr rfl fun _ _ => (if_neg (by omega)).trans (if_pos hy)

theorem stPart_pos (c : Dev nD) (t : Fin cfg0.N) (y : S8x1024.Idx) (h0 : ¬(y 0).val = 0) (h1 : ¬(y 0).val = 1) : stPart m c t y = 0 :=
  Finset.sum_eq_zero fun _ _ => (if_neg h0).trans (if_neg h1)

theorem st_A (c : Dev nD) (t : Fin cfg0.N) (h0 : t.val % 16 = 0) (h1 : ¬t.val % 16 = 15) (y : S8x1024.Idx) :
    (outsAt0 m c t.val t.isLt).2.1 y = stPart m c t y := by
  have ht := lt16 t
  rw [outsAt0_A m c t h0 h1]
  frame_open
  simp (disch := decide) only [↓ View.readCov_skip, ↓ View.readCov_cons_toLoadRect, ↓ View.readCov_fill]
  frame_out
  by_cases hy : (y 0).val = 0
  · rw [stPart_zero m c t y hy]
    refine (canon_drop [_] [_, _] y (st_cover y (.inl hy))).trans ?_
    canon_tiles x h using st_cover y (.inl hy)
    · omega
    open_payloads
    pointwise [InModel.dh, InModel.blk, row, Rows.row, aDU, aDG, aX, aW]
    blk_point [iblk, idx_val t]
  by_cases hz : (y 0).val = 1
  · rw [stPart_one m c t y hz]
    refine (canon_drop [_] [_, _] y (st_cover y (.inr hz))).trans ?_
    canon_tiles x h using st_cover y (.inr hz)
    swap
    · omega
    open_payloads
    pointwise [InModel.dh, InModel.blk, row, Rows.row, aDU, aDG, aX, aW]
    blk_point [iblk, idx_val t]
  · rw [stPart_pos m c t y hy hz]
    have hn : ∀ (o : Fin 2 → ℕ) (inb : ∀ a, o a + S1x1024.size a ≤ S8x1024.size a) (w : S1x1024.Idx → EReal)
        (L : List (View.Piece (Elt Ideal) S8x1024 .f32)), o 0 ≤ 1 →
        View.canon ((⟨Rect.unit o S1x1024.size inb, w⟩ : View.Piece (Elt Ideal) S8x1024 .f32) :: L) y = View.canon L y := by
      intro o inb w L ho
      refine View.canon_cons_of_not_mem _ _ fun hm => ?_
      rw [Rect.mem_set_unit] at hm
      have : (y 0).val < o 0 + 1 := (hm 0).2
      omega
    refine (hn ![1, 0] inb_S8x1024_S1x1024_1_0 _ _ (le_refl 1)).trans ?_
    refine (hn ![0, 0] inb_S8x1024_S1x1024_0_0 _ _ (Nat.zero_le 1)).trans ?_
    canon_tiles x h
    open_payloads
    pointwise

/-- Off the first two rows a point leaves the block as it was. -/
theorem st_keep {v : View sig .tc .vmem S8x1024 .f32} {f : v.ty.Contents (Elt Ideal)} {w₁ w₀ : S1x1024.Idx → EReal} (y : S8x1024.Idx)
    (hy : ¬(y 0).val = 0) (hz : ¬(y 0).val = 1) :
    v.read (Elt Ideal) (v.writes (Elt Ideal) f [⟨Rect.unit ![1, 0] S1x1024.size inb_S8x1024_S1x1024_1_0, w₁⟩,
      ⟨Rect.unit ![0, 0] S1x1024.size inb_S8x1024_S1x1024_0_0, w₀⟩]) y = v.read (Elt Ideal) f y := by
  refine (View.read_writes_cons_unit_of_not_mem _ _ _ _ _ y rfl 0 (Or.inr ?_)).trans ?_
  · show 2 ≤ (y 0).val; omega
  refine (View.read_writes_cons_unit_of_not_mem _ _ _ _ _ y rfl 0 (Or.inr ?_)).trans ?_
  · show 1 ≤ (y 0).val; omega
  rfl

theorem st_B (c : Dev nD) (t : Fin cfg0.N) (h0 : ¬t.val % 16 = 0) (y : S8x1024.Idx) :
    (outsAt0 m c t.val t.isLt).2.1 y = (show EReal from (outsAt0 m c (t.val - 1) (Nat.lt_of_le_of_lt (Nat.sub_le _ _) t.isLt)).2.1 y)
      + stPart m c t y := by
  have ht := lt16 t
  by_cases h1 : t.val % 16 = 15
  all_goals first
    | (rw [outsAt0_B m c t h0 h1]; frame_out)
    | (rw [outsAt0_C m c t h0 h1]; frame_out)
  all_goals
    by_cases hy : (y 0).val = 0
    · rw [stPart_zero m c t y hy]
      refine (View.read_writes_apply_eq_canon _ _ y [_, _] (st_cover y (.inl hy))).trans ?_
      canon_tiles x h using st_cover y (.inl hy)
      · omega
      open_payloads
      pointwise [InModel.dh, InModel.blk, row, Rows.row, aDU, aDG, aX, aW]
      blk_point [iblk, idx_val t]
    by_cases hz : (y 0).val = 1
    · rw [stPart_one m c t y hz]
      refine (View.read_writes_apply_eq_canon _ _ y [_, _] (st_cover y (.inr hz))).trans ?_
      canon_tiles x h using st_cover y (.inr hz)
      swap
      · omega
      open_payloads
      pointwise [InModel.dh, InModel.blk, row, Rows.row, aDU, aDG, aX, aW]
      blk_point [iblk, idx_val t]
    · rw [stPart_pos m c t y hy hz]
      refine (st_keep y hy hz).trans ?_
      refine (congrFun (Memref.IsWhole.read_unread _ _) y).trans ?_
      exact (add_zero _).symm

/-- The last result, whole: the modulation's gradients in the first two of eight rows. -/
theorem st_final (c : Dev nD) : (dats m 0 c).arrAt 8 (cfgs 0).N = fun y : S8x1024.Idx => ∑ R : Fin 8192, stRow m c R y := by
  refine (dats m 0 c).arrAt_eq_of_covers 8 _ (by decide +kernel) fun t hf y => ?_
  blk_simp
  rw [after0_8]
  have e := idx_val t
  refine (Rows.acc_total N_0 (fun n h => (outsAt0 m c n h).2.1) (fun _ => 0) (stRow m c)
    (fun t h i => (st_A m c t h (by omega) i).trans (zero_add _).symm) (fun t h i => st_B m c t h i) t ?_ y).trans ?_
  · exact (flush0_8 t).mp hf
  · refine (zero_add _).trans (Finset.sum_congr rfl fun R _ => congrArg (stRow m c R) (funext fun a => Fin.ext ?_))
    fin_cases a <;> blk_simp [e]

end Cert.Kernel3Ideal.Value

end
-- ==== Proof.In1Run.lean ====
/- What the in-projection's backward call of layer 1 leaves in its three results, as formulas over the arrays it is given. -/
module
public import proofs.«01_k».proof.Proof.In1Dx
public import proofs.«01_k».proof.Proof.In1Gw
public import proofs.«01_k».proof.Proof.In1St
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen
variable (m : (ℓ : Loc nD τ sig) → Buf (Elt Ideal) ℓ) (ρ : Dev nD → PrngReg)

/-- The weights, as the program takes them. -/
abbrev wt (c : Dev nD) : InModel.Wt.Idx → EReal := m ((c : Thread nD τ).loc main_arg6)

theorem w_eq (c : Dev nD) : aW m c = InModel.wBlk (wt m c) := by
  funext i
  show V m c main_v2 i = _
  entry_read
  pointwise [InModel.wBlk, wt]

/-- The gradients the call leaves: the tokens', the weights' in column blocks, the modulation's. -/
def outDx (c : Dev nD) : S8192x1024.Idx → EReal :=
  fun i => InModel.dx (aDU m c) (aDG m c) (aDZ m c) (aSC m c) (InModel.wBlk (wt m c)) (i 0) (i 1)
def outGw (c : Dev nD) : S8x1024x512.Idx → EReal := fun y =>
  ∑ R : Fin 8192, InModel.gwAt (aDU m c) (aDG m c) (aX m c) (aSC m c) (aSH m c) R (y 0) (y 1) (y 2)
def outSt (c : Dev nD) : S8x1024.Idx → EReal :=
  fun y => ∑ R : Fin 8192, InModel.stAt (aDU m c) (aDG m c) (aX m c) (InModel.wBlk (wt m c)) R (y 0) (y 1)

theorem dx_out (c : Dev nD) : (dats m 0 c).arrAt 7 (cfgs 0).N = outDx m c := by
  refine (dx_final m c).trans ?_
  rw [w_eq]
  rfl

theorem gw_out (c : Dev nD) (n : Nat) (h : n < cfg0.N) (hn : n % 16 = 16 - 1) : (outsAt0 m c n h).2.2.2 = outGw m c :=
  gw_last m c ⟨n, h⟩ hn

theorem st_out (c : Dev nD) : (dats m 0 c).arrAt 8 (cfgs 0).N = outSt m c := by
  refine (st_final m c).trans ?_
  unfold stRow
  rw [w_eq]
  rfl

theorem last_mod : ((Fin.last cfg0.N).val - 1) % 16 = 16 - 1 := by rw [Fin.val_last, show cfg0.N = 16 from N_0]

theorem run_model : θ_run defs (onTc (τ := τ) (main (F := Ideal))) ⟨m, fun _ => 0, ρ⟩ fun r => ∀ c : Dev nD,
      r.2.mem ((c : Thread nD τ).loc main_v5_0) = outDx m c
      ∧ r.2.mem ((c : Thread nD τ).loc main_v5_1) = outGw m c
      ∧ r.2.mem ((c : Thread nD τ).loc main_v5_2) = outSt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨hdx, hst, a0, a1, a2, a3, a4, a5, a6, hgw⟩ := h c
  exact ⟨hdx.trans (dx_out m c), hgw.trans (gw_out m c _ _ last_mod), hst.trans (st_out m c), a0, a1, a2, a3, a4, a5, a6⟩

end Cert.Kernel3Ideal.Value

end
-- ==== Proof.In1Ref.lean ====
/- The reference's results for the in-projection of layer 1, read at an index. -/
module
public import proofs.«01_k».proof.Proof.Gen.Reference3Ideal.Read
public import Idealize.ShloMosaic.Lib.Pointwise
public import Idealize.ShloMosaic.Lib.Claim
public import proofs.«01_k».proof.Proof.InModel
@[expose] public section
set_option maxRecDepth 16384
noncomputable section
open Idealize.ShloMosaic Idealize.ShloMosaic.TcCoe Idealize.SL.Sem Idealize.ShloMosaic.StableHlo
namespace Cert.Reference3Ideal.Read
open Cert.Reference3Ideal Cert.Reference3Ideal.Gen
variable (x0 x1 : InModel.Chan.Idx → EReal) (x2 x3 : InModel.Tok.Idx → EReal) (x4 x5 : InModel.Row.Idx → EReal)
  (x6 : InModel.Wt.Idx → EReal)

theorem read_v12 (i : S8192x1024.Idx) : val_main_v12 (F := Ideal) x0 x1 x6 i = InModel.dh x0 x1 (InModel.wBlk x6) (i 0) (i 1) := by
  pointwise [val_main_v12, val_main_v9]
  exact InModel.dh_eq x0 x1 x6 (i 0) (i 1)

theorem read_v22 (i : S8192x1024.Idx) : val_main_v22 (F := Ideal) x0 x1 x3 x4 x6 i
    = InModel.dx x0 x1 x3 x4 (InModel.wBlk x6) (i 0) (i 1) := by
  pointwise [val_main_v22, val_main_v21, val_main_v14, val_main_v13, val_main_cst_1, val_main_v20, val_main_v1, val_main_v0, val_main_cst,
    read_v12, InModel.dx]

theorem read_v24 (i : S8x1024x512.Idx) : val_main_v24 (F := Ideal) x0 x1 x2 x4 x5 i
    = ∑ R : Fin 8192, InModel.gwAt x0 x1 x2 x4 x5 R (i 0) (i 1) (i 2) := by
  have hl : (i 2).val < 512 := (i 2).isLt
  pointwise [val_main_v24, val_main_v23, val_main_v11, val_main_v10, val_main_v9, val_main_v5, val_main_v4, val_main_v3, val_main_v2,
    val_main_v1, val_main_v0, val_main_cst, InModel.gwAt, InModel.h]
  by_cases hk : (i 0).val < 4
  · simp only [dif_pos hk, dif_pos (show (i 0).val * 512 + (i 2).val < 2048 by omega)]
    refine Finset.sum_congr rfl fun R _ => (mul_comm _ _).trans ?_
    refine congrArg (_ * x0 ·) (congrArg (ix2 R) (Fin.ext ?_))
    show (i 0).val * 512 + (i 2).val = 512 * (i 0).val + (i 2).val
    omega
  · simp only [dif_neg hk, dif_neg (show ¬(i 0).val * 512 + (i 2).val < 2048 by omega)]
    refine Finset.sum_congr rfl fun R _ => (mul_comm _ _).trans ?_
    refine congrArg (_ * x1 ·) (congrArg (ix2 R) (Fin.ext ?_))
    show (i 0).val * 512 + (i 2).val - 2048 = 512 * ((i 0).val - 4) + (i 2).val
    omega

theorem read_v26 (i : S8x1024.Idx) : val_main_v26 (F := Ideal) x0 x1 x2 x6 i
    = ∑ R : Fin 8192, InModel.stAt x0 x1 x2 (InModel.wBlk x6) R (i 0) (i 1) := by
  pointwise [val_main_v26, val_main_v25, val_main_v19, val_main_v16, val_main_v15, val_main_v18, val_main_v17, val_main_c, val_main_cst_2,
    val_main_cst_3, val_main_call0_v0, read_v12, InModel.stAt]
  by_cases h0 : (i 0).val = 0
  · rw [dif_pos (by omega), dif_pos (by omega)]
    exact Finset.sum_congr rfl fun R _ => (mul_comm _ _).trans (if_pos h0).symm
  by_cases h1 : (i 0).val = 1
  · rw [dif_pos (by omega), dif_neg (by omega)]
    exact Finset.sum_congr rfl fun R _ => ((if_neg h0).trans (if_pos h1)).symm
  · rw [dif_neg (by omega)]
    refine Eq.trans ?_ (Finset.sum_eq_zero fun R _ => (if_neg h0).trans (if_neg h1)).symm
    show (((0#32 : BitVec 32).toInt : ℝ) : EReal) = 0
    simp

end Cert.Reference3Ideal.Read

end
-- ==== Proof.Proj.lean ====
/- The in-projection's forward call of layer 0: what it leaves in its two results. -/
module
public import proofs.«01_k».proof.Proof.Gen.Kernel4Ideal.Value
public import proofs.«01_k».proof.Proof.InModel
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen
variable (m : (ℓ : Loc nD τ sig) → Buf (Elt Ideal) ℓ) (ρ : Dev nD → PrngReg)

/-- Where each window's block lies at a grid point: 512 rows of the token arrays, the whole of the others. -/
theorem idx_val : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The argument arrays of the call; the weights as the host lays them out, in column blocks, and as they are given. -/
abbrev aX (c : Dev nD) : InModel.Tok.Idx → EReal := m ((c : Thread nD τ).loc main_arg0)
abbrev aSC (c : Dev nD) : InModel.Row.Idx → EReal := m ((c : Thread nD τ).loc main_arg1)
abbrev aSH (c : Dev nD) : InModel.Row.Idx → EReal := m ((c : Thread nD τ).loc main_arg2)
abbrev aW (c : Dev nD) : InModel.Blk.Idx → EReal := V m c main_v2
abbrev wt (c : Dev nD) : InModel.Wt.Idx → EReal := m ((c : Thread nD τ).loc main_arg3)

theorem w_eq (c : Dev nD) : aW m c = InModel.wBlk (wt m c) := by
  funext i
  show V m c main_v2 i = _
  entry_read
  pointwise [InModel.wBlk, wt]

theorem u_point (c : Dev nD) (t : Fin cfg0.N) (y : S512x2048.Idx) :
    out0_4 (iblk m c 0 t) (iblk m c 1 t) (iblk m c 2 t) (iblk m c 3 t) y
      = InModel.proj (InModel.h (aX m c) (aSC m c) (aSH m c)) (aW m c) 0 (by omega) (row t (y 0)) (y 1) := by
  have ht := lt16 t
  unfold_out out0_4
  canon_tiles x h
  all_goals
    open_payloads
    pointwise [InModel.proj, InModel.h, row, Rows.row, aX, aSC, aSH, aW]
    blk_point [iblk, idx_val t]

theorem g_point (c : Dev nD) (t : Fin cfg0.N) (y : S512x2048.Idx) :
    out0_5 (iblk m c 0 t) (iblk m c 1 t) (iblk m c 2 t) (iblk m c 3 t) y
      = InModel.proj (InModel.h (aX m c) (aSC m c) (aSH m c)) (aW m c) 4 (by omega) (row t (y 0)) (y 1) := by
  have ht := lt16 t
  unfold_out out0_5
  canon_tiles x h
  all_goals
    open_payloads
    pointwise [InModel.proj, InModel.h, row, Rows.row, aX, aSC, aSH, aW]
    blk_point [iblk, idx_val t]

/-- The halves of the projection the call leaves. -/
def outU (c : Dev nD) : S8192x2048.Idx → EReal := fun i =>
  InModel.proj (InModel.h (aX m c) (aSC m c) (aSH m c)) (InModel.wBlk (wt m c)) 0 (by omega) (i 0) (i 1)
def outG (c : Dev nD) : S8192x2048.Idx → EReal := fun i =>
  InModel.proj (InModel.h (aX m c) (aSC m c) (aSH m c)) (InModel.wBlk (wt m c)) 4 (by omega) (i 0) (i 1)

theorem u_out (c : Dev nD) : (dats m 0 c).arrAt 4 (cfgs 0).N = outU m c := by
  refine (dats m 0 c).arrAt_eq_of_covers 4 _ (by decide +kernel) fun t _ y => ?_
  blk_simp
  rw [after0_4]
  refine (u_point m c t y).trans ?_
  rw [w_eq]
  have e := idx_val t
  refine congrArg₂ (InModel.proj _ _ 0 _) (Fin.ext ?_) (Fin.ext ?_) <;> blk_simp [e, row, Rows.row]

theorem g_out (c : Dev nD) : (dats m 0 c).arrAt 5 (cfgs 0).N = outG m c := by
  refine (dats m 0 c).arrAt_eq_of_covers 5 _ (by decide +kernel) fun t _ y => ?_
  blk_simp
  rw [after0_5]
  refine (g_point m c t y).trans ?_
  rw [w_eq]
  have e := idx_val t
  refine congrArg₂ (InModel.proj _ _ 4 _) (Fin.ext ?_) (Fin.ext ?_) <;> blk_simp [e, row, Rows.row]

theorem run_model : θ_run defs (onTc (τ := τ) (main (F := Ideal))) ⟨m, fun _ => 0, ρ⟩ fun r => ∀ c : Dev nD,
      r.2.mem ((c : Thread nD τ).loc main_v3_0) = outU m c
      ∧ r.2.mem ((c : Thread nD τ).loc main_v3_1) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨hu, hg, k⟩ := h c
  exact ⟨hu.trans (u_out m c), hg.trans (g_out m c), k⟩

end Cert.Kernel4Ideal.Value

end
-- ==== Proof.ProjRef.lean ====
/- The reference's results for layer 0's in-projection, read at an index. -/
module
public import proofs.«01_k».proof.Proof.Gen.Reference4Ideal.Read
public import Idealize.ShloMosaic.Lib.Pointwise
public import Idealize.ShloMosaic.Lib.Claim
public import proofs.«01_k».proof.Proof.InModel
@[expose] public section
set_option maxRecDepth 16384
noncomputable section
open Idealize.ShloMosaic Idealize.ShloMosaic.TcCoe Idealize.SL.Sem Idealize.ShloMosaic.StableHlo
namespace Cert.Reference4Ideal.Read
open Cert.Reference4Ideal Cert.Reference4Ideal.Gen
variable (x0 : InModel.Tok.Idx → EReal) (x1 x2 : InModel.Row.Idx → EReal) (x3 : InModel.Wt.Idx → EReal)

theorem read_v9 (i : S8192x2048.Idx) : val_main_v9 (F := Ideal) x0 x1 x2 x3 i
    = InModel.proj (InModel.h x0 x1 x2) (InModel.wBlk x3) 0 (by omega) (i 0) (i 1) := by
  refine Eq.trans ?_ (InModel.proj_lo _ _ (i 0) (i 1))
  pointwise [val_main_v9, val_main_v8, val_main_v5, val_main_v4, val_main_v3, val_main_v2, val_main_v1, val_main_v0, val_main_cst, InModel.h]

theorem read_v11 (i : S8192x2048.Idx) : val_main_v11 (F := Ideal) x0 x1 x2 x3 i
    = InModel.proj (InModel.h x0 x1 x2) (InModel.wBlk x3) 4 (by omega) (i 0) (i 1) := by
  refine Eq.trans ?_ (InModel.proj_hi _ _ (i 0) (i 1))
  pointwise [val_main_v11, val_main_v10, val_main_v8, val_main_v5, val_main_v4, val_main_v3, val_main_v2, val_main_v1, val_main_v0,
    val_main_cst, InModel.h]

end Cert.Reference4Ideal.Read

end
-- ==== Proof.OutModel.lean ====
/- What a layer's last part computes, entry by entry, on the extended reals: the gated branch `((hf + hb) · silu g) · w_out`, the
   residual sum, and the layer norm of each row. `R` is a row (a token), `j` one of its 1024 features. -/
module
public import proofs.«01_k».proof.Proof.Gate
public import proofs.«01_k».proof.Proof.InModel
@[expose] public section
noncomputable section
namespace Cert.OutModel
open Idealize.ShloMosaic Cert.InModel

/-- The output projection's weights, by their shape. -/
abbrev Out : Shape := ⟨2, ![2048, 1024]⟩

/-- The output projection's input: the two scans' sum, gated. -/
def p (HF HB G : Chan.Idx → EReal) (R : Fin 8192) (x : Fin 2048) : EReal :=
  (HF (ix2 R x) + HB (ix2 R x)) * (G (ix2 R x) * Gate.sgT (G (ix2 R x)))

/-- Channel block `k`'s part of the branch. -/
def brBlk (P : Fin 8192 → Fin 2048 → EReal) (WO : Out.Idx → EReal) (k : Fin 4) (R : Fin 8192) (j : Fin 1024) : EReal :=
  ∑ l : Fin 512, P R ⟨512 * k + l, by omega⟩ * WO (ix2 ⟨512 * k + l, by omega⟩ j)

/-- The branch. -/
def br (P : Fin 8192 → Fin 2048 → EReal) (WO : Out.Idx → EReal) (R : Fin 8192) (j : Fin 1024) : EReal :=
  brBlk P WO 0 R j + brBlk P WO 1 R j + brBlk P WO 2 R j + brBlk P WO 3 R j

theorem br_eq (P : Fin 8192 → Fin 2048 → EReal) (WO : Out.Idx → EReal) (R : Fin 8192) (j : Fin 1024) :
    ∑ x : Fin 2048, P R x * WO (ix2 x j) = br P WO R j := by
  rw [sum_half, Fin.sum_univ_four]
  rfl

/-- The residual sum: the token by the word of its factor, and the branch by its gate. -/
def z (X : Tok.Idx → EReal) (GT : Row.Idx → EReal) (B : Fin 8192 → Fin 1024 → EReal) (R : Fin 8192) (j : Fin 1024) : EReal :=
  Ideal.ofBits .f32 0x3FB504F3#32 * X (ix2 R j) + GT (ix2 0 j) * B R j

/-- A row's mean, the row less its mean, its variance, the reciprocal deviation, and the normalised row. -/
def mean (v : Fin 1024 → EReal) : EReal := Ideal.div (∑ j, v j) (Ideal.ofBits .f32 0x44800000#32)
def cen (v : Fin 1024 → EReal) (j : Fin 1024) : EReal := v j - mean v
def vare (v : Fin 1024 → EReal) : EReal := mean (fun j => cen v j * cen v j) + Ideal.ofBits .f32 0x3727C5AC#32
def rstd (v : Fin 1024 → EReal) : EReal := Ideal.rsqrt (vare v)
def xhat (v : Fin 1024 → EReal) (j : Fin 1024) : EReal := cen v j * rstd v

/-- The layer norm's result. -/
def ln (LG LB : Row.Idx → EReal) (v : Fin 8192 → Fin 1024 → EReal) (R : Fin 8192) (j : Fin 1024) : EReal :=
  xhat (v R) j * LG (ix2 0 j) + LB (ix2 0 j)

/-- The next layer's projection input: the token, modulated. -/
def mod (SC SH : Row.Idx → EReal) (Y : Fin 8192 → Fin 1024 → EReal) (R : Fin 8192) (i : Fin 1024) : EReal :=
  Y R i * (1 + SC (ix2 0 i)) + SH (ix2 0 i)

end Cert.OutModel

end
-- ==== Proof.Out0.lean ====
/- The forward call between the layers: the branch and the normalised rows of a grid point. -/
module
public import proofs.«01_k».proof.Proof.Gen.Kernel5Ideal.Value
public import proofs.«01_k».proof.Proof.OutModel
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen
variable (m : (ℓ : Loc nD τ sig) → Buf (Elt Ideal) ℓ) (ρ : Dev nD → PrngReg)

/-- Where each window's block lies at a grid point: 512 rows of the token arrays, the whole of the others. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![t.val, 0] ∧ win0_12.index t = ![t.val, 0] ∧ win0_13.index t = ![t.val, 0] ∧ win0_14.index t = ![t.val, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The argument arrays of the call; layer 1's weights as the host lays them out, in column blocks, and as they are given. -/
abbrev aHF (c : Dev nD) : InModel.Chan.Idx → EReal := m ((c : Thread nD τ).loc main_arg0)
abbrev aHB (c : Dev nD) : InModel.Chan.Idx → EReal := m ((c : Thread nD τ).loc main_arg1)
abbrev aG (c : Dev nD) : InModel.Chan.Idx → EReal := m ((c : Thread nD τ).loc main_arg2)
abbrev aX (c : Dev nD) : InModel.Tok.Idx → EReal := m ((c : Thread nD τ).loc main_arg3)
abbrev aGT (c : Dev nD) : InModel.Row.Idx → EReal := m ((c : Thread nD τ).loc main_arg4)
abbrev aWO (c : Dev nD) : OutModel.Out.Idx → EReal := m ((c : Thread nD τ).loc main_arg5)
abbrev aLG (c : Dev nD) : InModel.Row.Idx → EReal := m ((c : Thread nD τ).loc main_arg6)
abbrev aLB (c : Dev nD) : InModel.Row.Idx → EReal := m ((c : Thread nD τ).loc main_arg7)
abbrev aSC (c : Dev nD) : InModel.Row.Idx → EReal := m ((c : Thread nD τ).loc main_arg8)
abbrev aSH (c : Dev nD) : InModel.Row.Idx → EReal := m ((c : Thread nD τ).loc main_arg9)
abbrev aW (c : Dev nD) : InModel.Blk.Idx → EReal := V m c main_v6
abbrev wt (c : Dev nD) : InModel.Wt.Idx → EReal := m ((c : Thread nD τ).loc main_arg10)

theorem w_eq (c : Dev nD) : aW m c = InModel.wBlk (wt m c) := by
  funext i
  show V m c main_v6 i = _
  entry_read
  pointwise [InModel.wBlk, wt]

/-- The branch, the residual sum and the layer norm of the call's arrays. -/
def mBr (c : Dev nD) : Fin 8192 → Fin 1024 → EReal := OutModel.br (OutModel.p (aHF m c) (aHB m c) (aG m c)) (aWO m c)
def mZ (c : Dev nD) : Fin 8192 → Fin 1024 → EReal := OutModel.z (aX m c) (aGT m c) (mBr m c)
def mX1 (c : Dev nD) : Fin 8192 → Fin 1024 → EReal := OutModel.ln (aLG m c) (aLB m c) (mZ m c)

/-- The branch at a grid point's rows. -/
theorem br_blk (c : Dev nD) (t : Fin cfg0.N) :
    k0_pay9 (k0_pay23 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay24 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay25 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (View.ld (iblk m c 1 t) r0_6) (View.ld (iblk m c 5 t) r0_7) = fun y : S512x1024.Idx => mBr m c (row t (y 0)) (y 1) := by
  have ht := lt16 t
  funext y
  unfold k0_pay23 k0_pay24 k0_pay25
  open_payloads
  pointwise [mBr, OutModel.br, OutModel.brBlk, OutModel.p, Gate.sgT, Gate.hf, row, Rows.row, aHF, aHB, aG, aWO]
  blk_point [iblk, idx_val t]

/-- The normalised rows, from the branch. -/
theorem pay10_eq {v70 : FVec Ideal S512x1024 .f32} {v73 v76 : FVec Ideal S512x512 .f32} {v77 : Vec Ideal S512x512 .bf16}
    {v90 : Vec Ideal S512x1024 .bf16} {v95 : Vec Ideal S512x1024 .f32} {v98 : Vec Ideal S1x1024 .f32} {B : S512x1024.Idx → EReal}
    (h : k0_pay9 v70 v73 v76 v77 v90 = B) (y : S512x1024.Idx) :
    k0_pay10 v70 v73 v76 v77 v90 v95 v98 y
      = OutModel.xhat (fun j => Ideal.ofBits .f32 0x3FB504F3#32 * v95 (ix2 (y 0) j) + v98 (ix2 0 j) * B (ix2 (y 0) j)) (y 1) := by
  unfold k0_pay10
  simp only [h]
  pointwise [OutModel.xhat, OutModel.rstd, OutModel.vare, OutModel.cen, OutModel.mean]

/-- The normalised rows at a grid point. -/
theorem xhat_blk (c : Dev nD) (t : Fin cfg0.N) :
    k0_pay26 (iblk m c 0 t) (iblk m c 1 t) (iblk m c 2 t) (iblk m c 3 t) (iblk m c 4 t) (iblk m c 5 t)
        (iblk m c 6 t) (iblk m c 7 t) (iblk m c 8 t) (iblk m c 9 t) (iblk m c 10 t)
      = fun y : S512x1024.Idx => OutModel.xhat (mZ m c (row t (y 0))) (y 1) := by
  have ht := lt16 t
  funext y
  unfold k0_pay26
  refine (pay10_eq (br_blk m c t) y).trans (congrArg (OutModel.xhat · (y 1)) (funext fun j => ?_))
  pointwise [mZ, OutModel.z, row, Rows.row, aX, aGT]
  blk_point [iblk, idx_val t]

end Cert.Kernel5Ideal.Value

end
-- ==== Proof.Out0Run.lean ====
/- The forward call between the layers: what it leaves in its four results. -/
module
public import proofs.«01_k».proof.Proof.Out0
@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen
variable (m : (ℓ : Loc nD τ sig) → Buf (Elt Ideal) ℓ) (ρ : Dev nD → PrngReg)

section
variable {x0 : Vec Ideal S512x2048 .bf16} {x1 : Vec Ideal S512x2048 .bf16} {x2 : Vec Ideal S512x2048 .bf16} {x3 : Vec Ideal S512x1024 .f32} {x4 : Vec Ideal S1x1024 .f32}
  {x5 : Vec Ideal S2048x1024 .bf16} {x6 : Vec Ideal S1x1024 .f32} {x7 : Vec Ideal S1x1024 .f32} {x8 : Vec Ideal S1x1024 .f32} {x9 : Vec Ideal S1x1024 .f32} {x10 : Vec Ideal S8x1024x512 .bf16}

/-- The four stores' blocks, from the branch, the normalised rows and the next projection's input. -/
theorem x1_canon {H : S512x1024.Idx → EReal} (h : k0_pay26 x0 x1 x2 x3 x4 x5 x6 x7 x8 x9 x10 = H) :
    out0_11 x0 x1 x2 x3 x4 x5 x6 x7 x8 x9 x10 = View.canon [⟨r0_8, k0_pay11 (F := Ideal) H (View.ld x6 r0_9) (View.ld x7 r0_9)⟩] := by
  subst h; rfl

theorem br_canon {B : S512x1024.Idx → EReal} (h : k0_pay9 (k0_pay23 x0 x1 x2 x3 x4 x5 x6 x7 x8 x9 x10) (k0_pay24 x0 x1 x2 x3 x4 x5 x6 x7 x8 x9 x10)
      (k0_pay25 x0 x1 x2 x3 x4 x5 x6 x7 x8 x9 x10) (View.ld x1 r0_6) (View.ld x5 r0_7) = B) :
    out0_12 x0 x1 x2 x3 x4 x5 x6 x7 x8 x9 x10 = View.canon [⟨r0_8, k0_pay12 (F := Ideal) B⟩] := by
  subst h; rfl

theorem mod_eq {H : S512x1024.Idx → EReal} (h : k0_pay26 x0 x1 x2 x3 x4 x5 x6 x7 x8 x9 x10 = H) :
    k0_pay27 x0 x1 x2 x3 x4 x5 x6 x7 x8 x9 x10 = k0_pay13 (F := Ideal) H (View.ld x6 r0_9) (View.ld x7 r0_9) (View.ld x8 r0_9) (View.ld x9 r0_9) := by
  subst h; rfl

theorem u_canon {H : S512x1024.Idx → EReal} (h : k0_pay27 x0 x1 x2 x3 x4 x5 x6 x7 x8 x9 x10 = H) :
    out0_13 x0 x1 x2 x3 x4 x5 x6 x7 x8 x9 x10 = View.canon [⟨r0_6, k0_pay18 (F := Ideal) H (View.ld x10 r0_13)⟩,
      ⟨r0_4, k0_pay17 (F := Ideal) H (k0_pay16 (View.ld x10 r0_12)) (constant S512x512 .f32 0x00000000#32)⟩,
      ⟨r0_2, k0_pay18 (F := Ideal) H (View.ld x10 r0_11)⟩, ⟨r0_0, k0_pay18 (F := Ideal) H (View.ld x10 r0_10)⟩] := by
  subst h; rfl

theorem g_canon {H : S512x1024.Idx → EReal} (h : k0_pay27 x0 x1 x2 x3 x4 x5 x6 x7 x8 x9 x10 = H) :
    out0_14 x0 x1 x2 x3 x4 x5 x6 x7 x8 x9 x10 = View.canon
      [⟨r0_6, k0_pay1 (F := Ideal) H (k0_pay22 (View.ld x10 r0_17)) (constant S512x512 .f32 0x00000000#32)⟩,
      ⟨r0_4, k0_pay21 (F := Ideal) H (View.ld x10 r0_16)⟩, ⟨r0_2, k0_pay20 (F := Ideal) H (View.ld x10 r0_15)⟩,
      ⟨r0_0, k0_pay19 (F := Ideal) H (View.ld x10 r0_14)⟩] := by
  subst h; rfl

end

theorem x1_point (c : Dev nD) (t : Fin cfg0.N) (y : S512x1024.Idx) :
    out0_11 (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = mX1 m c (row t (y 0)) (y 1) := by
  have ht := lt16 t
  rw [x1_canon (xhat_blk m c t)]
  generalize hH : (fun y : S512x1024.Idx => OutModel.xhat (mZ m c (row t (y 0))) (y 1)) = H
  canon_tiles x h
  obtain rfl : x = y := funext fun a => Fin.ext (by fin_cases a <;> [exact h0.symm; exact h1.symm])
  all_goals
    open_payloads
    subst hH
    pointwise [mX1, OutModel.ln, row, Rows.row, aLG, aLB]
    blk_point [iblk, idx_val t]

theorem br_point (c : Dev nD) (t : Fin cfg0.N) (y : S512x1024.Idx) :
    out0_12 (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = mBr m c (row t (y 0)) (y 1) := by
  have ht := lt16 t
  rw [br_canon (br_blk m c t)]
  generalize hH : (fun y : S512x1024.Idx => mBr m c (row t (y 0)) (y 1)) = H
  canon_tiles x h
  obtain rfl : x = y := funext fun a => Fin.ext (by fin_cases a <;> [exact h0.symm; exact h1.symm])
  all_goals
    open_payloads
    subst hH
    pointwise [row, Rows.row]

/-- The next projection's input at a grid point's rows. -/
theorem mod_blk (c : Dev nD) (t : Fin cfg0.N) :
    k0_pay27 (iblk m c 0 t) (iblk m c 1 t) (iblk m c 2 t) (iblk m c 3 t) (iblk m c 4 t) (iblk m c 5 t)
        (iblk m c 6 t) (iblk m c 7 t) (iblk m c 8 t) (iblk m c 9 t) (iblk m c 10 t)
      = fun y : S512x1024.Idx => OutModel.mod (aSC m c) (aSH m c) (mX1 m c) (row t (y 0)) (y 1) := by
  have ht := lt16 t
  rw [mod_eq (xhat_blk m c t)]
  generalize hH : (fun y : S512x1024.Idx => OutModel.xhat (mZ m c (row t (y 0))) (y 1)) = H
  funext y
  open_payloads
  subst hH
  pointwise [OutModel.mod, mX1, OutModel.ln, row, Rows.row, aLG, aLB, aSC, aSH]
  blk_point [iblk, idx_val t]

theorem u_point (c : Dev nD) (t : Fin cfg0.N) (y : S512x2048.Idx) :
    out0_13 (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = InModel.proj (OutModel.mod (aSC m c) (aSH m c) (mX1 m c)) (aW m c) 0 (by omega) (row t (y 0)) (y 1) := by
  have ht := lt16 t
  rw [u_canon (mod_blk m c t)]
  canon_tiles x h
  all_goals
    open_payloads
    pointwise [InModel.proj, row, Rows.row, aW]
    blk_point [iblk, idx_val t]
  all_goals (refine Fin.ext ?_; dsimp only; omega)

theorem g_point (c : Dev nD) (t : Fin cfg0.N) (y : S512x2048.Idx) :
    out0_14 (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = InModel.proj (OutModel.mod (aSC m c) (aSH m c) (mX1 m c)) (aW m c) 4 (by omega) (row t (y 0)) (y 1) := by
  have ht := lt16 t
  rw [g_canon (mod_blk m c t)]
  canon_tiles x h
  all_goals
    open_payloads
    pointwise [InModel.proj, row, Rows.row, aW]
    blk_point [iblk, idx_val t]
  all_goals (refine Fin.ext ?_; dsimp only; omega)

/-- What the call leaves: the layer's tokens, its branch, and the halves of the next layer's projection. -/
def outX1 (c : Dev nD) : S8192x1024.Idx → EReal := fun i => mX1 m c (i 0) (i 1)
def outBr (c : Dev nD) : S8192x1024.Idx → EReal := fun i => mBr m c (i 0) (i 1)
def outU (c : Dev nD) : S8192x2048.Idx → EReal := fun i =>
  InModel.proj (OutModel.mod (aSC m c) (aSH m c) (mX1 m c)) (InModel.wBlk (wt m c)) 0 (by omega) (i 0) (i 1)
def outG (c : Dev nD) : S8192x2048.Idx → EReal := fun i =>
  InModel.proj (OutModel.mod (aSC m c) (aSH m c) (mX1 m c)) (InModel.wBlk (wt m c)) 4 (by omega) (i 0) (i 1)

theorem x1_out (c : Dev nD) : (dats m 0 c).arrAt 11 (cfgs 0).N = outX1 m c := by
  refine (dats m 0 c).arrAt_eq_of_covers 11 _ (by decide +kernel) fun t _ y => ?_
  blk_simp
  rw [after0_11]
  refine (x1_point m c t y).trans ?_
  have e := idx_val t
  refine congrArg₂ (mX1 m c) (Fin.ext ?_) (Fin.ext ?_) <;> blk_simp [e, row, Rows.row]

theorem br_out (c : Dev nD) : (dats m 0 c).arrAt 12 (cfgs 0).N = outBr m c := by
  refine (dats m 0 c).arrAt_eq_of_covers 12 _ (by decide +kernel) fun t _ y => ?_
  blk_simp
  rw [after0_12]
  refine (br_point m c t y).trans ?_
  have e := idx_val t
  refine congrArg₂ (mBr m c) (Fin.ext ?_) (Fin.ext ?_) <;> blk_simp [e, row, Rows.row]

theorem u_out (c : Dev nD) : (dats m 0 c).arrAt 13 (cfgs 0).N = outU m c := by
  refine (dats m 0 c).arrAt_eq_of_covers 13 _ (by decide +kernel) fun t _ y => ?_
  blk_simp
  rw [after0_13]
  refine (u_point m c t y).trans ?_
  rw [w_eq]
  have e := idx_val t
  refine congrArg₂ (InModel.proj _ _ 0 _) (Fin.ext ?_) (Fin.ext ?_) <;> blk_simp [e, row, Rows.row]

theorem g_out (c : Dev nD) : (dats m 0 c).arrAt 14 (cfgs 0).N = outG m c := by
  refine (dats m 0 c).arrAt_eq_of_covers 14 _ (by decide +kernel) fun t _ y => ?_
  blk_simp
  rw [after0_14]
  refine (g_point m c t y).trans ?_
  rw [w_eq]
  have e := idx_val t
  refine congrArg₂ (InModel.proj _ _ 4 _) (Fin.ext ?_) (Fin.ext ?_) <;> blk_simp [e, row, Rows.row]

theorem run_model : θ_run defs (onTc (τ := τ) (main (F := Ideal))) ⟨m, fun _ => 0, ρ⟩ fun r => ∀ c : Dev nD,
      r.2.mem ((c : Thread nD τ).loc main_v7_0) = outX1 m c
      ∧ r.2.mem ((c : Thread nD τ).loc main_v7_1) = outBr m c
      ∧ r.2.mem ((c : Thread nD τ).loc main_v7_2) = outU m c
      ∧ r.2.mem ((c : Thread nD τ).loc main_v7_3) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (run_blocks m ρ)
  obtain ⟨hx, hb, hu, hg, k⟩ := h c
  exact ⟨hx.trans (x1_out m c), hb.trans (br_out m c), hu.trans (u_out m c), hg.trans (g_out m c), k⟩

end Cert.Kernel5Ideal.Value

end
-- ==== Proof.Out0Ref.lean ====
/- The reference's results for the call between the layers, read at an index. -/
module
public import proofs.«01_k».proof.Proof.Gen.Reference5Ideal.Read
public import Idealize.ShloMosaic.Lib.Pointwise
public import Idealize.ShloMosaic.Lib.Claim
public import proofs.«01_k».proof.Proof.OutModel
@[expose] public section
set_option maxRecDepth 16384
noncomputable section
open Idealize.ShloMosaic Idealize.ShloMosaic.TcCoe Idealize.SL.Sem Idealize.ShloMosaic.StableHlo
namespace Cert.Reference5Ideal.Read
open Cert.Reference5Ideal Cert.Reference5Ideal.Gen
variable (x0 x1 x2 : InModel.Chan.Idx → EReal) (x3 : InModel.Tok.Idx → EReal) (x4 : InModel.Row.Idx → EReal)
  (x5 : OutModel.Out.Idx → EReal) (x6 x7 x8 x9 : InModel.Row.Idx → EReal) (x10 : InModel.Wt.Idx → EReal)

theorem read_v2 (i : S8192x2048.Idx) : val_main_v2 (F := Ideal) x0 x1 x2 i = OutModel.p x0 x1 x2 (i 0) (i 1) := by
  pointwise [val_main_v0, val_main_v1, val_main_v2, val_main_call0_v0, val_main_call0_v1, val_main_call0_v2, val_main_call0_v3, val_main_call0_v4, val_main_call0_v5, val_main_call0_cst, val_main_call0_cst_0, OutModel.p, Gate.sgT_eq]
  simp only [Ideal.logistic]

theorem read_v3 (i : S8192x1024.Idx) : val_main_v3 (F := Ideal) x0 x1 x2 x5 i
    = OutModel.br (OutModel.p x0 x1 x2) x5 (i 0) (i 1) := by
  refine Eq.trans ?_ (OutModel.br_eq _ x5 (i 0) (i 1))
  pointwise [val_main_v3, read_v2]

theorem read_v8 (i : S8192x1024.Idx) : val_main_v8 (F := Ideal) x0 x1 x2 x3 x4 x5 i
    = OutModel.z x3 x4 (OutModel.br (OutModel.p x0 x1 x2) x5) (i 0) (i 1) := by
  pointwise [val_main_v4, val_main_v5, val_main_v6, val_main_v7, val_main_v8, val_main_cst, read_v3, OutModel.z]

theorem read_v26 (i : S8192x1024.Idx) : val_main_v26 (F := Ideal) x0 x1 x2 x3 x4 x5 i
    = OutModel.xhat (OutModel.z x3 x4 (OutModel.br (OutModel.p x0 x1 x2) x5) (i 0)) (i 1) := by
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_0, val_main_cst_1, val_main_cst_2, val_main_cst_3, val_main_cst_4, read_v8,
    OutModel.xhat, OutModel.rstd, OutModel.vare, OutModel.cen, OutModel.mean]

theorem read_v30 (i : S8192x1024.Idx) : val_main_v30 (F := Ideal) x0 x1 x2 x3 x4 x5 x6 x7 i
    = OutModel.ln x6 x7 (OutModel.z x3 x4 (OutModel.br (OutModel.p x0 x1 x2) x5)) (i 0) (i 1) := by
  pointwise [val_main_v27, val_main_v28, val_main_v29, val_main_v30, read_v26, OutModel.ln]

theorem read_v42 (i : S8192x1024.Idx) : val_main_v42 (F := Ideal) x0 x1 x2 x5 i
    = OutModel.br (OutModel.p x0 x1 x2) x5 (i 0) (i 1) := by
  pointwise [val_main_v42, read_v3]

theorem read_v38 (i : S8192x1024.Idx) : val_main_v36 (F := Ideal) x0 x1 x2 x3 x4 x5 x6 x7 x8 x9 i
    = OutModel.mod x8 x9 (OutModel.ln x6 x7 (OutModel.z x3 x4 (OutModel.br (OutModel.p x0 x1 x2) x5))) (i 0) (i 1) := by
  pointwise [val_main_v31, val_main_v32, val_main_v33, val_main_v34, val_main_v35, val_main_v36, val_main_cst_5, read_v30, OutModel.mod]

theorem read_v43 (i : S8192x2048.Idx) : val_main_v43 (F := Ideal) x0 x1 x2 x3 x4 x5 x6 x7 x8 x9 x10 i
    = InModel.proj (OutModel.mod x8 x9 (OutModel.ln x6 x7 (OutModel.z x3 x4 (OutModel.br (OutModel.p x0 x1 x2) x5))))
        (InModel.wBlk x10) 0 (by omega) (i 0) (i 1) := by
  refine Eq.trans ?_ (InModel.proj_lo _ _ (i 0) (i 1))
  pointwise [val_main_v43, val_main_v40, val_main_v37, val_main_v38, val_main_v39, read_v38]

theorem read_v44 (i : S8192x2048.Idx) : val_main_v44 (F := Ideal) x0 x1 x2 x3 x4 x5 x6 x7 x8 x9 x10 i
    = InModel.proj (OutModel.mod x8 x9 (OutModel.ln x6 x7 (OutModel.z x3 x4 (OutModel.br (OutModel.p x0 x1 x2) x5))))
        (InModel.wBlk x10) 4 (by omega) (i 0) (i 1) := by
  refine Eq.trans ?_ (InModel.proj_hi _ _ (i 0) (i 1))
  pointwise [val_main_v44, val_main_v41, val_main_v37, val_main_v38, val_main_v39, read_v38]

end Cert.Reference5Ideal.Read

end
-- ==== Proof.LnGrad.lean ====
/- The gradient through a layer norm's row, two ways, on the reals: the short form, with the normalised row's mean products, and the
   chain rule through the mean, the variance and the reciprocal deviation. -/
module

public import proofs.«01_k».proof.Proof.Real
public import proofs.«01_k».proof.Proof.OutModel

@[expose] public section

noncomputable section

namespace Cert.OutModel

open Idealize.ShloMosaic Cert.Gate

/-- The short form: the row's gradient less its mean and less its part along the normalised row, by the reciprocal deviation. -/
def dz (v d : Fin 1024 → EReal) (j : Fin 1024) : EReal :=
  rstd v * (d j - mean d - xhat v j * mean (fun k => d k * xhat v k))

/-- The chain rule's term through the variance. -/
def dvar (v d : Fin 1024 → EReal) (j : Fin 1024) : EReal :=
  Ideal.div ((∑ k, cen v k * d k) * (Ideal.ofBits .f32 0xBF000000#32 * Ideal.div (rstd v) (vare v))) (Ideal.ofBits .f32 0x44800000#32)
    * (Ideal.ofBits .f32 0x40000000#32 * cen v j)

/-- The chain rule: through the row itself, through its variance, and through its mean. -/
def dzRef (v d : Fin 1024 → EReal) (j : Fin 1024) : EReal :=
  d j * rstd v + dvar v d j
    + Ideal.div ((∑ k, -(d k * rstd v)) + ∑ k, -dvar v d k) (Ideal.ofBits .f32 0x44800000#32)

theorem word_1024 : Ideal.ofBits .f32 0x44800000#32 = ((1024 : ℝ) : EReal) := by
  simp [Ideal.ofBits, Ideal.ieee]
  rw [← EReal.coe_mul]
  norm_num

theorem word_two : Ideal.ofBits .f32 0x40000000#32 = ((2 : ℝ) : EReal) := by
  simp [Ideal.ofBits, Ideal.ieee]
  rw [← EReal.coe_mul]
  norm_num

theorem word_mhalf : Ideal.ofBits .f32 0xBF000000#32 = ((-(1 / 2) : ℝ) : EReal) := by
  simp [Ideal.ofBits, Ideal.ieee]
  rw [← EReal.coe_mul]
  norm_num

theorem word_eps : ∃ e : ℝ, 0 < e ∧ Ideal.ofBits .f32 0x3727C5AC#32 = (e : EReal) := by
  simp [Ideal.ofBits, Ideal.ieee]
  rw [← EReal.coe_mul]
  exact ⟨_, by positivity, rfl⟩

theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem div_real {b : ℝ} (hb : b ≠ 0) (a : ℝ) : Ideal.div (a : EReal) (b : EReal) = ((a / b : ℝ) : EReal) := by
  rw [Ideal.div_coe hb, ← EReal.coe_mul, mul_one_div]

theorem mean_real (f : Fin 1024 → ℝ) : mean (fun k => (f k : EReal)) = (((∑ k, f k) / 1024 : ℝ) : EReal) := by
  unfold mean
  rw [word_1024, sum_coe, div_real (by norm_num)]

/-- A real row's centred row, its variance and its reciprocal deviation, in real numbers. -/
theorem row_real (f : Fin 1024 → ℝ) : ∃ (c : Fin 1024 → ℝ) (w r : ℝ), (∀ j, cen (fun k => (f k : EReal)) j = c j) ∧
    vare (fun k => (f k : EReal)) = w ∧ rstd (fun k => (f k : EReal)) = r ∧ ∑ k, c k = 0 ∧ 0 < w ∧ r * r * w = 1 := by
  obtain ⟨e, he, hw⟩ := word_eps
  have hc : ∀ j, cen (fun k => (f k : EReal)) j = ((f j - (∑ k, f k) / 1024 : ℝ) : EReal) := fun j => by
    unfold cen; rw [mean_real, EReal.coe_sub]
  generalize hg : (fun j => f j - (∑ k, f k) / 1024) = c
  have hc' : ∀ j, cen (fun k => (f k : EReal)) j = c j := fun j => by rw [hc, ← hg]
  have hv : vare (fun k => (f k : EReal)) = (((∑ k, c k * c k) / 1024 + e : ℝ) : EReal) := by
    unfold vare
    rw [hw, EReal.coe_add, ← mean_real]
    simp only [hc', EReal.coe_mul]
  have hpos : 0 < (∑ k, c k * c k) / 1024 + e := by
    have := Finset.sum_nonneg fun (k : Fin 1024) (_ : k ∈ Finset.univ) => mul_self_nonneg (c k)
    positivity
  refine ⟨c, _, (Real.sqrt ((∑ k, c k * c k) / 1024 + e))⁻¹, hc', hv, ?_, ?_, hpos, ?_⟩
  · unfold rstd
    rw [hv, Ideal.rsqrt_coe, if_neg hpos.le.not_gt, if_neg hpos.ne']
  · rw [← hg]
    simp [Finset.sum_sub_distrib]
    ring
  · rw [← mul_inv, Real.mul_self_sqrt hpos.le, inv_mul_cancel₀ hpos.ne']

theorem mhalf_two (s q c : ℝ) : s * (-(1 / 2) * q) / 1024 * (2 * c) = -(s * q / 1024 * c) := by ring

/-- The two forms agree on real rows. -/
theorem dz_eq {v d : Fin 1024 → EReal} (hv : ∀ j, Re (v j)) (hd : ∀ j, Re (d j)) (j : Fin 1024) : dzRef v d j = dz v d j := by
  choose f hf using hv
  choose g hg using hd
  obtain rfl : v = fun k => (f k : EReal) := funext hf
  obtain rfl : d = fun k => (g k : EReal) := funext hg
  obtain ⟨c, w, r, hc, hw, hr, h0, hp, h1⟩ := row_real f
  have hq : r / w = r * r * r := by field_simp; linear_combination (-r) * h1
  unfold dzRef dz dvar xhat
  simp only [hc, hw, hr, word_1024, word_two, word_mhalf, ← EReal.coe_mul, ← EReal.coe_neg, sum_coe, mean_real, ← EReal.coe_add,
    ← EReal.coe_sub, div_real hp.ne', div_real (show (1024 : ℝ) ≠ 0 by norm_num), mhalf_two, neg_neg, ← Finset.mul_sum, h0,
    Finset.sum_neg_distrib, ← Finset.sum_mul, hq]
  rw [show ∑ k, g k * (c k * r) = (∑ k, c k * g k) * r by rw [Finset.sum_mul]; exact Finset.sum_congr rfl fun k _ => by ring]
  congr 1
  ring

/-- The short form of a real row is real. -/
theorem dz_real {v d : Fin 1024 → EReal} (hv : ∀ j, Re (v j)) (hd : ∀ j, Re (d j)) (j : Fin 1024) : Re (dz v d j) := by
  choose f hf using hv
  choose g hg using hd
  obtain rfl : v = fun k => (f k : EReal) := funext hf
  obtain rfl : d = fun k => (g k : EReal) := funext hg
  obtain ⟨c, w, r, hc, hw, hr, h0, hp, h1⟩ := row_real f
  unfold dz xhat
  simp only [hc, hr, ← EReal.coe_mul, mean_real, ← EReal.coe_sub]
  exact ⟨_, rfl⟩

end Cert.OutModel

end
-- ==== Proof.OutGrad.lean ====
/- The gradients through a layer's last part, entry by entry, on the extended reals: through the layer norm to the residual sum, through
   the gate and the output projection to the scans' sum and the other half's gate, and the gradients of the weights and of the three
   rows. `R` is a row (a token), `j` one of its 1024 features, `x` one of the 2048 channels. -/
module
public import proofs.«01_k».proof.Proof.LnGrad
@[expose] public section
noncomputable section
namespace Cert.OutModel
open Idealize.ShloMosaic Cert.InModel

/-- A row's gradient through the layer norm's scale. -/
def dn (DX : Tok.Idx → EReal) (LG : Row.Idx → EReal) (R : Fin 8192) (j : Fin 1024) : EReal := DX (ix2 R j) * LG (ix2 0 j)

/-- The residual sum's gradient. -/
def dZ (DX : Tok.Idx → EReal) (LG : Row.Idx → EReal) (Z : Fin 8192 → Fin 1024 → EReal) (R : Fin 8192) (j : Fin 1024) : EReal :=
  dz (Z R) (dn DX LG R) j

/-- The gradient of the branch, gated. -/
def dB (GT : Row.Idx → EReal) (D : Fin 8192 → Fin 1024 → EReal) (R : Fin 8192) (j : Fin 1024) : EReal := GT (ix2 0 j) * D R j

/-- The gradient of the output projection's input. -/
def dP (B : Fin 8192 → Fin 1024 → EReal) (WO : Out.Idx → EReal) (R : Fin 8192) (x : Fin 2048) : EReal :=
  ∑ j : Fin 1024, B R j * WO (ix2 x j)

/-- The gradient of the scans' sum. -/
def dY (P : Fin 8192 → Fin 2048 → EReal) (G : Chan.Idx → EReal) (R : Fin 8192) (x : Fin 2048) : EReal :=
  P R x * (G (ix2 R x) * Gate.sgT (G (ix2 R x)))

/-- The gradient of the other half's gate. -/
def dG (P : Fin 8192 → Fin 2048 → EReal) (HF HB G : Chan.Idx → EReal) (R : Fin 8192) (x : Fin 2048) : EReal :=
  P R x * (HF (ix2 R x) + HB (ix2 R x)) * (Gate.sgT (G (ix2 R x)) * (1 + G (ix2 R x) * (1 - Gate.sgT (G (ix2 R x)))))

/-- Row `R`'s part of the output projection's gradient. -/
def dwAt (HF HB G : Chan.Idx → EReal) (B : Fin 8192 → Fin 1024 → EReal) (R : Fin 8192) (x : Fin 2048) (j : Fin 1024) : EReal :=
  p HF HB G R x * B R j

/-- Row `R`'s part of the three rows' gradients, among eight rows: the layer norm's scale and shift, the gate, and nothing. -/
def rowsAt (DX : Tok.Idx → EReal) (Z D BR : Fin 8192 → Fin 1024 → EReal) (R : Fin 8192) (k : Fin 8) (j : Fin 1024) : EReal :=
  if k.val = 0 then DX (ix2 R j) * xhat (Z R) j else if k.val = 1 then DX (ix2 R j) else if k.val = 2 then D R j * BR R j else 0

open Cert.Gate

/-- The gate's gradient, two ways, on the reals. -/
theorem gate_fac {p y x l : EReal} (hp : Re p) (hy : Re y) (hx : Re x) (hl : Re l) :
    y * p * (l + x * (l * (1 - l))) = p * y * (l * (1 + x * (1 - l))) := by
  obtain ⟨p, rfl⟩ := hp; obtain ⟨y, rfl⟩ := hy; obtain ⟨x, rfl⟩ := hx; obtain ⟨l, rfl⟩ := hl
  rw [show (1 : EReal) = ((1 : ℝ) : EReal) from rfl]
  simp only [← EReal.coe_mul, ← EReal.coe_add, ← EReal.coe_sub]
  congr 1
  ring

theorem word_alpha : Re (Ideal.ofBits .f32 0x3FB504F3#32) := by
  simp [Ideal.ofBits, Ideal.ieee]
  rw [← EReal.coe_mul]
  exact ⟨_, rfl⟩

section
variable {DX X : Tok.Idx → EReal} {LG GT : Row.Idx → EReal} {HF HB G : Chan.Idx → EReal} {WO : Out.Idx → EReal}

theorem sg_real (hg : ∀ i, Re (G i)) (i : Chan.Idx) : Re (Gate.sgT (G i)) := by rw [Gate.sgT_eq]; exact (hg i).logistic

theorem z_real (hx : ∀ i, Re (X i)) (hf : ∀ i, Re (HF i)) (hb : ∀ i, Re (HB i)) (hg : ∀ i, Re (G i)) (ht : ∀ i, Re (GT i))
    (hw : ∀ i, Re (WO i)) (R : Fin 8192) (j : Fin 1024) : Re (z X GT (br (p HF HB G) WO) R j) := by
  unfold z
  rw [← br_eq]
  exact (word_alpha.mul (hx _)).add ((ht _).mul (Re.sum _ _ fun x =>
    (((hf _).add (hb _)).mul ((hg _).mul (sg_real hg _))).mul (hw _)))

theorem dn_real (hd : ∀ i, Re (DX i)) (hl : ∀ i, Re (LG i)) (R : Fin 8192) (j : Fin 1024) : Re (dn DX LG R j) := (hd _).mul (hl _)

/-- The output projection input's gradient, for a real row. -/
theorem dP_real {D : Fin 8192 → Fin 1024 → EReal} (hd : ∀ R j, Re (D R j)) (ht : ∀ i, Re (GT i)) (hw : ∀ i, Re (WO i))
    (R : Fin 8192) (x : Fin 2048) : Re (dP (dB GT D) WO R x) := Re.sum _ _ fun j => ((ht _).mul (hd R j)).mul (hw _)

end

end Cert.OutModel

end
-- ==== Proof.Bout0.lean ====
/- The backward call between the layers: the layer norm's gradients at a grid point. -/
module
public import proofs.«01_k».proof.Proof.Gen.Kernel6Ideal.Value
public import proofs.«01_k».proof.Proof.OutGrad
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen
variable (m : (ℓ : Loc nD τ sig) → Buf (Elt Ideal) ℓ) (ρ : Dev nD → PrngReg)

/-- Where each window's block lies at a grid point: 512 rows of the token arrays, the whole of the others. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The argument arrays of the call, and the branch the host computes for it. -/
abbrev aDX (c : Dev nD) : InModel.Tok.Idx → EReal := m ((c : Thread nD τ).loc main_arg0)
abbrev aX (c : Dev nD) : InModel.Tok.Idx → EReal := m ((c : Thread nD τ).loc main_arg1)
abbrev aLG (c : Dev nD) : InModel.Row.Idx → EReal := m ((c : Thread nD τ).loc main_arg2)
abbrev aHF (c : Dev nD) : InModel.Chan.Idx → EReal := m ((c : Thread nD τ).loc main_arg4)
abbrev aHB (c : Dev nD) : InModel.Chan.Idx → EReal := m ((c : Thread nD τ).loc main_arg5)
abbrev aG (c : Dev nD) : InModel.Chan.Idx → EReal := m ((c : Thread nD τ).loc main_arg6)
abbrev aGT (c : Dev nD) : InModel.Row.Idx → EReal := m ((c : Thread nD τ).loc main_arg7)
abbrev aWO (c : Dev nD) : OutModel.Out.Idx → EReal := m ((c : Thread nD τ).loc main_arg8)
abbrev aBR (c : Dev nD) : InModel.Tok.Idx → EReal := V m c main_v4

/-- The residual sum of the call's arrays, its gradient, the branch's, and the output projection input's. -/
def mBr (c : Dev nD) (R : Fin 8192) (j : Fin 1024) : EReal := aBR m c (ix2 R j)
def mZ (c : Dev nD) : Fin 8192 → Fin 1024 → EReal := OutModel.z (aX m c) (aGT m c) (mBr m c)
def mDZ (c : Dev nD) : Fin 8192 → Fin 1024 → EReal := OutModel.dZ (aDX m c) (aLG m c) (mZ m c)
def mDB (c : Dev nD) : Fin 8192 → Fin 1024 → EReal := OutModel.dB (aGT m c) (mDZ m c)
def mDP (c : Dev nD) : Fin 8192 → Fin 2048 → EReal := OutModel.dP (mDB m c) (aWO m c)

section
variable (v3 v8 : Vec Ideal S512x1024 .f32) (v4 : Vec Ideal S512x1024 .bf16) (v7 v30 : Vec Ideal S1x1024 .f32)

/-- A grid point's residual sum, row by row. -/
def zrow (r : Fin 512) (j : Fin 1024) : EReal :=
  Ideal.ofBits .f32 0x3FB504F3#32 * v8 (ix2 r j) + v7 (ix2 0 j) * v4 (ix2 r j)

/-- A grid point's gradient, row by row, through the layer norm's scale. -/
def drow (r : Fin 512) (j : Fin 1024) : EReal := v3 (ix2 r j) * v30 (ix2 0 j)

theorem cen_pay : k0_pay8 v4 v7 v8 = fun y : S512x1024.Idx => OutModel.cen (zrow v8 v4 v7 (y 0)) (y 1) := by
  funext y
  unfold k0_pay8 k0_pay7
  pointwise [OutModel.cen, OutModel.mean, zrow]

theorem rstd_pay : k0_pay9 v4 v7 v8 = fun y : S512x1.Idx => OutModel.rstd (zrow v8 v4 v7 (y 0)) := by
  funext y
  unfold k0_pay9
  rw [cen_pay]
  pointwise [OutModel.rstd, OutModel.vare, OutModel.mean]

theorem xhat_pay : k0_pay10 v4 v7 v8 = fun y : S512x1024.Idx => OutModel.xhat (zrow v8 v4 v7 (y 0)) (y 1) := by
  funext y
  unfold k0_pay10
  rw [cen_pay, rstd_pay]
  pointwise [OutModel.xhat]

theorem dz_pay : k0_pay14 (k0_pay9 v4 v7 v8) (k0_pay10 v4 v7 v8) (k0_pay11 v3 v30) (k0_pay12 v3 v30) (k0_pay13 v3 v4 v7 v8 v30)
    = fun y : S512x1024.Idx => OutModel.dz (zrow v8 v4 v7 (y 0)) (drow v3 v30 (y 0)) (y 1) := by
  funext y
  unfold k0_pay14 k0_pay13 k0_pay12 k0_pay11
  rw [rstd_pay, xhat_pay]
  pointwise [OutModel.dz, OutModel.mean, drow]

theorem db_pay : k0_pay18 v7 (k0_pay9 v4 v7 v8) (k0_pay10 v4 v7 v8) (k0_pay11 v3 v30) (k0_pay12 v3 v30) (k0_pay13 v3 v4 v7 v8 v30)
    = fun y : S512x1024.Idx => v7 (ix2 0 (y 1)) * OutModel.dz (zrow v8 v4 v7 (y 0)) (drow v3 v30 (y 0)) (y 1) := by
  funext y
  unfold k0_pay18
  rw [dz_pay]
  pointwise

end

/-- The residual sum's rows at a grid point, and the scaled gradient's. -/
theorem zrow_blk (c : Dev nD) (t : Fin cfg0.N) (r : Fin 512) :
    zrow (iblk m c 1 t) (iblk m c 2 t) (iblk m c 7 t) r = mZ m c (row t r) := by
  have ht := lt16 t
  funext j
  pointwise [zrow, mZ, OutModel.z, mBr, row, Rows.row, aX, aGT, aBR]
  blk_point [iblk, idx_val t]

theorem dn_blk (c : Dev nD) (t : Fin cfg0.N) (r : Fin 512) :
    drow (iblk m c 0 t) (iblk m c 3 t) r = OutModel.dn (aDX m c) (aLG m c) (row t r) := by
  have ht := lt16 t
  funext j
  pointwise [drow, OutModel.dn, row, Rows.row, aDX, aLG]
  blk_point [iblk, idx_val t]

/-- The normalised rows at a grid point, the residual sum's gradient, and the gated branch's. -/
theorem xhat_blk (c : Dev nD) (t : Fin cfg0.N) : k0_pay10 (iblk m c 2 t) (iblk m c 7 t) (iblk m c 1 t)
    = fun y : S512x1024.Idx => OutModel.xhat (mZ m c (row t (y 0))) (y 1) :=
  (xhat_pay _ _ _).trans (funext fun y => congrArg (OutModel.xhat · (y 1)) (zrow_blk m c t (y 0)))

theorem dz_blk (c : Dev nD) (t : Fin cfg0.N) : k0_pay14 (k0_pay9 (iblk m c 2 t) (iblk m c 7 t) (iblk m c 1 t))
      (k0_pay10 (iblk m c 2 t) (iblk m c 7 t) (iblk m c 1 t)) (k0_pay11 (iblk m c 0 t) (iblk m c 3 t)) (k0_pay12 (iblk m c 0 t) (iblk m c 3 t))
      (k0_pay13 (iblk m c 0 t) (iblk m c 2 t) (iblk m c 7 t) (iblk m c 1 t) (iblk m c 3 t))
    = fun y : S512x1024.Idx => mDZ m c (row t (y 0)) (y 1) :=
  (dz_pay _ _ _ _ _).trans (funext fun y => congrArg₂ (OutModel.dz · · (y 1)) (zrow_blk m c t (y 0)) (dn_blk m c t (y 0)))

theorem db_blk (c : Dev nD) (t : Fin cfg0.N) : k0_pay18 (iblk m c 7 t) (k0_pay9 (iblk m c 2 t) (iblk m c 7 t) (iblk m c 1 t))
      (k0_pay10 (iblk m c 2 t) (iblk m c 7 t) (iblk m c 1 t)) (k0_pay11 (iblk m c 0 t) (iblk m c 3 t)) (k0_pay12 (iblk m c 0 t) (iblk m c 3 t))
      (k0_pay13 (iblk m c 0 t) (iblk m c 2 t) (iblk m c 7 t) (iblk m c 1 t) (iblk m c 3 t))
    = fun y : S512x1024.Idx => mDB m c (row t (y 0)) (y 1) := by
  have ht := lt16 t
  refine (db_pay _ _ _ _ _).trans (funext fun y => ?_)
  refine congrArg₂ (fun a b : EReal => a * b) ?_ (congrArg₂ (OutModel.dz · · (y 1)) (zrow_blk m c t (y 0)) (dn_blk m c t (y 0)))
  pointwise [aGT]
  blk_point [iblk, idx_val t]

end Cert.Kernel6Ideal.Value

end
-- ==== Proof.Bout0Dx.lean ====
/- The backward call between the layers: the gradients it leaves token by token. -/
module
public import proofs.«01_k».proof.Proof.Bout0
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen
variable (m : (ℓ : Loc nD τ sig) → Buf (Elt Ideal) ℓ)

theorem dz_point (c : Dev nD) (t : Fin cfg0.N) (y : S512x1024.Idx) :
    (outsAt0 m c t.val t.isLt).1 y = mDZ m c (row t (y 0)) (y 1) := by
  have ht := lt16 t
  by_cases h0 : t.val % 16 = 0
  on_goal 2 => by_cases h1 : t.val % 16 = 15
  all_goals first
    | (rw [outsAt0_A m c t h0 (by omega)]; frame_out)
    | (rw [outsAt0_B m c t h0 h1]; frame_out)
    | (rw [outsAt0_C m c t h0 h1]; frame_out)
  all_goals rw [dz_blk m c t]

theorem dy_point (c : Dev nD) (t : Fin cfg0.N) (y : S512x2048.Idx) :
    (outsAt0 m c t.val t.isLt).2.1 y = OutModel.dY (mDP m c) (aG m c) (row t (y 0)) (y 1) := by
  have ht := lt16 t
  by_cases h0 : t.val % 16 = 0
  on_goal 2 => by_cases h1 : t.val % 16 = 15
  all_goals first
    | (rw [outsAt0_A m c t h0 (by omega)]; frame_out)
    | (rw [outsAt0_B m c t h0 h1]; frame_out)
    | (rw [outsAt0_C m c t h0 h1]; frame_out)
  all_goals
    rw [db_blk m c t]
    generalize hH : (fun y : S512x1024.Idx => mDB m c (row t (y 0)) (y 1)) = H
    canon_tiles x h
  all_goals
    open_payloads
    subst hH
    pointwise [OutModel.dY, mDP, OutModel.dP, Gate.sgT, Gate.hf, row, Rows.row, aG, aWO]
    blk_point [iblk, idx_val t]
  all_goals (refine Fin.ext ?_; dsimp only; omega)

theorem dg_point (c : Dev nD) (t : Fin cfg0.N) (y : S512x2048.Idx) :
    (outsAt0 m c t.val t.isLt).2.2.1 y = OutModel.dG (mDP m c) (aHF m c) (aHB m c) (aG m c) (row t (y 0)) (y 1) := by
  have ht := lt16 t
  by_cases h0 : t.val % 16 = 0
  on_goal 2 => by_cases h1 : t.val % 16 = 15
  all_goals first
    | (rw [outsAt0_A m c t h0 (by omega)]; frame_out)
    | (rw [outsAt0_B m c t h0 h1]; frame_out)
    | (rw [outsAt0_C m c t h0 h1]; frame_out)
  all_goals
    rw [db_blk m c t]
    generalize hH : (fun y : S512x1024.Idx => mDB m c (row t (y 0)) (y 1)) = H
    canon_tiles x h
  all_goals
    open_payloads
    subst hH
    pointwise [OutModel.dG, mDP, OutModel.dP, Gate.sgT, Gate.hf, row, Rows.row, aHF, aHB, aG, aWO]
    blk_point [iblk, idx_val t]
  all_goals (refine Fin.ext ?_; dsimp only; omega)

/-- The first result, whole: the residual sum's gradient. -/
theorem dz_final (c : Dev nD) : (dats m 0 c).arrAt 9 (cfgs 0).N = fun i : S8192x1024.Idx => mDZ m c (i 0) (i 1) := by
  refine (dats m 0 c).arrAt_eq_of_covers 9 _ (by decide +kernel) fun t _ y => ?_
  blk_simp
  rw [after0_9]
  refine (dz_point m c t y).trans ?_
  have e := idx_val t
  refine congrArg₂ (mDZ m c) (Fin.ext ?_) (Fin.ext ?_) <;> blk_simp [e, row, Rows.row]

/-- The second, whole: the scans' sum's gradient. -/
theorem dy_final (c : Dev nD) : (dats m 0 c).arrAt 10 (cfgs 0).N
    = fun i : S8192x2048.Idx => OutModel.dY (mDP m c) (aG m c) (i 0) (i 1) := by
  refine (dats m 0 c).arrAt_eq_of_covers 10 _ (by decide +kernel) fun t _ y => ?_
  blk_simp
  rw [after0_10]
  refine (dy_point m c t y).trans ?_
  have e := idx_val t
  refine congrArg₂ (OutModel.dY (mDP m c) _) (Fin.ext ?_) (Fin.ext ?_) <;> blk_simp [e, row, Rows.row]

/-- The third, whole: the gradient of the other half's gate. -/
theorem dg_final (c : Dev nD) : (dats m 0 c).arrAt 11 (cfgs 0).N
    = fun i : S8192x2048.Idx => OutModel.dG (mDP m c) (aHF m c) (aHB m c) (aG m c) (i 0) (i 1) := by
  refine (dats m 0 c).arrAt_eq_of_covers 11 _ (by decide +kernel) fun t _ y => ?_
  blk_simp
  rw [after0_11]
  refine (dg_point m c t y).trans ?_
  have e := idx_val t
  refine congrArg₂ (OutModel.dG (mDP m c) _ _ _) (Fin.ext ?_) (Fin.ext ?_) <;> blk_simp [e, row, Rows.row]

end Cert.Kernel6Ideal.Value

end
-- ==== Proof.Bout0Gw.lean ====
/- The backward call between the layers: the output projection's gradient, accumulated over the grid points and copied out. -/
module
public import proofs.«01_k».proof.Proof.Bout0
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen
open Cert.Rows (canon_drop cover4)
variable (m : (ℓ : Loc nD τ sig) → Buf (Elt Ideal) ℓ)

/-- Row `R`'s part of the output projection's gradient, and what grid point `t` adds to it. -/
def gwoRow (c : Dev nD) (R : Fin 8192) (y : S2048x1024.Idx) : EReal :=
  OutModel.dwAt (aHF m c) (aHB m c) (aG m c) (mDB m c) R (y 0) (y 1)
def gwoPart (c : Dev nD) (t : Fin cfg0.N) (y : S2048x1024.Idx) : EReal := ∑ r : Fin 512, gwoRow m c (row t r) y

/-- The four channel groups' rows of the output projection fill it. -/
theorem gwo_cover {w₃ w₂ w₁ w₀ : S512x1024.Idx → EReal} (y : S2048x1024.Idx) :
    ∃ q ∈ ([⟨Rect.unit ![1536, 0] S512x1024.size inb_S2048x1024_S512x1024_1536_0, w₃⟩,
      ⟨Rect.unit ![1024, 0] S512x1024.size inb_S2048x1024_S512x1024_1024_0, w₂⟩,
      ⟨Rect.unit ![512, 0] S512x1024.size inb_S2048x1024_S512x1024_512_0, w₁⟩,
      ⟨Rect.unit ![0, 0] S512x1024.size inb_S2048x1024_S512x1024_0_0, w₀⟩] : List (View.Piece (Elt Ideal) S2048x1024 .f32)), y ∈ q.1.set :=
  View.cover_of_tiled_head _ _ _ rfl y

theorem gwo_A (c : Dev nD) (t : Fin cfg0.N) (h0 : t.val % 16 = 0) (h1 : ¬t.val % 16 = 15) (y : S2048x1024.Idx) :
    (outsAt0 m c t.val t.isLt).2.2.2.2.1 y = gwoPart m c t y := by
  have ht := lt16 t
  rw [outsAt0_A m c t h0 h1]
  frame_open
  simp (disch := decide) only [↓ View.readCov_skip, ↓ View.readCov_cons_toLoadRect, ↓ View.readCov_fill]
  frame_out
  rw [db_blk m c t]
  generalize hH : (fun y : S512x1024.Idx => mDB m c (row t (y 0)) (y 1)) = H
  refine (canon_drop [_] [_, _, _, _] y ?_).trans ?_
  · exact gwo_cover y
  canon_tiles x h
  all_goals
    open_payloads
    subst hH
    pointwise [gwoPart, gwoRow, OutModel.dwAt, OutModel.p, Gate.sgT, Gate.hf, row, Rows.row, aHF, aHB, aG]
    blk_point [iblk, idx_val t]
  all_goals exact congrArg (OutModel.dZ _ _ _ _) (Fin.ext h1.symm)

theorem gwo_B (c : Dev nD) (t : Fin cfg0.N) (h0 : ¬t.val % 16 = 0) (y : S2048x1024.Idx) :
    (outsAt0 m c t.val t.isLt).2.2.2.2.1 y = (show EReal from (outsAt0 m c (t.val - 1) (Nat.lt_of_le_of_lt (Nat.sub_le _ _) t.isLt)).2.2.2.2.1 y)
      + gwoPart m c t y := by
  have ht := lt16 t
  by_cases h1 : t.val % 16 = 15
  all_goals first
    | (rw [outsAt0_B m c t h0 h1]; frame_out)
    | (rw [outsAt0_C m c t h0 h1]; frame_out)
  all_goals
    simp only [read_unread_whole]
    rw [db_blk m c t]
    generalize hH : (fun y : S512x1024.Idx => mDB m c (row t (y 0)) (y 1)) = H
    canon_tiles x h
  all_goals
    open_payloads
    subst hH
    pointwise [gwoPart, gwoRow, OutModel.dwAt, OutModel.p, Gate.sgT, Gate.hf, row, Rows.row, aHF, aHB, aG]
    blk_point [iblk, idx_val t]
  all_goals exact congrArg (OutModel.dZ _ _ _ _) (Fin.ext h1.symm)

theorem gwo_C (c : Dev nD) (t : Fin cfg0.N) (h0 : ¬t.val % 16 = 0) (h1 : t.val % 16 = 15) :
    (outsAt0 m c t.val t.isLt).2.2.2.2.2 = (outsAt0 m c t.val t.isLt).2.2.2.2.1 := by
  rw [outsAt0_C m c t h0 h1]
  dsimp only [hbw0_C_0, sout0_C_0]
  unfold kernelRun0_C
  dsimp only
  refine (View.write_whole_univ _ _ _).trans ?_
  unfold kernelRun0_C.sl.dma60
  refine View.read_writes_of_cover _ _ _ _ _ fun y => ?_
  unfold kernelRun0_C.sl.HS0_4
  exact gwo_cover y

/-- The copy of the accumulator after the last point, whole. -/
theorem gwo_last (c : Dev nD) (t : Fin cfg0.N) (ht : t.val % 16 = 16 - 1) :
    (outsAt0 m c t.val t.isLt).2.2.2.2.2 = fun y : S2048x1024.Idx => ∑ R : Fin 8192, gwoRow m c R y := by
  rw [gwo_C m c t (by omega) ht]
  funext y
  exact (Rows.acc_total N_0 (fun n h => (outsAt0 m c n h).2.2.2.2.1) (fun _ => 0) (gwoRow m c)
    (fun t h i => (gwo_A m c t h (by omega) i).trans (zero_add _).symm) (fun t h i => gwo_B m c t h i) t ht y).trans (zero_add _)

end Cert.Kernel6Ideal.Value

end
-- ==== Proof.Bout0St.lean ====
/- The backward call between the layers: the gradients of the layer norm's scale and shift and of the gate, in three of eight rows,
   accumulated over the grid points. -/
module
public import proofs.«01_k».proof.Proof.Bout0
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen
open Cert.Rows (canon_drop)
variable (m : (ℓ : Loc nD τ sig) → Buf (Elt Ideal) ℓ)

/-- Row `R`'s part of the three rows' gradients, and what grid point `t` adds to them. -/
def stRow (c : Dev nD) (R : Fin 8192) (y : S8x1024.Idx) : EReal :=
  OutModel.rowsAt (aDX m c) (mZ m c) (mDZ m c) (mBr m c) R (y 0) (y 1)
def stPart (c : Dev nD) (t : Fin cfg0.N) (y : S8x1024.Idx) : EReal := ∑ r : Fin 512, stRow m c (row t r) y

theorem stPart_zero (c : Dev nD) (t : Fin cfg0.N) (y : S8x1024.Idx) (hy : (y 0).val = 0) : stPart m c t y
    = ∑ r : Fin 512, aDX m c (ix2 (row t r) (y 1)) * OutModel.xhat (mZ m c (row t r)) (y 1) :=
  Finset.sum_congr rfl fun _ _ => if_pos hy

theorem stPart_one (c : Dev nD) (t : Fin cfg0.N) (y : S8x1024.Idx) (hy : (y 0).val = 1) : stPart m c t y
    = ∑ r : Fin 512, aDX m c (ix2 (row t r) (y 1)) :=
  Finset.sum_congr rfl fun _ _ => (if_neg (by omega)).trans (if_pos hy)

theorem stPart_two (c : Dev nD) (t : Fin cfg0.N) (y : S8x1024.Idx) (hy : (y 0).val = 2) : stPart m c t y
    = ∑ r : Fin 512, mDZ m c (row t r) (y 1) * mBr m c (row t r) (y 1) :=
  Finset.sum_congr rfl fun _ _ => (if_neg (by omega)).trans ((if_neg (by omega)).trans (if_pos hy))

theorem stPart_pos (c : Dev nD) (t : Fin cfg0.N) (y : S8x1024.Idx) (hy : 3 ≤ (y 0).val) : stPart m c t y = 0 :=
  Finset.sum_eq_zero fun _ _ => (if_neg (by omega)).trans ((if_neg (by omega)).trans (if_neg (by omega)))

/-- The three stores fill the first three rows. -/
theorem st_cover {w₂ w₁ w₀ : S1x1024.Idx → EReal} (y : S8x1024.Idx) (hy : (y 0).val < 3) :
    ∃ q ∈ ([⟨Rect.unit ![2, 0] S1x1024.size inb_S8x1024_S1x1024_2_0, w₂⟩,
      ⟨Rect.unit ![1, 0] S1x1024.size inb_S8x1024_S1x1024_1_0, w₁⟩,
      ⟨Rect.unit ![0, 0] S1x1024.size inb_S8x1024_S1x1024_0_0, w₀⟩] : List (View.Piece (Elt Ideal) S8x1024 .f32)), y ∈ q.1.set := by
  have hz : (y 1).val < 1024 := (y 1).isLt
  rcases (by omega : (y 0).val = 2 ∨ (y 0).val = 1 ∨ (y 0).val = 0) with h | h | h
  · refine ⟨_, List.mem_cons_self, ?_⟩; rw [Rect.mem_set_unit]; intro a; fin_cases a <;> simp <;> omega
  · refine ⟨_, List.mem_cons_of_mem _ List.mem_cons_self, ?_⟩; rw [Rect.mem_set_unit]; intro a; fin_cases a <;> simp <;> omega
  · refine ⟨_, List.mem_cons_of_mem _ (List.mem_cons_of_mem _ List.mem_cons_self), ?_⟩; rw [Rect.mem_set_unit]; intro a; fin_cases a <;> simp <;> omega

theorem rows_blk (c : Dev nD) (t : Fin cfg0.N) (r : Fin 512) (j : Fin 1024) :
    (iblk m c 0 t : S512x1024.Idx → EReal) (ix2 r j) = aDX m c (ix2 (row t r) j) := by
  have ht := lt16 t
  pointwise [row, Rows.row, aDX]
  blk_point [iblk, idx_val t]

theorem br_blk (c : Dev nD) (t : Fin cfg0.N) (r : Fin 512) (j : Fin 1024) :
    (iblk m c 2 t : S512x1024.Idx → EReal) (ix2 r j) = mBr m c (row t r) j := by
  have ht := lt16 t
  pointwise [mBr, row, Rows.row, aBR]
  blk_point [iblk, idx_val t]

section
variable (c : Dev nD) (t : Fin cfg0.N) (v : Vec Ideal S1x1024 .f32) (y : S1x1024.Idx)

/-- The three stores' rows: what was there, and the grid point's part. -/
theorem scale_pay : k0_pay15 (iblk m c 0 t) (k0_pay10 (iblk m c 2 t) (iblk m c 7 t) (iblk m c 1 t)) v y
    = (show EReal from v y) + ∑ r : Fin 512, aDX m c (ix2 (row t r) (y 1)) * OutModel.xhat (mZ m c (row t r)) (y 1) := by
  rw [xhat_blk]
  unfold k0_pay15
  pointwise
  exact congrArg (fun b : EReal => v y + b) (Finset.sum_congr (M := EReal) rfl fun r _ =>
    congrArg (fun a : EReal => a * OutModel.xhat (mZ m c (row t r)) (y 1)) (rows_blk m c t r (y 1)))

theorem shift_pay : k0_pay16 (iblk m c 0 t) v y
    = (show EReal from v y) + ∑ r : Fin 512, aDX m c (ix2 (row t r) (y 1)) := by
  unfold k0_pay16
  pointwise
  exact congrArg (fun b : EReal => v y + b) (Finset.sum_congr (M := EReal) rfl fun r _ => rows_blk m c t r (y 1))

theorem gate_pay : k0_pay17 (k0_pay7 (iblk m c 2 t)) (k0_pay9 (iblk m c 2 t) (iblk m c 7 t) (iblk m c 1 t))
      (k0_pay10 (iblk m c 2 t) (iblk m c 7 t) (iblk m c 1 t)) (k0_pay11 (iblk m c 0 t) (iblk m c 3 t)) (k0_pay12 (iblk m c 0 t) (iblk m c 3 t))
      (k0_pay13 (iblk m c 0 t) (iblk m c 2 t) (iblk m c 7 t) (iblk m c 1 t) (iblk m c 3 t)) v y
    = (show EReal from v y) + ∑ r : Fin 512, mDZ m c (row t r) (y 1) * mBr m c (row t r) (y 1) := by
  unfold k0_pay17 k0_pay7
  rw [dz_blk]
  pointwise
  exact congrArg (fun b : EReal => v y + b) (Finset.sum_congr (M := EReal) rfl fun r _ =>
    congrArg (fun a : EReal => mDZ m c (row t r) (y 1) * a) (br_blk m c t r (y 1)))

end

theorem st_A (c : Dev nD) (t : Fin cfg0.N) (h0 : t.val % 16 = 0) (h1 : ¬t.val % 16 = 15) (y : S8x1024.Idx) :
    (outsAt0 m c t.val t.isLt).2.2.2.1 y = stPart m c t y := by
  have ht := lt16 t
  have hz : ∀ k : S8x1024.Idx, (k0_pay6 (F := Ideal) k : EReal) = 0 := fun k => by unfold k0_pay6; pointwise
  rw [outsAt0_A m c t h0 h1]
  frame_open
  simp (disch := decide) only [↓ View.readCov_skip, ↓ View.readCov_cons_toLoadRect, ↓ View.readCov_fill]
  frame_out
  by_cases hy : (y 0).val < 3
  · refine (canon_drop [_] [_, _, _] y (st_cover y hy)).trans ?_
    canon_tiles x h using st_cover y hy
    all_goals have hx : x 1 = y 1 := Fin.ext h1.symm
    · refine (gate_pay m c t _ x).trans ?_
      rw [stPart_two m c t y (by omega), hx]
      exact (congrArg (fun a : EReal => a + _) (hz _)).trans (zero_add _)
    · refine (shift_pay m c t _ x).trans ?_
      rw [stPart_one m c t y (by omega), hx]
      exact (congrArg (fun a : EReal => a + _) (hz _)).trans (zero_add _)
    · refine (scale_pay m c t _ x).trans ?_
      rw [stPart_zero m c t y (by omega), hx]
      exact (congrArg (fun a : EReal => a + _) (hz _)).trans (zero_add _)
  · rw [stPart_pos m c t y (by omega)]
    have hn : ∀ (o : Fin 2 → ℕ) (inb : ∀ a, o a + S1x1024.size a ≤ S8x1024.size a) (w : S1x1024.Idx → EReal)
        (L : List (View.Piece (Elt Ideal) S8x1024 .f32)), o 0 ≤ 2 →
        View.canon ((⟨Rect.unit o S1x1024.size inb, w⟩ : View.Piece (Elt Ideal) S8x1024 .f32) :: L) y = View.canon L y := by
      intro o inb w L ho
      refine View.canon_cons_of_not_mem _ _ fun hm => ?_
      rw [Rect.mem_set_unit] at hm
      have : (y 0).val < o 0 + 1 := (hm 0).2
      omega
    refine (hn ![2, 0] inb_S8x1024_S1x1024_2_0 _ _ (le_refl 2)).trans ?_
    refine (hn ![1, 0] inb_S8x1024_S1x1024_1_0 _ _ (by decide)).trans ?_
    refine (hn ![0, 0] inb_S8x1024_S1x1024_0_0 _ _ (Nat.zero_le 2)).trans ?_
    canon_tiles x h
    exact hz x

/-- Off the first three rows a point leaves the block as it was. -/
theorem st_keep {v : View sig .tc .vmem S8x1024 .f32} {f : v.ty.Contents (Elt Ideal)} {w₂ w₁ w₀ : S1x1024.Idx → EReal} (y : S8x1024.Idx)
    (hy : 3 ≤ (y 0).val) :
    v.read (Elt Ideal) (v.writes (Elt Ideal) f [⟨Rect.unit ![2, 0] S1x1024.size inb_S8x1024_S1x1024_2_0, w₂⟩,
      ⟨Rect.unit ![1, 0] S1x1024.size inb_S8x1024_S1x1024_1_0, w₁⟩,
      ⟨Rect.unit ![0, 0] S1x1024.size inb_S8x1024_S1x1024_0_0, w₀⟩]) y = v.read (Elt Ideal) f y := by
  refine (View.read_writes_cons_unit_of_not_mem _ _ _ _ _ y rfl 0 (Or.inr ?_)).trans ?_
  · show 3 ≤ (y 0).val; omega
  refine (View.read_writes_cons_unit_of_not_mem _ _ _ _ _ y rfl 0 (Or.inr ?_)).trans ?_
  · show 2 ≤ (y 0).val; omega
  refine (View.read_writes_cons_unit_of_not_mem _ _ _ _ _ y rfl 0 (Or.inr ?_)).trans ?_
  · show 1 ≤ (y 0).val; omega
  rfl

/-- A row loaded from the block, read at an index. -/
theorem ld_row (f : Vec Ideal S8x1024 .f32) {k : ℕ} (inb : ∀ a, ![k, 0] a + S1x1024.size a ≤ S8x1024.size a) (x : S1x1024.Idx) (y : S8x1024.Idx)
    (h0 : (y 0).val = k + (x 0).val) (h1 : (y 1).val = (x 1).val) : View.ld f (Rect.unit ![k, 0] S1x1024.size inb) x = f y := by
  refine congrArg f (funext fun a => Fin.ext ?_)
  fin_cases a
  · show k + 1 * (x 0).val = (y 0).val
    omega
  · show 0 + 1 * (x 1).val = (y 1).val
    omega

theorem st_B (c : Dev nD) (t : Fin cfg0.N) (h0 : ¬t.val % 16 = 0) (y : S8x1024.Idx) :
    (outsAt0 m c t.val t.isLt).2.2.2.1 y = (show EReal from (outsAt0 m c (t.val - 1) (Nat.lt_of_le_of_lt (Nat.sub_le _ _) t.isLt)).2.2.2.1 y)
      + stPart m c t y := by
  have ht := lt16 t
  by_cases h1 : t.val % 16 = 15
  all_goals first
    | (rw [outsAt0_B m c t h0 h1]; frame_out)
    | (rw [outsAt0_C m c t h0 h1]; frame_out)
  all_goals
    by_cases hy : (y 0).val < 3
    · refine (View.read_writes_apply_eq_canon _ _ y [_, _, _] (st_cover y hy)).trans ?_
      canon_tiles x h using st_cover y hy
      all_goals have hx : x 1 = y 1 := Fin.ext h1.symm
      · refine (gate_pay m c t _ x).trans ?_
        rw [stPart_two m c t y (by omega), hx]
        exact congrArg (fun a : EReal => a + _) (ld_row _ _ x y h0 h1)
      · refine (shift_pay m c t _ x).trans ?_
        rw [stPart_one m c t y (by omega), hx]
        exact congrArg (fun a : EReal => a + _) (ld_row _ _ x y h0 h1)
      · refine (scale_pay m c t _ x).trans ?_
        rw [stPart_zero m c t y (by omega), hx]
        exact congrArg (fun a : EReal => a + _) (ld_row _ _ x y (by omega) h1)
    · rw [stPart_pos m c t y (by omega)]
      refine (st_keep y (by omega)).trans ?_
      refine (congrFun (Memref.IsWhole.read_unread _ _) y).trans ?_
      exact (add_zero _).symm

/-- The last result, whole: the layer norm's and the gate's gradients in the first three of eight rows. -/
theorem st_final (c : Dev nD) : (dats m 0 c).arrAt 12 (cfgs 0).N = fun y : S8x1024.Idx => ∑ R : Fin 8192, stRow m c R y := by
  refine (dats m 0 c).arrAt_eq_of_covers 12 _ (by decide +kernel) fun t hf y => ?_
  blk_simp
  rw [after0_12]
  have e := idx_val t
  refine (Rows.acc_total N_0 (fun n h => (outsAt0 m c n h).2.2.2.1) (fun _ => 0) (stRow m c)
    (fun t h i => (st_A m c t h (by omega) i).trans (zero_add _).symm) (fun t h i => st_B m c t h i) t ?_ y).trans ?_
  · exact (flush0_12 t).mp hf
  · refine (zero_add _).trans (Finset.sum_congr rfl fun R _ => congrArg (stRow m c R) (funext fun a => Fin.ext ?_))
    fin_cases a <;> blk_simp [e]

end Cert.Kernel6Ideal.Value

end
-- ==== Proof.Bout0Run.lean ====
/- What the backward call between the layers leaves in its five results, as formulas over the arrays it is given. -/
module
public import proofs.«01_k».proof.Proof.Bout0Dx
public import proofs.«01_k».proof.Proof.Bout0Gw
public import proofs.«01_k».proof.Proof.Bout0St
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen
variable (m : (ℓ : Loc nD τ sig) → Buf (Elt Ideal) ℓ) (ρ : Dev nD → PrngReg)

/-- The branch the host computes, of the arrays the program takes; the residual sum, and its gradient. -/
abbrev oBr (c : Dev nD) : Fin 8192 → Fin 1024 → EReal := OutModel.br (OutModel.p (aHF m c) (aHB m c) (aG m c)) (aWO m c)
abbrev oZ (c : Dev nD) : Fin 8192 → Fin 1024 → EReal := OutModel.z (aX m c) (aGT m c) (oBr m c)
abbrev oD (c : Dev nD) : Fin 8192 → Fin 1024 → EReal := OutModel.dZ (aDX m c) (aLG m c) (oZ m c)
abbrev oP (c : Dev nD) : Fin 8192 → Fin 2048 → EReal := OutModel.dP (OutModel.dB (aGT m c) (oD m c)) (aWO m c)

theorem br_host (c : Dev nD) : mBr m c = oBr m c := by
  funext R j
  refine Eq.trans ?_ (OutModel.br_eq _ _ R j)
  show StableHlo.after (hostOps0 ++ (hostOps0_1 ++ hostOps0_2)) (fun b => m (c, b)) (Proc.tc.devRef main_v4) (ix2 R j) = _
  rw [StableHlo.after_append, StableHlo.after_append]
  entry_read
  simp only [StableHlo.TRef.ofBuf_toBuf]
  dsimp only [StableHlo.TRef.ofBuf, StableHlo.TRef.toBuf]
  simp only [cast_eq]
  pointwise [OutModel.p, Gate.sgT_eq]
  simp only [Ideal.logistic]

theorem z_host (c : Dev nD) : mZ m c = oZ m c := congrArg (OutModel.z (aX m c) (aGT m c)) (br_host m c)
theorem d_host (c : Dev nD) : mDZ m c = oD m c := congrArg (OutModel.dZ (aDX m c) (aLG m c)) (z_host m c)
theorem b_host (c : Dev nD) : mDB m c = OutModel.dB (aGT m c) (oD m c) := congrArg (OutModel.dB (aGT m c)) (d_host m c)
theorem p_host (c : Dev nD) : mDP m c = oP m c := congrArg (OutModel.dP · (aWO m c)) (b_host m c)

/-- The gradients the call leaves: the residual sum's, the scans' sum's, the gate half's, the output projection's, and the three rows'. -/
def outDz (c : Dev nD) : S8192x1024.Idx → EReal := fun i => oD m c (i 0) (i 1)
def outDy (c : Dev nD) : S8192x2048.Idx → EReal := fun i => OutModel.dY (oP m c) (aG m c) (i 0) (i 1)
def outDg (c : Dev nD) : S8192x2048.Idx → EReal := fun i => OutModel.dG (oP m c) (aHF m c) (aHB m c) (aG m c) (i 0) (i 1)
def outGw (c : Dev nD) : S2048x1024.Idx → EReal := fun y =>
  ∑ R : Fin 8192, OutModel.dwAt (aHF m c) (aHB m c) (aG m c) (OutModel.dB (aGT m c) (oD m c)) R (y 0) (y 1)
def outSt (c : Dev nD) : S8x1024.Idx → EReal := fun y =>
  ∑ R : Fin 8192, OutModel.rowsAt (aDX m c) (oZ m c) (oD m c) (oBr m c) R (y 0) (y 1)

theorem dz_out (c : Dev nD) : (dats m 0 c).arrAt 9 (cfgs 0).N = outDz m c := by
  refine (dz_final m c).trans ?_
  rw [d_host]
  rfl

theorem dy_out (c : Dev nD) : (dats m 0 c).arrAt 10 (cfgs 0).N = outDy m c := by
  refine (dy_final m c).trans ?_
  rw [p_host]
  rfl

theorem dg_out (c : Dev nD) : (dats m 0 c).arrAt 11 (cfgs 0).N = outDg m c := by
  refine (dg_final m c).trans ?_
  rw [p_host]
  rfl

theorem gw_out (c : Dev nD) (n : Nat) (h : n < cfg0.N) (hn : n % 16 = 15) : (outsAt0 m c n h).2.2.2.2.2 = outGw m c := by
  refine (gwo_last m c ⟨n, h⟩ hn).trans ?_
  unfold gwoRow
  rw [b_host]
  rfl

theorem st_out (c : Dev nD) : (dats m 0 c).arrAt 12 (cfgs 0).N = outSt m c := by
  refine (st_final m c).trans ?_
  unfold stRow
  rw [d_host, z_host, br_host]
  rfl

theorem last_mod : ((Fin.last cfg0.N).val - 1) % 16 = 15 := by rw [Fin.val_last, show cfg0.N = 16 from N_0]

theorem run_model : θ_run defs (onTc (τ := τ) (main (F := Ideal))) ⟨m, fun _ => 0, ρ⟩ fun r => ∀ c : Dev nD,
      r.2.mem ((c : Thread nD τ).loc main_v9_0) = outDz m c
      ∧ r.2.mem ((c : Thread nD τ).loc main_v9_1) = outDy m c
      ∧ r.2.mem ((c : Thread nD τ).loc main_v9_2) = outDg m c
      ∧ r.2.mem ((c : Thread nD τ).loc main_v9_3) = outGw m c
      ∧ r.2.mem ((c : Thread nD τ).loc main_v9_4) = outSt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_blocks m ρ)
  obtain ⟨hz, hy, hg, hst, a0, a1, a2, a3, a4, a5, a6, a7, a8, hgw⟩ := h c
  exact ⟨hz.trans (dz_out m c), hy.trans (dy_out m c), hg.trans (dg_out m c), hgw.trans (gw_out m c _ _ last_mod),
    hst.trans (st_out m c), a0, a1, a2, a3, a4, a5, a6, a7, a8⟩

end Cert.Kernel6Ideal.Value

end
-- ==== Proof.Bout0Ref.lean ====
/- The reference's results for the backward call between the layers, read at an index. -/
module
public import proofs.«01_k».proof.Proof.Gen.Reference6Ideal.Read
public import Idealize.ShloMosaic.Lib.Pointwise
public import Idealize.ShloMosaic.Lib.Claim
public import proofs.«01_k».proof.Proof.OutGrad
@[expose] public section
set_option maxRecDepth 16384
noncomputable section
open Idealize.ShloMosaic Idealize.ShloMosaic.TcCoe Idealize.SL.Sem Idealize.ShloMosaic.StableHlo
namespace Cert.Reference6Ideal.Read
open Cert.Reference6Ideal Cert.Reference6Ideal.Gen
variable (x0 x1 : InModel.Tok.Idx → EReal) (x2 : InModel.Row.Idx → EReal) (x4 x5 x6 : InModel.Chan.Idx → EReal)
  (x7 : InModel.Row.Idx → EReal) (x8 : OutModel.Out.Idx → EReal)

/-- The residual sum, and its gradient. -/
abbrev rZ : Fin 8192 → Fin 1024 → EReal := OutModel.z x1 x7 (OutModel.br (OutModel.p x4 x5 x6) x8)
abbrev rD : Fin 8192 → Fin 1024 → EReal := OutModel.dZ x0 x2 (rZ x1 x4 x5 x6 x7 x8)

theorem read_v3 (i : S8192x2048.Idx) : val_main_v3 (F := Ideal) x6 i = x6 i * Gate.sgT (x6 i) := by
  pointwise [val_main_v3, val_main_call0_v0, val_main_call0_v1, val_main_call0_v2, val_main_call0_v3, val_main_call0_v4, val_main_call0_v5, val_main_call0_cst, val_main_call0_cst_0, Gate.sgT_eq]
  simp only [Ideal.logistic]

theorem read_sg (i : S8192x2048.Idx) : val_main_v78_2 (F := Ideal) x6 i = Gate.sgT (x6 i) := by
  pointwise [val_main_v78_2, val_main_call1_v0, val_main_call1_v1, val_main_call1_v2, val_main_call1_v3, val_main_call1_v4, val_main_call1_cst, val_main_call1_cst_0, Gate.sgT_eq]
  simp only [Ideal.logistic]

theorem read_v4 (i : S8192x2048.Idx) : val_main_v4 (F := Ideal) x4 x5 x6 i = OutModel.p x4 x5 x6 (i 0) (i 1) := by
  pointwise [val_main_v4, val_main_v2, read_v3, OutModel.p]

theorem read_v5 (i : S8192x1024.Idx) : val_main_v5 (F := Ideal) x4 x5 x6 x8 i = OutModel.br (OutModel.p x4 x5 x6) x8 (i 0) (i 1) := by
  refine Eq.trans ?_ (OutModel.br_eq _ x8 (i 0) (i 1))
  pointwise [val_main_v5, read_v4]

theorem read_v8 (i : S8192x1024.Idx) : val_main_v8 (F := Ideal) x1 x4 x5 x6 x7 x8 i = rZ x1 x4 x5 x6 x7 x8 (i 0) (i 1) := by
  pointwise [val_main_cst, val_main_v0, val_main_v1, val_main_v6, val_main_v7, val_main_v8, read_v5, OutModel.z]

theorem read_v12 (i : S8192x1.Idx) : val_main_v12 (F := Ideal) x1 x4 x5 x6 x7 x8 i = OutModel.mean (rZ x1 x4 x5 x6 x7 x8 (i 0)) := by
  pointwise [val_main_v9, val_main_v10, val_main_v11, val_main_v12, val_main_cst_0, val_main_cst_1, read_v8, OutModel.mean]

theorem read_v14 (i : S8192x1024.Idx) : val_main_v14 (F := Ideal) x1 x4 x5 x6 x7 x8 i
    = OutModel.cen (rZ x1 x4 x5 x6 x7 x8 (i 0)) (i 1) := by
  pointwise [val_main_v13, val_main_v14, read_v8, read_v12, OutModel.cen]

theorem read_v23 (i : S8192x1024.Idx) : val_main_v23 (F := Ideal) x1 x4 x5 x6 x7 x8 i
    = OutModel.cen (rZ x1 x4 x5 x6 x7 x8 (i 0)) (i 1) := by
  pointwise [val_main_v22, val_main_v23, read_v8, read_v12, OutModel.cen]

theorem read_v25 (i : S8192x1.Idx) : val_main_v25 (F := Ideal) x1 x4 x5 x6 x7 x8 i = OutModel.vare (rZ x1 x4 x5 x6 x7 x8 (i 0)) := by
  pointwise [val_main_v15, val_main_v18, val_main_v19, val_main_v20, val_main_v21, val_main_v24, val_main_v25, val_main_cst_3, val_main_cst_4,
    val_main_cst_5, read_v14, OutModel.vare, OutModel.mean]

theorem read_v26 (i : S8192x1.Idx) : val_main_v26 (F := Ideal) x1 x4 x5 x6 x7 x8 i = OutModel.rstd (rZ x1 x4 x5 x6 x7 x8 (i 0)) := by
  pointwise [val_main_v26, read_v25, OutModel.rstd]

theorem read_v31 (i : S8192x1024.Idx) : val_main_v31 (F := Ideal) x1 x4 x5 x6 x7 x8 i
    = OutModel.xhat (rZ x1 x4 x5 x6 x7 x8 (i 0)) (i 1) := by
  pointwise [val_main_v30, val_main_v31, read_v23, read_v26, OutModel.xhat]

theorem read_v36 (i : S8192x1024.Idx) : val_main_v36 (F := Ideal) x0 i = x0 i := by
  pointwise [val_main_v36]

theorem read_v43 (i : S8192x1024.Idx) : val_main_v43 (F := Ideal) x0 x2 i = OutModel.dn x0 x2 (i 0) (i 1) := by
  pointwise [val_main_v42, val_main_v43, read_v36, OutModel.dn]

theorem read_v48 (i : S8192x1024.Idx) : val_main_v48 (F := Ideal) x0 x1 x2 x4 x5 x6 x7 x8 i
    = OutModel.dn x0 x2 (i 0) (i 1) * OutModel.rstd (rZ x1 x4 x5 x6 x7 x8 (i 0)) := by
  pointwise [val_main_v47, val_main_v48, read_v43, read_v26]

theorem read_v57 (i : S8192x1024.Idx) : val_main_v57 (F := Ideal) x0 x1 x2 x4 x5 x6 x7 x8 i
    = OutModel.dvar (rZ x1 x4 x5 x6 x7 x8 (i 0)) (OutModel.dn x0 x2 (i 0)) (i 1) := by
  pointwise [val_main_v16, val_main_v17, val_main_v27, val_main_v28, val_main_v29, val_main_v44, val_main_v45, val_main_v46, val_main_v49,
    val_main_v53, val_main_v54, val_main_v55, val_main_v56, val_main_v57, val_main_cst_2, val_main_cst_6, val_main_cst_9, val_main_cst_11,
    val_main_cst_12, read_v14, read_v23, read_v25, read_v26, read_v43, OutModel.dvar]
  exact congrArg (fun a : EReal => a * _) (Fin.sum_univ_one _)

theorem read_v67 (i : S8192x1024.Idx) : val_main_v67 (F := Ideal) x0 x1 x2 x4 x5 x6 x7 x8 i
    = OutModel.dzRef (rZ x1 x4 x5 x6 x7 x8 (i 0)) (OutModel.dn x0 x2 (i 0)) (i 1) := by
  pointwise [val_main_v50, val_main_v51, val_main_v52, val_main_v58, val_main_v59, val_main_v60, val_main_v61, val_main_v62,
    val_main_v63, val_main_v64, val_main_v65, val_main_v66, val_main_v67, val_main_cst_10, val_main_cst_13, val_main_cst_14, val_main_cst_15,
    read_v48, read_v57, OutModel.dzRef]
  exact congrArg (fun a : EReal => _ + a) (Fin.sum_univ_one _)

/-- Where every argument is real, the reference's gradient of the residual sum is the short form. -/
theorem read_dz (h0 : ∀ i, Gate.Re (x0 i)) (h1 : ∀ i, Gate.Re (x1 i)) (h2 : ∀ i, Gate.Re (x2 i)) (h4 : ∀ i, Gate.Re (x4 i))
    (h5 : ∀ i, Gate.Re (x5 i)) (h6 : ∀ i, Gate.Re (x6 i)) (h7 : ∀ i, Gate.Re (x7 i)) (h8 : ∀ i, Gate.Re (x8 i)) (i : S8192x1024.Idx) :
    val_main_v67 (F := Ideal) x0 x1 x2 x4 x5 x6 x7 x8 i = rD x0 x1 x2 x4 x5 x6 x7 x8 (i 0) (i 1) :=
  (read_v67 x0 x1 x2 x4 x5 x6 x7 x8 i).trans
    (OutModel.dz_eq (OutModel.z_real h1 h4 h5 h6 h7 h8 (i 0)) (OutModel.dn_real h0 h2 (i 0)) (i 1))

section
variable {x0 x1 x2 x4 x5 x6 x7 x8} {D : Fin 8192 → Fin 1024 → EReal}
  (h : ∀ i : S8192x1024.Idx, val_main_v67 (F := Ideal) x0 x1 x2 x4 x5 x6 x7 x8 i = D (i 0) (i 1))
include h

/-- The other results, from that gradient. -/
theorem read_v69 (i : S8192x1024.Idx) : val_main_v69 (F := Ideal) x0 x1 x2 x4 x5 x6 x7 x8 i = OutModel.dB x7 D (i 0) (i 1) := by
  pointwise [val_main_v68, val_main_v69, h, OutModel.dB]

theorem read_v75 (i : S8192x2048.Idx) : val_main_v75 (F := Ideal) x0 x1 x2 x4 x5 x6 x7 x8 i
    = OutModel.dP (OutModel.dB x7 D) x8 (i 0) (i 1) := by
  pointwise [val_main_v75, read_v69 h, OutModel.dP]

theorem read_v84 (i : S8192x2048.Idx) : val_main_v84 (F := Ideal) x0 x1 x2 x4 x5 x6 x7 x8 i
    = OutModel.dY (OutModel.dP (OutModel.dB x7 D) x8) x6 (i 0) (i 1) := by
  pointwise [val_main_v84, val_main_v77, read_v75 h, read_v3, OutModel.dY]

theorem read_v85 (hd : ∀ R j, Gate.Re (D R j)) (h4 : ∀ i, Gate.Re (x4 i)) (h5 : ∀ i, Gate.Re (x5 i)) (h6 : ∀ i, Gate.Re (x6 i))
    (h7 : ∀ i, Gate.Re (x7 i)) (h8 : ∀ i, Gate.Re (x8 i)) (i : S8192x2048.Idx) :
    val_main_v85 (F := Ideal) x0 x1 x2 x4 x5 x6 x7 x8 i
      = OutModel.dG (OutModel.dP (OutModel.dB x7 D) x8) x4 x5 x6 (i 0) (i 1) := by
  refine Eq.trans ?_ (OutModel.gate_fac (OutModel.dP_real hd h7 h8 (i 0) (i 1)) ((h4 _).add (h5 _)) (h6 _) (OutModel.sg_real h6 _))
  pointwise [val_main_v85, val_main_v81, val_main_v80, val_main_v79, val_main_cst_17, val_main_call2_v0, val_main_call2_v1,
    val_main_call2_v2, val_main_v78_1, val_main_call1_v6, val_main_call1_v7, val_main_call1_cst_1, val_main_v76, val_main_v2,
    read_v75 h, read_sg]

theorem read_v74 (i : S2048x1024.Idx) : val_main_v74 (F := Ideal) x0 x1 x2 x4 x5 x6 x7 x8 i
    = ∑ R : Fin 8192, OutModel.dwAt x4 x5 x6 (OutModel.dB x7 D) R (i 0) (i 1) := by
  pointwise [val_main_v74, val_main_v73, read_v69 h, read_v4, OutModel.dwAt]
  exact Finset.sum_congr rfl fun R _ => mul_comm _ _

theorem read_v83 (i : S8x1024.Idx) : val_main_v83 (F := Ideal) x0 x1 x2 x4 x5 x6 x7 x8 i
    = ∑ R : Fin 8192, OutModel.rowsAt x0 (rZ x1 x4 x5 x6 x7 x8) D (OutModel.br (OutModel.p x4 x5 x6) x8) R (i 0) (i 1) := by
  pointwise [val_main_v83, val_main_v82, val_main_v41, val_main_v40, val_main_v39, val_main_v38, val_main_v37, val_main_v72, val_main_v71,
    val_main_v70, val_main_c, val_main_cst_7, val_main_cst_8, val_main_cst_16, val_main_call3_v0, read_v31, read_v36, read_v5, h,
    OutModel.rowsAt]
  by_cases h0 : (i 0).val = 0
  · rw [dif_pos (by omega), dif_pos (by omega)]
    exact Finset.sum_congr rfl fun R _ => (mul_comm _ _).trans (if_pos h0).symm
  by_cases h1 : (i 0).val = 1
  · rw [dif_pos (by omega), dif_neg (by omega), dif_pos (by omega)]
    exact Finset.sum_congr rfl fun R _ => ((if_neg h0).trans (if_pos h1)).symm
  by_cases h2 : (i 0).val = 2
  · rw [dif_pos (by omega), dif_neg (by omega), dif_neg (by omega)]
    exact Finset.sum_congr rfl fun R _ => ((if_neg h0).trans ((if_neg h1).trans (if_pos h2))).symm
  · rw [dif_neg (by omega)]
    refine Eq.trans ?_ (Finset.sum_eq_zero fun R _ => (if_neg h0).trans ((if_neg h1).trans (if_neg h2))).symm
    show (((0#32 : BitVec 32).toInt : ℝ) : EReal) = 0
    simp

end

end Cert.Reference6Ideal.Read

end
-- ==== Proof.Pre6.lean ====
/- The sixth program's precondition read at an element: every entry of the arguments it names is a real number. -/
module

public import proofs.«01_k».proof.Proof.Gen.Pre_finite6
public import proofs.«01_k».proof.Proof.Real
public import Idealize.ShloMosaic.Lib.ReduceAll

@[expose] public section

noncomputable section

namespace Cert.Pre_finite6

open Idealize.ShloMosaic Cert.Pre_finite6.Gen

theorem real_of_fn (x0 x1 : FVec Ideal S8192x1024 .f32) (x2 x3 : FVec Ideal S1x1024 .f32) (x4 x5 x6 : FVec Ideal S8192x2048 .f32)
    (x7 : FVec Ideal S1x1024 .f32) (x8 : FVec Ideal S2048x1024 .f32)
    (h : fn (F := Ideal) x0 x1 x2 x3 x4 x5 x6 x7 x8 = fun _ => 1#1) :
    (∀ i, Gate.Re (x0 i)) ∧ (∀ i, Gate.Re (x1 i)) ∧ (∀ i, Gate.Re (x2 i)) ∧ (∀ i, Gate.Re (x4 i)) ∧ (∀ i, Gate.Re (x5 i))
      ∧ (∀ i, Gate.Re (x6 i)) ∧ (∀ i, Gate.Re (x7 i)) ∧ (∀ i, Gate.Re (x8 i)) := by
  have e : ∀ j : S_.Idx, fn (F := Ideal) x0 x1 x2 x3 x4 x5 x6 x7 x8 j = 1#1 := fun j => congrFun h j
  dsimp only [fn, fn_part1, fn_part2, andi] at e
  have e := e (Shape.Idx.first h_S_)
  simp only [IntOp.andi_eq_one] at e
  obtain ⟨⟨⟨⟨⟨⟨⟨e0, e1⟩, e2⟩, e4⟩, e5⟩, e6⟩, e7⟩, e8⟩ := e
  exact ⟨fun i => Gate.Re.of_abs_lt (Host.reduce_andi_all _ _ _ _ _ e0 i), fun i => Gate.Re.of_abs_lt (Host.reduce_andi_all _ _ _ _ _ e1 i),
    fun i => Gate.Re.of_abs_lt (Host.reduce_andi_all _ _ _ _ _ e2 i), fun i => Gate.Re.of_abs_lt (Host.reduce_andi_all _ _ _ _ _ e4 i),
    fun i => Gate.Re.of_abs_lt (Host.reduce_andi_all _ _ _ _ _ e5 i), fun i => Gate.Re.of_abs_lt (Host.reduce_andi_all _ _ _ _ _ e6 i),
    fun i => Gate.Re.of_abs_lt (Host.reduce_andi_all _ _ _ _ _ e7 i), fun i => Gate.Re.of_abs_lt (Host.reduce_andi_all _ _ _ _ _ e8 i)⟩

end Cert.Pre_finite6

end
-- ==== Proof.OutLoss.lean ====
/- What the last layer's end computes, entry by entry, on the extended reals: the group product `po = d·w_p`, the gated branch
   `(po · scale · silu g) · w_out`, the layer norm's error against the target, and the loss's gradients. `R` is a row (a token), `j`
   one of its 1024 features, `x` one of the 2048 channels, which come in four groups of 512. -/
module
public import proofs.«01_k».proof.Proof.OutGrad
@[expose] public section
noncomputable section
namespace Cert.OutModel
open Idealize.ShloMosaic Cert.InModel

/-- The group products' weights and the channels' scale, by their shapes. -/
abbrev Grp : Shape := ⟨3, ![4, 512, 512]⟩
abbrev ChanRow : Shape := ⟨2, ![1, 2048]⟩

/-- Channel `n` of group `k` of the group product, and the group product's channel `x`. -/
def poBlk (D : Chan.Idx → EReal) (W : Grp.Idx → EReal) (k : Fin 4) (R : Fin 8192) (n : Fin 512) : EReal :=
  ∑ l : Fin 512, D (ix2 R ⟨512 * k + l, by omega⟩) * W (ix3 k l n)
def po (D : Chan.Idx → EReal) (W : Grp.Idx → EReal) (R : Fin 8192) (x : Fin 2048) : EReal :=
  poBlk D W ⟨x / 512, by omega⟩ R ⟨x % 512, by omega⟩

theorem po_grp (D : Chan.Idx → EReal) (W : Grp.Idx → EReal) (k : Fin 4) (R : Fin 8192) (n : Fin 512) :
    po D W R ⟨512 * k + n, by omega⟩ = poBlk D W k R n := by
  unfold po
  exact congrArg₂ (fun a b => poBlk D W a R b) (Fin.ext (by show (512 * k.val + n.val) / 512 = k.val; omega))
    (Fin.ext (by show (512 * k.val + n.val) % 512 = n.val; omega))

theorem po_tile (D : Chan.Idx → EReal) (W : Grp.Idx → EReal) (k : Fin 4) (R : Fin 8192) (n : Fin 512) (x : Fin 2048)
    (h : x.val = 512 * k.val + n.val) : po D W R x = poBlk D W k R n :=
  (congrArg (po D W R) (Fin.ext h)).trans (po_grp D W k R n)

/-- The output projection's input: the group product, scaled and gated. -/
def ps (PO : Fin 8192 → Fin 2048 → EReal) (SC : ChanRow.Idx → EReal) (G : Chan.Idx → EReal) (R : Fin 8192) (x : Fin 2048) : EReal :=
  PO R x * SC (ix2 0 x) * (G (ix2 R x) * Gate.sgT (G (ix2 R x)))

/-- Group `k`'s part of the branch, from that group's product. -/
def psBlk (D : Chan.Idx → EReal) (W : Grp.Idx → EReal) (SC : ChanRow.Idx → EReal) (G : Chan.Idx → EReal) (WO : Out.Idx → EReal)
    (k : Fin 4) (R : Fin 8192) (j : Fin 1024) : EReal :=
  ∑ n : Fin 512, poBlk D W k R n * SC (ix2 0 ⟨512 * k + n, by omega⟩)
    * (G (ix2 R ⟨512 * k + n, by omega⟩) * Gate.sgT (G (ix2 R ⟨512 * k + n, by omega⟩))) * WO (ix2 ⟨512 * k + n, by omega⟩ j)

theorem ps_grp (D : Chan.Idx → EReal) (W : Grp.Idx → EReal) (SC : ChanRow.Idx → EReal) (G : Chan.Idx → EReal) (WO : Out.Idx → EReal)
    (R : Fin 8192) (j : Fin 1024) : br (ps (po D W) SC G) WO R j
      = psBlk D W SC G WO 0 R j + psBlk D W SC G WO 1 R j + psBlk D W SC G WO 2 R j + psBlk D W SC G WO 3 R j := by
  have h : ∀ k : Fin 4, brBlk (ps (po D W) SC G) WO k R j = psBlk D W SC G WO k R j := fun k =>
    Finset.sum_congr rfl fun n _ => congrArg (fun a : EReal => a * _ * _ * _) (po_grp D W k R n)
  unfold br
  rw [h, h, h, h]

/-- The layer norm's error against the target, its gradient in the loss, and that gradient through the layer norm's scale. -/
def err (LG LB : Row.Idx → EReal) (TG : Tok.Idx → EReal) (Z : Fin 8192 → Fin 1024 → EReal) (R : Fin 8192) (j : Fin 1024) : EReal :=
  xhat (Z R) j * LG (ix2 0 j) + LB (ix2 0 j) - TG (ix2 R j)
def dE (E : Fin 8192 → Fin 1024 → EReal) (R : Fin 8192) (j : Fin 1024) : EReal := E R j * Ideal.ofBits .f32 0x3A800000#32
def dL (E : Fin 8192 → Fin 1024 → EReal) (LG : Row.Idx → EReal) (R : Fin 8192) (j : Fin 1024) : EReal := dE E R j * LG (ix2 0 j)

/-- Row `R`'s part of the four rows, among eight: the gradients of the layer norm's scale and shift and of the gate, the squared
    error, and nothing. -/
def lossRows (E Z D BR : Fin 8192 → Fin 1024 → EReal) (R : Fin 8192) (k : Fin 8) (j : Fin 1024) : EReal :=
  if k.val = 0 then dE E R j * xhat (Z R) j else if k.val = 1 then dE E R j else if k.val = 2 then D R j * BR R j
    else if k.val = 3 then E R j * E R j else 0

open Cert.Gate

theorem word_inv : Ideal.ofBits .f32 0x3A800000#32 = ((1 / 1024 : ℝ) : EReal) := by
  simp [Ideal.ofBits, Ideal.ieee]
  rw [← EReal.coe_mul]
  norm_num

theorem word_half : Ideal.ofBits .f32 0x3F000000#32 = ((1 / 2 : ℝ) : EReal) := by
  simp [Ideal.ofBits, Ideal.ieee]
  rw [← EReal.coe_mul]
  norm_num

theorem word_one : Ideal.ofBits .f32 0x3F800000#32 = ((1 : ℝ) : EReal) := by
  simp [Ideal.ofBits, Ideal.ieee]
  rw [← EReal.coe_mul]
  norm_num

/-- Half of a row's mean of squares has the error over the row's length as its gradient. -/
theorem half_mean (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [word_half, word_one, word_1024, word_two, word_inv, ← EReal.coe_mul, div_real (by norm_num), ← mul_assoc, ← EReal.coe_mul,
    mul_comm]
  norm_num

theorem xhat_real {v : Fin 1024 → EReal} (hv : ∀ j, Re (v j)) (j : Fin 1024) : Re (xhat v j) := by
  choose f hf using hv
  obtain rfl : v = fun k => (f k : EReal) := funext hf
  obtain ⟨c, w, r, hc, hw, hr, h0, hp, h1⟩ := row_real f
  unfold xhat
  rw [hc, hr, ← EReal.coe_mul]
  exact ⟨_, rfl⟩

section
variable {D G : Chan.Idx → EReal} {W : Grp.Idx → EReal} {SC : ChanRow.Idx → EReal} {X TG : Tok.Idx → EReal}
  {GT LG LB : Row.Idx → EReal} {WO : Out.Idx → EReal}

theorem lossZ_real (hd : ∀ i, Re (D i)) (hw : ∀ i, Re (W i)) (hs : ∀ i, Re (SC i)) (hg : ∀ i, Re (G i)) (hx : ∀ i, Re (X i))
    (ht : ∀ i, Re (GT i)) (ho : ∀ i, Re (WO i)) (R : Fin 8192) (j : Fin 1024) : Re (z X GT (br (ps (po D W) SC G) WO) R j) := by
  unfold z
  rw [← br_eq]
  unfold ps po poBlk
  exact (word_alpha.mul (hx _)).add ((ht _).mul (Re.sum _ _ fun x =>
    (((Re.sum _ _ fun l => (hd _).mul (hw _)).mul (hs _)).mul ((hg _).mul (sg_real hg _))).mul (ho _)))

theorem dL_real {Z : Fin 8192 → Fin 1024 → EReal} (hz : ∀ R j, Re (Z R j)) (hl : ∀ i, Re (LG i)) (hb : ∀ i, Re (LB i))
    (ht : ∀ i, Re (TG i)) (R : Fin 8192) (j : Fin 1024) : Re (dL (err LG LB TG Z) LG R j) := by
  refine Re.mul (Re.mul ?_ ⟨_, word_inv⟩) (hl _)
  obtain ⟨a, ha⟩ := ((xhat_real (hz R) j).mul (hl (ix2 0 j))).add (hb (ix2 0 j))
  obtain ⟨b, hb⟩ := ht (ix2 R j)
  unfold err
  rw [ha, hb, ← EReal.coe_sub]
  exact ⟨_, rfl⟩

end

end Cert.OutModel

end
-- ==== Proof.Out1.lean ====
/- The forward call at the last layer's end: the branch, the layer norm's error and the loss's gradients at a grid point. -/
module
public import proofs.«01_k».proof.Proof.Gen.Kernel7Ideal.Value
public import proofs.«01_k».proof.Proof.OutLoss
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen
variable (m : (ℓ : Loc nD τ sig) → Buf (Elt Ideal) ℓ) (ρ : Dev nD → PrngReg)

/-- Where each window's block lies at a grid point: 512 rows of the token arrays, the whole of the others. -/
theorem idx_val : ∀ t : Fin cfg0.N, win0_0.index t = ![t.val, 0] ∧ win0_1.index t = ![0, 0, 0] ∧ win0_2.index t = ![0, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![0, 0] ∧ win0_12.index t = ![t.val, 0] :=
  (by decide +kernel : ∀ t : Fin grid0.N, _)

theorem lt16 (t : Fin cfg0.N) : t.val < 16 := lt_of_lt_of_eq t.isLt N_0

/-- Row `r` of grid point `t`'s 512 rows, as a row of the whole arrays. -/
abbrev row (t : Fin cfg0.N) (r : Fin 512) : Fin 8192 := Rows.row N_0 t r

/-- The argument arrays of the call. -/
abbrev aD (c : Dev nD) : InModel.Chan.Idx → EReal := m ((c : Thread nD τ).loc main_arg0)
abbrev aW (c : Dev nD) : OutModel.Grp.Idx → EReal := m ((c : Thread nD τ).loc main_arg1)
abbrev aSC (c : Dev nD) : OutModel.ChanRow.Idx → EReal := m ((c : Thread nD τ).loc main_arg2)
abbrev aG (c : Dev nD) : InModel.Chan.Idx → EReal := m ((c : Thread nD τ).loc main_arg3)
abbrev aX (c : Dev nD) : InModel.Tok.Idx → EReal := m ((c : Thread nD τ).loc main_arg4)
abbrev aGT (c : Dev nD) : InModel.Row.Idx → EReal := m ((c : Thread nD τ).loc main_arg5)
abbrev aWO (c : Dev nD) : OutModel.Out.Idx → EReal := m ((c : Thread nD τ).loc main_arg6)
abbrev aLG (c : Dev nD) : InModel.Row.Idx → EReal := m ((c : Thread nD τ).loc main_arg7)
abbrev aLB (c : Dev nD) : InModel.Row.Idx → EReal := m ((c : Thread nD τ).loc main_arg8)
abbrev aTG (c : Dev nD) : InModel.Tok.Idx → EReal := m ((c : Thread nD τ).loc main_arg9)

/-- The branch of the call's arrays, the residual sum, the error and the residual sum's gradient. -/
def mBr (c : Dev nD) : Fin 8192 → Fin 1024 → EReal :=
  OutModel.br (OutModel.ps (OutModel.po (aD m c) (aW m c)) (aSC m c) (aG m c)) (aWO m c)
def mZ (c : Dev nD) : Fin 8192 → Fin 1024 → EReal := OutModel.z (aX m c) (aGT m c) (mBr m c)
def mE (c : Dev nD) : Fin 8192 → Fin 1024 → EReal := OutModel.err (aLG m c) (aLB m c) (aTG m c) (mZ m c)
def mDZ (c : Dev nD) (R : Fin 8192) (j : Fin 1024) : EReal := OutModel.dz (mZ m c R) (OutModel.dL (mE m c) (aLG m c) R) j

section
variable {v84 : FVec Ideal S512x1024 .f32} {v94 v97 v102 : FVec Ideal S512x512 .f32} {v107 : Vec Ideal S512x1024 .bf16}
  {B : S512x1024.Idx → EReal} (hB : k0_pay19 v84 v94 v97 v102 v107 = B) (v112 v141 : Vec Ideal S512x1024 .f32)
  (v115 v135 v138 : Vec Ideal S1x1024 .f32)

/-- A grid point's residual sum, row by row, from its branch. -/
def zrow (B : S512x1024.Idx → EReal) (v112 : S512x1024.Idx → EReal) (v115 : S1x1024.Idx → EReal) (r : Fin 512) (j : Fin 1024) : EReal :=
  Ideal.ofBits .f32 0x3FB504F3#32 * v112 (ix2 r j) + v115 (ix2 0 j) * B (ix2 r j)

/-- A grid point's error, row by row. -/
def erow (B : S512x1024.Idx → EReal) (v112 v141 : S512x1024.Idx → EReal) (v115 v135 v138 : S1x1024.Idx → EReal) (r : Fin 512)
    (j : Fin 1024) : EReal :=
  OutModel.xhat (zrow B v112 v115 r) j * v135 (ix2 0 j) + v138 (ix2 0 j) - v141 (ix2 r j)

include hB

theorem cen_pay : k0_pay20 v84 v94 v97 v102 v107 v112 v115 = fun y : S512x1024.Idx => OutModel.cen (zrow B v112 v115 (y 0)) (y 1) := by
  funext y
  unfold k0_pay20
  simp only [hB]
  pointwise [OutModel.cen, OutModel.mean, zrow]

theorem rstd_pay : k0_pay21 v84 v94 v97 v102 v107 v112 v115 = fun y : S512x1.Idx => OutModel.rstd (zrow B v112 v115 (y 0)) := by
  funext y
  unfold k0_pay21
  rw [cen_pay hB]
  pointwise [OutModel.rstd, OutModel.vare, OutModel.mean]

theorem xhat_pay : k0_pay22 v84 v94 v97 v102 v107 v112 v115 = fun y : S512x1024.Idx => OutModel.xhat (zrow B v112 v115 (y 0)) (y 1) := by
  funext y
  unfold k0_pay22
  rw [cen_pay hB, rstd_pay hB]
  pointwise [OutModel.xhat]

theorem err_pay : k0_pay23 v84 v94 v97 v102 v107 v112 v115 v135 v138 v141
    = fun y : S512x1024.Idx => erow B v112 v141 v115 v135 v138 (y 0) (y 1) := by
  funext y
  unfold k0_pay23
  rw [xhat_pay hB]
  pointwise [erow]

omit hB in
theorem dz_pay (Z E : Fin 512 → Fin 1024 → EReal) : k0_pay25 (fun y : S512x1.Idx => OutModel.rstd (Z (y 0)))
      (fun y : S512x1024.Idx => OutModel.xhat (Z (y 0)) (y 1)) v135 (fun y : S512x1024.Idx => E (y 0) (y 1))
    = fun y : S512x1024.Idx => OutModel.dz (Z (y 0)) (fun k => E (y 0) k * Ideal.ofBits .f32 0x3A800000#32 * v135 (ix2 0 k)) (y 1) := by
  funext y
  unfold k0_pay25 k0_pay24
  pointwise [OutModel.dz, OutModel.mean]

end

/-- The branch's parts at a grid point, in the order they are computed. -/
abbrev p84 (c : Dev nD) (t : Fin cfg0.N) : FVec Ideal S512x1024 .f32 :=
  k0_pay13
    (k0_pay10
      (k0_pay6 (View.ld (iblk m c 0 t) (Rect.unit ![0, 0] ![512, 512] inb_S512x2048_S512x512_0_0))
        (View.ld (iblk m c 1 t) (Rect.unit ![0, 0, 0] ![1, 512, 512] inb_S4x512x512_S1x512x512_0_0_0))
        (View.ld (iblk m c 2 t) (Rect.unit ![0, 0] ![1, 512] inb_S1x2048_S1x512_0_0))
        (View.ld (iblk m c 3 t) (Rect.unit ![0, 0] ![512, 512] inb_S512x2048_S512x512_0_0))
        (View.ld (iblk m c 6 t) (Rect.unit ![0, 0] ![512, 1024] inb_S2048x1024_S512x1024_0_0)))
      (k0_pay7 (View.ld (iblk m c 0 t) (Rect.unit ![0, 512] ![512, 512] inb_S512x2048_S512x512_0_512)))
      (View.ld (iblk m c 1 t) (Rect.unit ![1, 0, 0] ![1, 512, 512] inb_S4x512x512_S1x512x512_1_0_0))
      (View.ld (iblk m c 2 t) (Rect.unit ![0, 512] ![1, 512] inb_S1x2048_S1x512_0_512))
      (View.ld (iblk m c 3 t) (Rect.unit ![0, 512] ![512, 512] inb_S512x2048_S512x512_0_512))
      (View.ld (iblk m c 6 t) (Rect.unit ![512, 0] ![512, 1024] inb_S2048x1024_S512x1024_512_0)))
    (k0_pay11 (View.ld (iblk m c 0 t) (Rect.unit ![0, 1024] ![512, 512] inb_S512x2048_S512x512_0_1024))
      (View.ld (iblk m c 1 t) (Rect.unit ![2, 0, 0] ![1, 512, 512] inb_S4x512x512_S1x512x512_2_0_0)))
    (View.ld (iblk m c 2 t) (Rect.unit ![0, 1024] ![1, 512] inb_S1x2048_S1x512_0_1024))
    (View.ld (iblk m c 3 t) (Rect.unit ![0, 1024] ![512, 512] inb_S512x2048_S512x512_0_1024))
    (View.ld (iblk m c 6 t) (Rect.unit ![1024, 0] ![512, 1024] inb_S2048x1024_S512x1024_1024_0))
abbrev p94 (c : Dev nD) (t : Fin cfg0.N) : FVec Ideal S512x512 .f32 :=
  k0_pay16 (View.ld (iblk m c 0 t) (Rect.unit ![0, 1536] ![512, 512] inb_S512x2048_S512x512_0_1536))
    (View.ld (iblk m c 1 t) (Rect.unit ![3, 0, 0] ![1, 512, 512] inb_S4x512x512_S1x512x512_3_0_0))
    (View.ld (iblk m c 2 t) (Rect.unit ![0, 1536] ![1, 512] inb_S1x2048_S1x512_0_1536))
abbrev p97 (c : Dev nD) (t : Fin cfg0.N) : FVec Ideal S512x512 .f32 :=
  k0_pay17 (View.ld (iblk m c 3 t) (Rect.unit ![0, 1536] ![512, 512] inb_S512x2048_S512x512_0_1536))
abbrev p102 (c : Dev nD) (t : Fin cfg0.N) : FVec Ideal S512x512 .f32 :=
  k0_pay18 (View.ld (iblk m c 3 t) (Rect.unit ![0, 1536] ![512, 512] inb_S512x2048_S512x512_0_1536))
abbrev p107 (c : Dev nD) (t : Fin cfg0.N) : Vec Ideal S512x1024 .bf16 :=
  View.ld (iblk m c 6 t) (Rect.unit ![1536, 0] ![512, 1024] inb_S2048x1024_S512x1024_1536_0)

theorem br_blk (c : Dev nD) (t : Fin cfg0.N) : k0_pay19 (p84 m c t) (p94 m c t) (p97 m c t) (p102 m c t) (p107 m c t)
    = fun y : S512x1024.Idx => mBr m c (row t (y 0)) (y 1) := by
  have ht := lt16 t
  funext y
  refine Eq.trans ?_ (OutModel.ps_grp _ _ _ _ _ _ _).symm
  unfold p84 p94 p97 p102 p107
  open_payloads
  pointwise [OutModel.psBlk, OutModel.poBlk, Gate.sgT, Gate.hf, row, Rows.row, aD, aW, aSC, aG, aWO]
  blk_point [iblk, idx_val t]

/-- The residual sum's rows at a grid point, and the error's. -/
theorem zrow_blk (c : Dev nD) (t : Fin cfg0.N) (r : Fin 512) :
    zrow (fun y : S512x1024.Idx => mBr m c (row t (y 0)) (y 1)) (iblk m c 4 t) (iblk m c 5 t) r = mZ m c (row t r) := by
  have ht := lt16 t
  funext j
  pointwise [zrow, mZ, OutModel.z, row, Rows.row, aX, aGT]
  blk_point [iblk, idx_val t]

theorem erow_blk (c : Dev nD) (t : Fin cfg0.N) (r : Fin 512) :
    erow (fun y : S512x1024.Idx => mBr m c (row t (y 0)) (y 1)) (iblk m c 4 t) (iblk m c 9 t) (iblk m c 5 t) (iblk m c 7 t) (iblk m c 8 t) r
      = mE m c (row t r) := by
  have ht := lt16 t
  funext j
  unfold erow
  rw [zrow_blk]
  pointwise [mE, OutModel.err, row, Rows.row, aLG, aLB, aTG]
  blk_point [iblk, idx_val t]

theorem rstd_blk (c : Dev nD) (t : Fin cfg0.N) :
    k0_pay21 (p84 m c t) (p94 m c t) (p97 m c t) (p102 m c t) (p107 m c t) (iblk m c 4 t) (iblk m c 5 t)
      = fun y : S512x1.Idx => OutModel.rstd (mZ m c (row t (y 0))) :=
  (rstd_pay (br_blk m c t) _ _).trans (funext fun y => congrArg OutModel.rstd (zrow_blk m c t (y 0)))

theorem xhat_blk (c : Dev nD) (t : Fin cfg0.N) :
    k0_pay22 (p84 m c t) (p94 m c t) (p97 m c t) (p102 m c t) (p107 m c t) (iblk m c 4 t) (iblk m c 5 t)
      = fun y : S512x1024.Idx => OutModel.xhat (mZ m c (row t (y 0))) (y 1) :=
  (xhat_pay (br_blk m c t) _ _).trans (funext fun y => congrArg (OutModel.xhat · (y 1)) (zrow_blk m c t (y 0)))

theorem err_blk (c : Dev nD) (t : Fin cfg0.N) :
    k0_pay23 (p84 m c t) (p94 m c t) (p97 m c t) (p102 m c t) (p107 m c t) (iblk m c 4 t) (iblk m c 5 t) (iblk m c 7 t) (iblk m c 8 t)
        (iblk m c 9 t)
      = fun y : S512x1024.Idx => mE m c (row t (y 0)) (y 1) :=
  (err_pay (br_blk m c t) _ _ _ _ _).trans (funext fun y => congrFun (erow_blk m c t (y 0)) (y 1))

/-- The residual sum's gradient at a grid point. -/
theorem dz_blk (c : Dev nD) (t : Fin cfg0.N) :
    k0_pay25 (fun y : S512x1.Idx => OutModel.rstd (mZ m c (row t (y 0)))) (fun y : S512x1024.Idx => OutModel.xhat (mZ m c (row t (y 0))) (y 1))
        (iblk m c 7 t) (fun y : S512x1024.Idx => mE m c (row t (y 0)) (y 1))
      = fun y : S512x1024.Idx => mDZ m c (row t (y 0)) (y 1) := by
  have ht := lt16 t
  refine (dz_pay _ (fun r => mZ m c (row t r)) (fun r => mE m c (row t r))).trans (funext fun y => ?_)
  refine congrArg (OutModel.dz _ · (y 1)) (funext fun k =>
    congrArg (fun a : EReal => mE m c (row t (y 0)) k * Ideal.ofBits .f32 0x3A800000#32 * a)
      (show (iblk m c 7 t : S1x1024.Idx → EReal) (ix2 0 k) = aLG m c (ix2 0 k) from ?_))
  pointwise [aLG]
  blk_point [iblk, idx_val t]

end Cert.Kernel7Ideal.Value

end
-- ==== Proof.Out1St.lean ====
/- The forward call at the last layer's end: the gradients of the layer norm's scale and shift and of the gate, and the squared error,
   in four of eight rows, accumulated over the grid points. -/
module
public import proofs.«01_k».proof.Proof.Out1
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen
open Cert.Rows (canon_drop)
variable (m : (ℓ : Loc nD τ sig) → Buf (Elt Ideal) ℓ)

/-- Row `R`'s part of the four rows, and what grid point `t` adds to them. -/
def stRow (c : Dev nD) (R : Fin 8192) (y : S8x1024.Idx) : EReal :=
  OutModel.lossRows (mE m c) (mZ m c) (mDZ m c) (mBr m c) R (y 0) (y 1)
def stPart (c : Dev nD) (t : Fin cfg0.N) (y : S8x1024.Idx) : EReal := ∑ r : Fin 512, stRow m c (row t r) y

theorem stPart_zero (c : Dev nD) (t : Fin cfg0.N) (y : S8x1024.Idx) (hy : (y 0).val = 0) : stPart m c t y
    = ∑ r : Fin 512, OutModel.dE (mE m c) (row t r) (y 1) * OutModel.xhat (mZ m c (row t r)) (y 1) :=
  Finset.sum_congr rfl fun _ _ => if_pos hy

theorem stPart_one (c : Dev nD) (t : Fin cfg0.N) (y : S8x1024.Idx) (hy : (y 0).val = 1) : stPart m c t y
    = ∑ r : Fin 512, OutModel.dE (mE m c) (row t r) (y 1) :=
  Finset.sum_congr rfl fun _ _ => (if_neg (by omega)).trans (if_pos hy)

theorem stPart_two (c : Dev nD) (t : Fin cfg0.N) (y : S8x1024.Idx) (hy : (y 0).val = 2) : stPart m c t y
    = ∑ r : Fin 512, mDZ m c (row t r) (y 1) * mBr m c (row t r) (y 1) :=
  Finset.sum_congr rfl fun _ _ => (if_neg (by omega)).trans ((if_neg (by omega)).trans (if_pos hy))

theorem stPart_three (c : Dev nD) (t : Fin cfg0.N) (y : S8x1024.Idx) (hy : (y 0).val = 3) : stPart m c t y
    = ∑ r : Fin 512, mE m c (row t r) (y 1) * mE m c (row t r) (y 1) :=
  Finset.sum_congr rfl fun _ _ => (if_neg (by omega)).trans ((if_neg (by omega)).trans ((if_neg (by omega)).trans (if_pos hy)))

theorem stPart_pos (c : Dev nD) (t : Fin cfg0.N) (y : S8x1024.Idx) (hy : 4 ≤ (y 0).val) : stPart m c t y = 0 :=
  Finset.sum_eq_zero fun _ _ =>
    (if_neg (by omega)).trans ((if_neg (by omega)).trans ((if_neg (by omega)).trans (if_neg (by omega))))

/-- The four stores fill the first four rows. -/
theorem st_cover {w₃ w₂ w₁ w₀ : S1x1024.Idx → EReal} (y : S8x1024.Idx) (hy : (y 0).val < 4) :
    ∃ q ∈ ([⟨Rect.unit ![3, 0] S1x1024.size inb_S8x1024_S1x1024_3_0, w₃⟩,
      ⟨Rect.unit ![2, 0] S1x1024.size inb_S8x1024_S1x1024_2_0, w₂⟩,
      ⟨Rect.unit ![1, 0] S1x1024.size inb_S8x1024_S1x1024_1_0, w₁⟩,
      ⟨Rect.unit ![0, 0] S1x1024.size inb_S8x1024_S1x1024_0_0, w₀⟩] : List (View.Piece (Elt Ideal) S8x1024 .f32)), y ∈ q.1.set := by
  have hz : (y 1).val < 1024 := (y 1).isLt
  rcases (by omega : (y 0).val = 3 ∨ (y 0).val = 2 ∨ (y 0).val = 1 ∨ (y 0).val = 0) with h | h | h | h
  · refine ⟨_, List.mem_cons_self, ?_⟩; rw [Rect.mem_set_unit]; intro a; fin_cases a <;> simp <;> omega
  · refine ⟨_, List.mem_cons_of_mem _ List.mem_cons_self, ?_⟩; rw [Rect.mem_set_unit]; intro a; fin_cases a <;> simp <;> omega
  · refine ⟨_, List.mem_cons_of_mem _ (List.mem_cons_of_mem _ List.mem_cons_self), ?_⟩; rw [Rect.mem_set_unit]; intro a; fin_cases a <;> simp <;> omega
  · refine ⟨_, List.mem_cons_of_mem _ (List.mem_cons_of_mem _ (List.mem_cons_of_mem _ List.mem_cons_self)), ?_⟩; rw [Rect.mem_set_unit]; intro a; fin_cases a <;> simp <;> omega

section
variable (c : Dev nD) (t : Fin cfg0.N) (v : Vec Ideal S1x1024 .f32) (y : S1x1024.Idx)

/-- The four stores' rows: what was there, and the grid point's part. -/
theorem scale_pay : k0_pay26 (fun y : S512x1024.Idx => OutModel.xhat (mZ m c (row t (y 0))) (y 1))
      (fun y : S512x1024.Idx => mE m c (row t (y 0)) (y 1)) v y
    = (show EReal from v y) + ∑ r : Fin 512, OutModel.dE (mE m c) (row t r) (y 1) * OutModel.xhat (mZ m c (row t r)) (y 1) := by
  unfold k0_pay26 k0_pay24
  pointwise [OutModel.dE]

theorem shift_pay : k0_pay27 (fun y : S512x1024.Idx => mE m c (row t (y 0)) (y 1)) v y
    = (show EReal from v y) + ∑ r : Fin 512, OutModel.dE (mE m c) (row t r) (y 1) := by
  unfold k0_pay27 k0_pay24
  pointwise [OutModel.dE]

theorem gate_pay : k0_pay1 (k0_pay28 v) (k0_pay29 (fun y : S512x1024.Idx => mBr m c (row t (y 0)) (y 1))
      (fun y : S512x1.Idx => OutModel.rstd (mZ m c (row t (y 0)))) (fun y : S512x1024.Idx => OutModel.xhat (mZ m c (row t (y 0))) (y 1))
      (iblk m c 7 t) (fun y : S512x1024.Idx => mE m c (row t (y 0)) (y 1))) y
    = (show EReal from v y) + ∑ r : Fin 512, mDZ m c (row t r) (y 1) * mBr m c (row t r) (y 1) := by
  unfold k0_pay29
  rw [dz_blk]
  unfold k0_pay1 k0_pay28
  pointwise

theorem sq_pay : k0_pay2 (fun y : S512x1024.Idx => mE m c (row t (y 0)) (y 1)) v y
    = (show EReal from v y) + ∑ r : Fin 512, mE m c (row t r) (y 1) * mE m c (row t r) (y 1) := by
  unfold k0_pay2
  pointwise

end

theorem st_A (c : Dev nD) (t : Fin cfg0.N) (h0 : t.val % 16 = 0) (y : S8x1024.Idx) :
    (outsAt0 m c t.val t.isLt).2.1 y = stPart m c t y := by
  have ht := lt16 t
  have hz : ∀ k : S8x1024.Idx, (k0_pay3 (F := Ideal) k : EReal) = 0 := fun k => by unfold k0_pay3; pointwise
  rw [outsAt0_A m c t h0]
  frame_open
  simp (disch := decide) only [↓ View.readCov_skip, ↓ View.readCov_cons_toLoadRect, ↓ View.readCov_fill]
  frame_out
  erw [br_blk, rstd_blk, xhat_blk, err_blk]
  by_cases hy : (y 0).val < 4
  · refine (canon_drop [_] [_, _, _, _] y (st_cover y hy)).trans ?_
    canon_tiles x h using st_cover y hy
    all_goals have hx : x 1 = y 1 := Fin.ext h1.symm
    · refine (sq_pay m c t _ x).trans ?_
      rw [stPart_three m c t y (by omega), hx]
      exact (congrArg (fun a : EReal => a + _) (hz _)).trans (zero_add _)
    · refine (gate_pay m c t _ x).trans ?_
      rw [stPart_two m c t y (by omega), hx]
      exact (congrArg (fun a : EReal => a + _) (hz _)).trans (zero_add _)
    · refine (shift_pay m c t _ x).trans ?_
      rw [stPart_one m c t y (by omega), hx]
      exact (congrArg (fun a : EReal => a + _) (hz _)).trans (zero_add _)
    · refine (scale_pay m c t _ x).trans ?_
      rw [stPart_zero m c t y (by omega), hx]
      exact (congrArg (fun a : EReal => a + _) (hz _)).trans (zero_add _)
  · rw [stPart_pos m c t y (by omega)]
    have hn : ∀ (o : Fin 2 → ℕ) (inb : ∀ a, o a + S1x1024.size a ≤ S8x1024.size a) (w : S1x1024.Idx → EReal)
        (L : List (View.Piece (Elt Ideal) S8x1024 .f32)), o 0 ≤ 3 →
        View.canon ((⟨Rect.unit o S1x1024.size inb, w⟩ : View.Piece (Elt Ideal) S8x1024 .f32) :: L) y = View.canon L y := by
      intro o inb w L ho
      refine View.canon_cons_of_not_mem _ _ fun hm => ?_
      rw [Rect.mem_set_unit] at hm
      have : (y 0).val < o 0 + 1 := (hm 0).2
      omega
    refine (hn ![3, 0] inb_S8x1024_S1x1024_3_0 _ _ (le_refl 3)).trans ?_
    refine (hn ![2, 0] inb_S8x1024_S1x1024_2_0 _ _ (by decide)).trans ?_
    refine (hn ![1, 0] inb_S8x1024_S1x1024_1_0 _ _ (by decide)).trans ?_
    refine (hn ![0, 0] inb_S8x1024_S1x1024_0_0 _ _ (Nat.zero_le 3)).trans ?_
    canon_tiles x h
    exact hz x

/-- Off the first four rows a point leaves the block as it was. -/
theorem st_keep {v : View sig .tc .vmem S8x1024 .f32} {f : v.ty.Contents (Elt Ideal)} {w₃ w₂ w₁ w₀ : S1x1024.Idx → EReal} (y : S8x1024.Idx)
    (hy : 4 ≤ (y 0).val) :
    v.read (Elt Ideal) (v.writes (Elt Ideal) f [⟨Rect.unit ![3, 0] S1x1024.size inb_S8x1024_S1x1024_3_0, w₃⟩,
      ⟨Rect.unit ![2, 0] S1x1024.size inb_S8x1024_S1x1024_2_0, w₂⟩,
      ⟨Rect.unit ![1, 0] S1x1024.size inb_S8x1024_S1x1024_1_0, w₁⟩,
      ⟨Rect.unit ![0, 0] S1x1024.size inb_S8x1024_S1x1024_0_0, w₀⟩]) y = v.read (Elt Ideal) f y := by
  refine (View.read_writes_cons_unit_of_not_mem _ _ _ _ _ y rfl 0 (Or.inr ?_)).trans ?_
  · show 4 ≤ (y 0).val; omega
  refine (View.read_writes_cons_unit_of_not_mem _ _ _ _ _ y rfl 0 (Or.inr ?_)).trans ?_
  · show 3 ≤ (y 0).val; omega
  refine (View.read_writes_cons_unit_of_not_mem _ _ _ _ _ y rfl 0 (Or.inr ?_)).trans ?_
  · show 2 ≤ (y 0).val; omega
  refine (View.read_writes_cons_unit_of_not_mem _ _ _ _ _ y rfl 0 (Or.inr ?_)).trans ?_
  · show 1 ≤ (y 0).val; omega
  rfl

/-- A row loaded from the block, read at an index. -/
theorem ld_row (f : Vec Ideal S8x1024 .f32) {k : ℕ} (inb : ∀ a, ![k, 0] a + S1x1024.size a ≤ S8x1024.size a) (x : S1x1024.Idx) (y : S8x1024.Idx)
    (h0 : (y 0).val = k + (x 0).val) (h1 : (y 1).val = (x 1).val) : View.ld f (Rect.unit ![k, 0] S1x1024.size inb) x = f y := by
  refine congrArg f (funext fun a => Fin.ext ?_)
  fin_cases a
  · show k + 1 * (x 0).val = (y 0).val
    omega
  · show 0 + 1 * (x 1).val = (y 1).val
    omega

theorem st_B (c : Dev nD) (t : Fin cfg0.N) (h0 : ¬t.val % 16 = 0) (y : S8x1024.Idx) :
    (outsAt0 m c t.val t.isLt).2.1 y = (show EReal from (outsAt0 m c (t.val - 1) (Nat.lt_of_le_of_lt (Nat.sub_le _ _) t.isLt)).2.1 y)
      + stPart m c t y := by
  have ht := lt16 t
  rw [outsAt0_B m c t h0]
  frame_out
  erw [br_blk, rstd_blk, xhat_blk, err_blk]
  by_cases hy : (y 0).val < 4
  · refine (View.read_writes_apply_eq_canon _ _ y [_, _, _, _] (st_cover y hy)).trans ?_
    canon_tiles x h using st_cover y hy
    all_goals have hx : x 1 = y 1 := Fin.ext h1.symm
    · refine (sq_pay m c t _ x).trans ?_
      rw [stPart_three m c t y (by omega), hx]
      exact congrArg (fun a : EReal => a + _) (ld_row _ _ x y h0 h1)
    · refine (gate_pay m c t _ x).trans ?_
      rw [stPart_two m c t y (by omega), hx]
      exact congrArg (fun a : EReal => a + _) (ld_row _ _ x y h0 h1)
    · refine (shift_pay m c t _ x).trans ?_
      rw [stPart_one m c t y (by omega), hx]
      exact congrArg (fun a : EReal => a + _) (ld_row _ _ x y h0 h1)
    · refine (scale_pay m c t _ x).trans ?_
      rw [stPart_zero m c t y (by omega), hx]
      exact congrArg (fun a : EReal => a + _) (ld_row _ _ x y (by omega) h1)
  · rw [stPart_pos m c t y (by omega)]
    refine (st_keep y (by omega)).trans ?_
    refine (congrFun (Memref.IsWhole.read_unread _ _) y).trans ?_
    exact (add_zero _).symm

/-- The second result, whole: the three gradients and the squared error in the first four of eight rows. -/
theorem st_final (c : Dev nD) : (dats m 0 c).arrAt 11 (cfgs 0).N = fun y : S8x1024.Idx => ∑ R : Fin 8192, stRow m c R y := by
  refine (dats m 0 c).arrAt_eq_of_covers 11 _ (by decide +kernel) fun t hf y => ?_
  blk_simp
  rw [after0_11]
  have e := idx_val t
  refine (Rows.acc_total N_0 (fun n h => (outsAt0 m c n h).2.1) (fun _ => 0) (stRow m c)
    (fun t h i => (st_A m c t h i).trans (zero_add _).symm) (fun t h i => st_B m c t h i) t ?_ y).trans ?_
  · exact (flush0_11 t).mp hf
  · refine (zero_add _).trans (Finset.sum_congr rfl fun R _ => congrArg (stRow m c R) (funext fun a => Fin.ext ?_))
    fin_cases a <;> blk_simp [e]

end Cert.Kernel7Ideal.Value

end
-- ==== Proof.Out1Run.lean ====
/- What the forward call at the last layer's end leaves in its three results, as formulas over the arrays it is given. -/
module
public import proofs.«01_k».proof.Proof.Out1St
@[expose] public section
set_option maxRecDepth 16384
noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen
variable (m : (ℓ : Loc nD τ sig) → Buf (Elt Ideal) ℓ) (ρ : Dev nD → PrngReg)

theorem dz_point (c : Dev nD) (t : Fin cfg0.N) (y : S512x1024.Idx) :
    (outsAt0 m c t.val t.isLt).1 y = mDZ m c (row t (y 0)) (y 1) := by
  by_cases h0 : t.val % 16 = 0
  all_goals first
    | (rw [outsAt0_A m c t h0]; frame_out)
    | (rw [outsAt0_B m c t h0]; frame_out)
  all_goals erw [rstd_blk, xhat_blk, err_blk, dz_blk]

theorem po_point (c : Dev nD) (t : Fin cfg0.N) (y : S512x2048.Idx) :
    (outsAt0 m c t.val t.isLt).2.2 y = OutModel.po (aD m c) (aW m c) (row t (y 0)) (y 1) := by
  have ht := lt16 t
  by_cases h0 : t.val % 16 = 0
  all_goals first
    | (rw [outsAt0_A m c t h0]; frame_out)
    | (rw [outsAt0_B m c t h0]; frame_out)
  all_goals canon_tiles x h
  all_goals first
    | refine Eq.trans ?_ (OutModel.po_tile _ _ 3 _ (x 1) _ (by show (y 1).val = 512 * 3 + (x 1).val; omega)).symm
    | refine Eq.trans ?_ (OutModel.po_tile _ _ 2 _ (x 1) _ (by show (y 1).val = 512 * 2 + (x 1).val; omega)).symm
    | refine Eq.trans ?_ (OutModel.po_tile _ _ 1 _ (x 1) _ (by show (y 1).val = 512 * 1 + (x 1).val; omega)).symm
    | refine Eq.trans ?_ (OutModel.po_tile _ _ 0 _ (x 1) _ (by show (y 1).val = 512 * 0 + (x 1).val; omega)).symm
  all_goals
    open_payloads
    pointwise [OutModel.poBlk, row, Rows.row, aD, aW]
    blk_point [iblk, idx_val t]
  all_goals (refine Fin.ext ?_; dsimp only; omega)

/-- What the call leaves: the residual sum's gradient, the four rows, and the group product. -/
def outDz (c : Dev nD) : S8192x1024.Idx → EReal := fun i => mDZ m c (i 0) (i 1)
def outSt (c : Dev nD) : S8x1024.Idx → EReal := fun y =>
  ∑ R : Fin 8192, OutModel.lossRows (mE m c) (mZ m c) (mDZ m c) (mBr m c) R (y 0) (y 1)
def outPo (c : Dev nD) : S8192x2048.Idx → EReal := fun i => OutModel.po (aD m c) (aW m c) (i 0) (i 1)

theorem dz_out (c : Dev nD) : (dats m 0 c).arrAt 10 (cfgs 0).N = outDz m c := by
  refine (dats m 0 c).arrAt_eq_of_covers 10 _ (by decide +kernel) fun t _ y => ?_
  blk_simp
  rw [after0_10]
  refine (dz_point m c t y).trans ?_
  have e := idx_val t
  refine congrArg₂ (mDZ m c) (Fin.ext ?_) (Fin.ext ?_) <;> blk_simp [e, row, Rows.row]

theorem st_out (c : Dev nD) : (dats m 0 c).arrAt 11 (cfgs 0).N = outSt m c := st_final m c

theorem po_out (c : Dev nD) : (dats m 0 c).arrAt 12 (cfgs 0).N = outPo m c := by
  refine (dats m 0 c).arrAt_eq_of_covers 12 _ (by decide +kernel) fun t _ y => ?_
  blk_simp
  rw [after0_12]
  refine (po_point m c t y).trans ?_
  have e := idx_val t
  refine congrArg₂ (OutModel.po _ _) (Fin.ext ?_) (Fin.ext ?_) <;> blk_simp [e, row, Rows.row]

theorem run_model : θ_run defs (onTc (τ := τ) (main (F := Ideal))) ⟨m, fun _ => 0, ρ⟩ fun r => ∀ c : Dev nD,
      r.2.mem ((c : Thread nD τ).loc main_v4_0) = outDz m c
      ∧ r.2.mem ((c : Thread nD τ).loc main_v4_1) = outSt m c
      ∧ r.2.mem ((c : Thread nD τ).loc main_v4_2) = outPo m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (run_blocks m ρ)
  obtain ⟨hz, hs, hp, k⟩ := h c
  exact ⟨hz.trans (dz_out m c), hs.trans (st_out m c), hp.trans (po_out m c), k⟩

end Cert.Kernel7Ideal.Value

end
-- ==== Proof.Out1Ref.lean ====
/- The reference's results for the forward call at the last layer's end, read at an index. -/
module
public import proofs.«01_k».proof.Proof.Gen.Reference7Ideal.Read
public import Idealize.ShloMosaic.Lib.Pointwise
public import Idealize.ShloMosaic.Lib.Claim
public import proofs.«01_k».proof.Proof.OutLoss
@[expose] public section
set_option maxRecDepth 16384
noncomputable section
open Idealize.ShloMosaic Idealize.ShloMosaic.TcCoe Idealize.SL.Sem Idealize.ShloMosaic.StableHlo
namespace Cert.Reference7Ideal.Read
open Cert.Reference7Ideal Cert.Reference7Ideal.Gen
variable (x0 : InModel.Chan.Idx → EReal) (x1 : OutModel.Grp.Idx → EReal) (x2 : OutModel.ChanRow.Idx → EReal) (x3 : InModel.Chan.Idx → EReal)
  (x4 : InModel.Tok.Idx → EReal) (x5 : InModel.Row.Idx → EReal) (x6 : OutModel.Out.Idx → EReal) (x7 x8 : InModel.Row.Idx → EReal)
  (x9 : InModel.Tok.Idx → EReal)

/-- The branch, the residual sum, the error and the residual sum's gradient. -/
abbrev rB : Fin 8192 → Fin 1024 → EReal := OutModel.br (OutModel.ps (OutModel.po x0 x1) x2 x3) x6
abbrev rZ : Fin 8192 → Fin 1024 → EReal := OutModel.z x4 x5 (rB x0 x1 x2 x3 x6)
abbrev rE : Fin 8192 → Fin 1024 → EReal := OutModel.err x7 x8 x9 (rZ x0 x1 x2 x3 x4 x5 x6)
abbrev rD (R : Fin 8192) (j : Fin 1024) : EReal :=
  OutModel.dz (rZ x0 x1 x2 x3 x4 x5 x6 R) (OutModel.dL (rE x0 x1 x2 x3 x4 x5 x6 x7 x8 x9) x7 R) j

theorem read_v3 (i : S8192x2048.Idx) : val_main_v3 (F := Ideal) x0 x1 i = OutModel.po x0 x1 (i 0) (i 1) := by
  pointwise [val_main_v0, val_main_v1, val_main_v2, val_main_v3, OutModel.po, OutModel.poBlk]
  refine Finset.sum_congr rfl fun l _ => (mul_comm _ _).trans ?_
  simp only [Nat.mul_comm _ 512]

theorem read_v6 (i : S8192x2048.Idx) : val_main_v6 (F := Ideal) x3 i = x3 i * Gate.sgT (x3 i) := by
  pointwise [val_main_v6, val_main_call0_v0, val_main_call0_v1, val_main_call0_v2, val_main_call0_v3, val_main_call0_v4,
    val_main_call0_v5, val_main_call0_cst, val_main_call0_cst_0, Gate.sgT_eq]
  simp only [Ideal.logistic]

theorem read_v7 (i : S8192x2048.Idx) : val_main_v7 (F := Ideal) x0 x1 x2 x3 i = OutModel.ps (OutModel.po x0 x1) x2 x3 (i 0) (i 1) := by
  pointwise [val_main_v7, val_main_v5, val_main_v4, read_v3, read_v6, OutModel.ps]

theorem read_v8 (i : S8192x1024.Idx) : val_main_v8 (F := Ideal) x0 x1 x2 x3 x6 i = rB x0 x1 x2 x3 x6 (i 0) (i 1) := by
  refine Eq.trans ?_ (OutModel.br_eq _ x6 (i 0) (i 1))
  pointwise [val_main_v8, read_v7]

theorem read_v13 (i : S8192x1024.Idx) : val_main_v13 (F := Ideal) x0 x1 x2 x3 x4 x5 x6 i = rZ x0 x1 x2 x3 x4 x5 x6 (i 0) (i 1) := by
  pointwise [val_main_cst, val_main_v9, val_main_v10, val_main_v11, val_main_v12, val_main_v13, read_v8, OutModel.z]

theorem read_v17 (i : S8192x1.Idx) : val_main_v17 (F := Ideal) x0 x1 x2 x3 x4 x5 x6 i
    = OutModel.mean (rZ x0 x1 x2 x3 x4 x5 x6 (i 0)) := by
  pointwise [val_main_v14, val_main_v15, val_main_v16, val_main_v17, val_main_cst_0, val_main_cst_1, read_v13, OutModel.mean]

theorem read_v19 (i : S8192x1024.Idx) : val_main_v19 (F := Ideal) x0 x1 x2 x3 x4 x5 x6 i
    = OutModel.cen (rZ x0 x1 x2 x3 x4 x5 x6 (i 0)) (i 1) := by
  pointwise [val_main_v18, val_main_v19, read_v13, read_v17, OutModel.cen]

theorem read_v28 (i : S8192x1024.Idx) : val_main_v28 (F := Ideal) x0 x1 x2 x3 x4 x5 x6 i
    = OutModel.cen (rZ x0 x1 x2 x3 x4 x5 x6 (i 0)) (i 1) := by
  pointwise [val_main_v27, val_main_v28, read_v13, read_v17, OutModel.cen]

theorem read_v30 (i : S8192x1.Idx) : val_main_v30 (F := Ideal) x0 x1 x2 x3 x4 x5 x6 i
    = OutModel.vare (rZ x0 x1 x2 x3 x4 x5 x6 (i 0)) := by
  pointwise [val_main_v20, val_main_v23, val_main_v24, val_main_v25, val_main_v26, val_main_v29, val_main_v30, val_main_cst_3,
    val_main_cst_4, val_main_cst_5, read_v19, OutModel.vare, OutModel.mean]

theorem read_v31 (i : S8192x1.Idx) : val_main_v31 (F := Ideal) x0 x1 x2 x3 x4 x5 x6 i
    = OutModel.rstd (rZ x0 x1 x2 x3 x4 x5 x6 (i 0)) := by
  pointwise [val_main_v31, read_v30, OutModel.rstd]

theorem read_v36 (i : S8192x1024.Idx) : val_main_v36 (F := Ideal) x0 x1 x2 x3 x4 x5 x6 i
    = OutModel.xhat (rZ x0 x1 x2 x3 x4 x5 x6 (i 0)) (i 1) := by
  pointwise [val_main_v35, val_main_v36, read_v28, read_v31, OutModel.xhat]

theorem read_v41 (i : S8192x1024.Idx) : val_main_v41 (F := Ideal) x0 x1 x2 x3 x4 x5 x6 x7 x8 x9 i
    = rE x0 x1 x2 x3 x4 x5 x6 x7 x8 x9 (i 0) (i 1) := by
  pointwise [val_main_v37, val_main_v38, val_main_v39, val_main_v40, val_main_v41, read_v36, OutModel.err]

theorem read_v60 (i : S8192x1024.Idx) : val_main_v60 (F := Ideal) x0 x1 x2 x3 x4 x5 x6 x7 x8 x9 i
    = OutModel.dE (rE x0 x1 x2 x3 x4 x5 x6 x7 x8 x9) (i 0) (i 1) := by
  refine Eq.trans ?_ (OutModel.half_mean _)
  pointwise [val_main_v43, val_main_v44, val_main_v55, val_main_v56, val_main_v57, val_main_v58, val_main_v59, val_main_v60,
    val_main_cst_7, val_main_cst_14, val_main_cst_15, val_main_cst_16, read_v41]

theorem read_v67 (i : S8192x1024.Idx) : val_main_v67 (F := Ideal) x0 x1 x2 x3 x4 x5 x6 x7 x8 x9 i
    = OutModel.dL (rE x0 x1 x2 x3 x4 x5 x6 x7 x8 x9) x7 (i 0) (i 1) := by
  pointwise [val_main_v66, val_main_v67, read_v60, OutModel.dL]

theorem read_v72 (i : S8192x1024.Idx) : val_main_v72 (F := Ideal) x0 x1 x2 x3 x4 x5 x6 x7 x8 x9 i
    = OutModel.dL (rE x0 x1 x2 x3 x4 x5 x6 x7 x8 x9) x7 (i 0) (i 1) * OutModel.rstd (rZ x0 x1 x2 x3 x4 x5 x6 (i 0)) := by
  pointwise [val_main_v71, val_main_v72, read_v67, read_v31]

theorem read_v81 (i : S8192x1024.Idx) : val_main_v81 (F := Ideal) x0 x1 x2 x3 x4 x5 x6 x7 x8 x9 i
    = OutModel.dvar (rZ x0 x1 x2 x3 x4 x5 x6 (i 0)) (OutModel.dL (rE x0 x1 x2 x3 x4 x5 x6 x7 x8 x9) x7 (i 0)) (i 1) := by
  pointwise [val_main_v21, val_main_v22, val_main_v32, val_main_v33, val_main_v34, val_main_v68, val_main_v69, val_main_v70, val_main_v73,
    val_main_v77, val_main_v78, val_main_v79, val_main_v80, val_main_v81, val_main_cst_2, val_main_cst_6, val_main_cst_19, val_main_cst_21,
    val_main_cst_22, read_v19, read_v28, read_v30, read_v31, read_v67, OutModel.dvar]
  exact congrArg (fun a : EReal => a * _) (Fin.sum_univ_one _)

theorem read_v91 (i : S8192x1024.Idx) : val_main_v91 (F := Ideal) x0 x1 x2 x3 x4 x5 x6 x7 x8 x9 i
    = OutModel.dzRef (rZ x0 x1 x2 x3 x4 x5 x6 (i 0)) (OutModel.dL (rE x0 x1 x2 x3 x4 x5 x6 x7 x8 x9) x7 (i 0)) (i 1) := by
  pointwise [val_main_v74, val_main_v75, val_main_v76, val_main_v82, val_main_v83, val_main_v84, val_main_v85, val_main_v86,
    val_main_v87, val_main_v88, val_main_v89, val_main_v90, val_main_v91, val_main_cst_20, val_main_cst_23, val_main_cst_24,
    val_main_cst_25, read_v72, read_v81, OutModel.dzRef]
  exact congrArg (fun a : EReal => _ + a) (Fin.sum_univ_one _)

/-- Where every argument is real, the reference's gradient of the residual sum is the short form. -/
theorem read_dz (h0 : ∀ i, Gate.Re (x0 i)) (h1 : ∀ i, Gate.Re (x1 i)) (h2 : ∀ i, Gate.Re (x2 i)) (h3 : ∀ i, Gate.Re (x3 i))
    (h4 : ∀ i, Gate.Re (x4 i)) (h5 : ∀ i, Gate.Re (x5 i)) (h6 : ∀ i, Gate.Re (x6 i)) (h7 : ∀ i, Gate.Re (x7 i))
    (h8 : ∀ i, Gate.Re (x8 i)) (h9 : ∀ i, Gate.Re (x9 i)) (i : S8192x1024.Idx) :
    val_main_v91 (F := Ideal) x0 x1 x2 x3 x4 x5 x6 x7 x8 x9 i = rD x0 x1 x2 x3 x4 x5 x6 x7 x8 x9 (i 0) (i 1) :=
  have hz := OutModel.lossZ_real h0 h1 h2 h3 h4 h5 h6
  (read_v91 x0 x1 x2 x3 x4 x5 x6 x7 x8 x9 i).trans
    (OutModel.dz_eq (hz (i 0)) (OutModel.dL_real hz h7 h8 h9 (i 0)) (i 1))

theorem read_v97 (i : S8192x2048.Idx) : val_main_v97 (F := Ideal) x0 x1 i = OutModel.po x0 x1 (i 0) (i 1) := by
  pointwise [val_main_v97, read_v3]

section
variable {x0 x1 x2 x3 x4 x5 x6 x7 x8 x9} {D : Fin 8192 → Fin 1024 → EReal}
  (h : ∀ i : S8192x1024.Idx, val_main_v91 (F := Ideal) x0 x1 x2 x3 x4 x5 x6 x7 x8 x9 i = D (i 0) (i 1))
include h

/-- The eight rows, from that gradient. -/
theorem read_v96 (i : S8x1024.Idx) : val_main_v96 (F := Ideal) x0 x1 x2 x3 x4 x5 x6 x7 x8 x9 i
    = ∑ R : Fin 8192, OutModel.lossRows (rE x0 x1 x2 x3 x4 x5 x6 x7 x8 x9) (rZ x0 x1 x2 x3 x4 x5 x6) D (rB x0 x1 x2 x3 x6) R (i 0) (i 1) := by
  pointwise [val_main_v96, val_main_v95, val_main_v94, val_main_v93, val_main_v92, val_main_v65, val_main_v64, val_main_v63, val_main_v62,
    val_main_v61, val_main_v54, val_main_v53, val_main_v50, val_main_c, val_main_cst_13, val_main_cst_17, val_main_cst_18,
    val_main_cst_26, val_main_call1_v0, read_v36, read_v41, read_v60, read_v8, h, OutModel.lossRows]
  by_cases h0 : (i 0).val = 0
  · rw [dif_pos (by omega), dif_pos (by omega)]
    exact Finset.sum_congr rfl fun R _ => (mul_comm _ _).trans (if_pos h0).symm
  by_cases h1 : (i 0).val = 1
  · rw [dif_pos (by omega), dif_neg (by omega), dif_pos (by omega)]
    exact Finset.sum_congr rfl fun R _ => ((if_neg h0).trans (if_pos h1)).symm
  by_cases h2 : (i 0).val = 2
  · rw [dif_pos (by omega), dif_neg (by omega), dif_neg (by omega), dif_pos (by omega)]
    exact Finset.sum_congr rfl fun R _ => ((if_neg h0).trans ((if_neg h1).trans (if_pos h2))).symm
  by_cases h3 : (i 0).val = 3
  · rw [dif_pos (by omega), dif_neg (by omega), dif_neg (by omega), dif_neg (by omega)]
    exact Finset.sum_congr rfl fun R _ => ((if_neg h0).trans ((if_neg h1).trans ((if_neg h2).trans (if_pos h3)))).symm
  · rw [dif_neg (by omega)]
    refine Eq.trans ?_ (Finset.sum_eq_zero fun R _ => (if_neg h0).trans ((if_neg h1).trans ((if_neg h2).trans (if_neg h3)))).symm
    show (((0#32 : BitVec 32).toInt : ℝ) : EReal) = 0
    simp

end

end Cert.Reference7Ideal.Read

end
-- ==== Proof.Pre7.lean ====
/- The seventh program's precondition read at an element: every entry of every argument is a real number. -/
module

public import proofs.«01_k».proof.Proof.Gen.Pre_finite7
public import proofs.«01_k».proof.Proof.Real
public import Idealize.ShloMosaic.Lib.ReduceAll

@[expose] public section

noncomputable section

namespace Cert.Pre_finite7

open Idealize.ShloMosaic Cert.Pre_finite7.Gen

theorem real_of_fn (x0 : FVec Ideal S8192x2048 .f32) (x1 : FVec Ideal S4x512x512 .f32) (x2 : FVec Ideal S1x2048 .f32)
    (x3 : FVec Ideal S8192x2048 .f32) (x4 : FVec Ideal S8192x1024 .f32) (x5 : FVec Ideal S1x1024 .f32) (x6 : FVec Ideal S2048x1024 .f32)
    (x7 x8 : FVec Ideal S1x1024 .f32) (x9 : FVec Ideal S8192x1024 .f32)
    (h : fn (F := Ideal) x0 x1 x2 x3 x4 x5 x6 x7 x8 x9 = fun _ => 1#1) :
    (∀ i, Gate.Re (x0 i)) ∧ (∀ i, Gate.Re (x1 i)) ∧ (∀ i, Gate.Re (x2 i)) ∧ (∀ i, Gate.Re (x3 i)) ∧ (∀ i, Gate.Re (x4 i))
      ∧ (∀ i, Gate.Re (x5 i)) ∧ (∀ i, Gate.Re (x6 i)) ∧ (∀ i, Gate.Re (x7 i)) ∧ (∀ i, Gate.Re (x8 i)) ∧ (∀ i, Gate.Re (x9 i)) := by
  have e : ∀ j : S_.Idx, fn (F := Ideal) x0 x1 x2 x3 x4 x5 x6 x7 x8 x9 j = 1#1 := fun j => congrFun h j
  dsimp only [fn, fn_part1, fn_part2, andi] at e
  have e := e (Shape.Idx.first h_S_)
  simp only [IntOp.andi_eq_one] at e
  obtain ⟨⟨⟨⟨⟨⟨⟨⟨⟨e0, e1⟩, e2⟩, e3⟩, e4⟩, e5⟩, e6⟩, e7⟩, e8⟩, e9⟩ := e
  exact ⟨fun i => Gate.Re.of_abs_lt (Host.reduce_andi_all _ _ _ _ _ e0 i), fun i => Gate.Re.of_abs_lt (Host.reduce_andi_all _ _ _ _ _ e1 i),
    fun i => Gate.Re.of_abs_lt (Host.reduce_andi_all _ _ _ _ _ e2 i), fun i => Gate.Re.of_abs_lt (Host.reduce_andi_all _ _ _ _ _ e3 i),
    fun i => Gate.Re.of_abs_lt (Host.reduce_andi_all _ _ _ _ _ e4 i), fun i => Gate.Re.of_abs_lt (Host.reduce_andi_all _ _ _ _ _ e5 i),
    fun i => Gate.Re.of_abs_lt (Host.reduce_andi_all _ _ _ _ _ e6 i), fun i => Gate.Re.of_abs_lt (Host.reduce_andi_all _ _ _ _ _ e7 i),
    fun i => Gate.Re.of_abs_lt (Host.reduce_andi_all _ _ _ _ _ e8 i), fun i => Gate.Re.of_abs_lt (Host.reduce_andi_all _ _ _ _ _ e9 i)⟩

end Cert.Pre_finite7

end
-- ==== Proof.AdamModel.lean ====
/- The optimiser's step on one entry: the two moments and the weight's change, as formulas over the reals with infinities. -/
module
public import Idealize.ShloMosaic.Lib.Pointwise
@[expose] public section
noncomputable section
open Idealize.ShloMosaic
namespace Cert.Adam

/-- The first moment: nine tenths of the old one and a tenth of the gradient. -/
def newM (g m : EReal) : EReal := Ideal.ofBits .f32 0x3F666666#32 * m + Ideal.ofBits .f32 0x3DCCCCCD#32 * g

/-- The second moment, of the gradient's square. -/
def newV (g v : EReal) : EReal := Ideal.ofBits .f32 0x3F7FBE77#32 * v + Ideal.ofBits .f32 0x3A83126F#32 * (g * g)

/-- The weight's change: minus the rate times the corrected first moment over the root of the corrected second, and the decay. -/
def delta (w g m v : EReal) : EReal :=
  Ideal.ofBits .f32 0xBA83126F#32 * (Ideal.div (Ideal.div (newM g m) (Ideal.ofBits .f32 0x3F26BD02#32))
      (Ideal.sqrt (Ideal.div (newV g v) (Ideal.ofBits .f32 0x3C231ACC#32)) + Ideal.ofBits .f32 0x322BCC77#32)
    + Ideal.ofBits .f32 0x3C23D70A#32 * w)

end Cert.Adam

end
-- ==== Proof.Adam8.lean ====
/- The optimiser's step of a recurrence gate's weight: what it leaves in its three results, and what the reference leaves. -/
module
public import proofs.«01_k».proof.Proof.Gen.Kernel8Ideal.Value
public import proofs.«01_k».proof.Proof.Gen.Reference8Ideal.Read
public import proofs.«01_k».proof.Proof.AdamModel
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel8Ideal.Value
open Cert.Kernel8Ideal Cert.Kernel8Ideal.Gen
variable (m : (ℓ : Loc nD τ sig) → Buf (Elt Ideal) ℓ) (ρ : Dev nD → PrngReg)

/-- Every window's block at a grid point: its share of the rows. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt2 (t : Fin cfg0.N) : t.val < 2 := lt_of_lt_of_eq t.isLt N_0

/-- Where an index of grid point `t`'s block lies in the rows. -/
def at_ (t : Fin cfg0.N) (y : S2048x128.Idx) : S4096x128.Idx :=
  ix2 (⟨2048 * t.val + (y 0).val, by have := lt2 t; have : (y 0).val < 2048 := (y 0).isLt; omega⟩ : Fin 4096) (y 1)

/-- Which entry of a weight an index of the rows is. -/
def entry (i : S4096x128.Idx) : S1x2x16x128x128.Idx :=
  ix5 (0 : Fin 1) (⟨(i 0).val / 2048, by have : (i 0).val < 4096 := (i 0).isLt; omega⟩ : Fin 2)
    (⟨(i 0).val / 128 % 16, by omega⟩ : Fin 16) (⟨(i 0).val % 128, by omega⟩ : Fin 128) (i 1)

/-- The weight, its gradient and its moments, as the host lays them out in rows. -/
abbrev vW (c : Dev nD) : S4096x128.Idx → EReal := V m c main_v0
abbrev vG (c : Dev nD) : S4096x128.Idx → EReal := V m c main_v1
abbrev vM (c : Dev nD) : S4096x128.Idx → EReal := V m c main_v2
abbrev vV (c : Dev nD) : S4096x128.Idx → EReal := V m c main_v3

theorem delta_point (c : Dev nD) (t : Fin cfg0.N) (y : S2048x128.Idx) :
    out0_4 (iblk m c 0 t) (iblk m c 1 t) (iblk m c 2 t) (iblk m c 3 t) y
      = Adam.delta (vW m c (at_ t y)) (vG m c (at_ t y)) (vM m c (at_ t y)) (vV m c (at_ t y)) := by
  have ht := lt2 t
  unfold out0_4
  canon_tiles x h
  open_payloads
  pointwise [Adam.delta, Adam.newM, Adam.newV, at_]
  blk_point [iblk, idx_val t]

theorem mom_point (c : Dev nD) (t : Fin cfg0.N) (y : S2048x128.Idx) :
    out0_5 (iblk m c 0 t) (iblk m c 1 t) (iblk m c 2 t) (iblk m c 3 t) y = Adam.newM (vG m c (at_ t y)) (vM m c (at_ t y)) := by
  have ht := lt2 t
  unfold out0_5
  canon_tiles x h
  open_payloads
  pointwise [Adam.newM, at_]
  blk_point [iblk, idx_val t]

theorem sq_point (c : Dev nD) (t : Fin cfg0.N) (y : S2048x128.Idx) :
    out0_6 (iblk m c 0 t) (iblk m c 1 t) (iblk m c 2 t) (iblk m c 3 t) y = Adam.newV (vG m c (at_ t y)) (vV m c (at_ t y)) := by
  have ht := lt2 t
  unfold out0_6
  canon_tiles x h
  open_payloads
  pointwise [Adam.newV, at_]
  blk_point [iblk, idx_val t]

/-- What the call leaves, in rows: the weight's change and the two moments. -/
def outD (c : Dev nD) : S4096x128.Idx → EReal := fun i => Adam.delta (vW m c i) (vG m c i) (vM m c i) (vV m c i)
def outM (c : Dev nD) : S4096x128.Idx → EReal := fun i => Adam.newM (vG m c i) (vM m c i)
def outV (c : Dev nD) : S4096x128.Idx → EReal := fun i => Adam.newV (vG m c i) (vV m c i)

theorem d_out (c : Dev nD) : (dats m 0 c).arrAt 4 (cfgs 0).N = outD m c := by
  refine (dats m 0 c).arrAt_eq_of_covers 4 _ (by decide +kernel) fun t _ y => ?_
  blk_simp
  rw [after0_4]
  refine (delta_point m c t y).trans (congrArg (outD m c) (funext fun a => Fin.ext ?_))
  have e := idx_val t
  fin_cases a
  · show 2048 * t.val + (y 0).val = _
    blk_simp [e]
    exact congrArg (· + _) (Nat.mul_comm _ _)
  · show (y 1).val = _
    blk_simp [e]
    rfl

theorem m_out (c : Dev nD) : (dats m 0 c).arrAt 5 (cfgs 0).N = outM m c := by
  refine (dats m 0 c).arrAt_eq_of_covers 5 _ (by decide +kernel) fun t _ y => ?_
  blk_simp
  rw [after0_5]
  refine (mom_point m c t y).trans (congrArg (outM m c) (funext fun a => Fin.ext ?_))
  have e := idx_val t
  fin_cases a
  · show 2048 * t.val + (y 0).val = _
    blk_simp [e]
    exact congrArg (· + _) (Nat.mul_comm _ _)
  · show (y 1).val = _
    blk_simp [e]
    rfl

theorem v_out (c : Dev nD) : (dats m 0 c).arrAt 6 (cfgs 0).N = outV m c := by
  refine (dats m 0 c).arrAt_eq_of_covers 6 _ (by decide +kernel) fun t _ y => ?_
  blk_simp
  rw [after0_6]
  refine (sq_point m c t y).trans (congrArg (outV m c) (funext fun a => Fin.ext ?_))
  have e := idx_val t
  fin_cases a
  · show 2048 * t.val + (y 0).val = _
    blk_simp [e]
    exact congrArg (· + _) (Nat.mul_comm _ _)
  · show (y 1).val = _
    blk_simp [e]
    rfl

theorem run_model : θ_run defs (onTc (τ := τ) (main (F := Ideal))) ⟨m, fun _ => 0, ρ⟩ fun r => ∀ c : Dev nD,
      r.2.mem ((c : Thread nD τ).loc main_v4_0) = outD m c
      ∧ r.2.mem ((c : Thread nD τ).loc main_v4_1) = outM m c
      ∧ r.2.mem ((c : Thread nD τ).loc main_v4_2) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨hd, hm, hv, k⟩ := h c
  exact ⟨hd.trans (d_out m c), hm.trans (m_out m c), hv.trans (v_out m c), k⟩

/-- An argument in rows, read at the entry it holds. -/
theorem vW_eq (c : Dev nD) (i : S4096x128.Idx) : vW m c i = m ((c : Thread nD τ).loc main_arg0) (entry i) := by
  show V m c main_v0 i = _
  entry_read
  pointwise [entry]
theorem vG_eq (c : Dev nD) (i : S4096x128.Idx) : vG m c i = m ((c : Thread nD τ).loc main_arg1) (entry i) := by
  show V m c main_v1 i = _
  entry_read
  pointwise [entry]
theorem vM_eq (c : Dev nD) (i : S4096x128.Idx) : vM m c i = m ((c : Thread nD τ).loc main_arg2) (entry i) := by
  show V m c main_v2 i = _
  entry_read
  pointwise [entry]
theorem vV_eq (c : Dev nD) (i : S4096x128.Idx) : vV m c i = m ((c : Thread nD τ).loc main_arg3) (entry i) := by
  show V m c main_v3 i = _
  entry_read
  pointwise [entry]

end Cert.Kernel8Ideal.Value

namespace Cert.Reference8Ideal.Read
open Cert.Reference8Ideal Cert.Reference8Ideal.Gen
variable (w g m v : S1x2x16x128x128.Idx → EReal)

theorem read_v25 (i : S4096x128.Idx) : val_main_v25 (F := Ideal) g m i
    = Adam.newM (g (Kernel8Ideal.Value.entry i)) (m (Kernel8Ideal.Value.entry i)) := by
  pointwise [val_main_v25, val_main_v4, val_main_v3, val_main_v2, val_main_v1, val_main_v0, val_main_cst, val_main_cst_0, Adam.newM,
    Kernel8Ideal.Value.entry]

theorem read_v26 (i : S4096x128.Idx) : val_main_v26 (F := Ideal) g v i
    = Adam.newV (g (Kernel8Ideal.Value.entry i)) (v (Kernel8Ideal.Value.entry i)) := by
  pointwise [val_main_v26, val_main_v10, val_main_v9, val_main_v8, val_main_v7, val_main_v6, val_main_v5, val_main_cst_1, val_main_cst_2,
    Adam.newV, Kernel8Ideal.Value.entry]

theorem read_v24 (i : S4096x128.Idx) : val_main_v24 (F := Ideal) w g m v i
    = Adam.delta (w (Kernel8Ideal.Value.entry i)) (g (Kernel8Ideal.Value.entry i)) (m (Kernel8Ideal.Value.entry i))
      (v (Kernel8Ideal.Value.entry i)) := by
  pointwise [val_main_v24, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_v7, val_main_v6, val_main_v5, val_main_cst_1,
    val_main_cst_2, val_main_v4, val_main_v3, val_main_v2, val_main_v1, val_main_v0, val_main_cst, val_main_cst_0,
    Adam.delta, Adam.newM, Adam.newV, Kernel8Ideal.Value.entry]

end Cert.Reference8Ideal.Read

end
-- ==== Proof.Adam9.lean ====
/- The optimiser's step of the modulation's weight: what it leaves in its three results, and what the reference leaves. -/
module
public import proofs.«01_k».proof.Proof.Gen.Kernel9Ideal.Value
public import proofs.«01_k».proof.Proof.Gen.Reference9Ideal.Read
public import proofs.«01_k».proof.Proof.AdamModel
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel9Ideal.Value
open Cert.Kernel9Ideal Cert.Kernel9Ideal.Gen
variable (m : (ℓ : Loc nD τ sig) → Buf (Elt Ideal) ℓ) (ρ : Dev nD → PrngReg)

/-- Every window's block at a grid point: its share of the rows. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt4 (t : Fin cfg0.N) : t.val < 4 := lt_of_lt_of_eq t.isLt N_0

/-- Where an index of grid point `t`'s block lies in the rows. -/
def at_ (t : Fin cfg0.N) (y : S512x384.Idx) : S2048x384.Idx :=
  ix2 (⟨512 * t.val + (y 0).val, by have := lt4 t; have : (y 0).val < 512 := (y 0).isLt; omega⟩ : Fin 2048) (y 1)

/-- Which entry of a weight an index of the rows is. -/
def entry (i : S2048x384.Idx) : S2x1024x384.Idx :=
  ix3 (⟨(i 0).val / 1024, by have : (i 0).val < 2048 := (i 0).isLt; omega⟩ : Fin 2) (⟨(i 0).val % 1024, by omega⟩ : Fin 1024) (i 1)

/-- The weight, its gradient and its moments, as the host lays them out in rows. -/
abbrev vW (c : Dev nD) : S2048x384.Idx → EReal := V m c main_v0
abbrev vG (c : Dev nD) : S2048x384.Idx → EReal := V m c main_v1
abbrev vM (c : Dev nD) : S2048x384.Idx → EReal := V m c main_v2
abbrev vV (c : Dev nD) : S2048x384.Idx → EReal := V m c main_v3

theorem delta_point (c : Dev nD) (t : Fin cfg0.N) (y : S512x384.Idx) :
    out0_4 (iblk m c 0 t) (iblk m c 1 t) (iblk m c 2 t) (iblk m c 3 t) y
      = Adam.delta (vW m c (at_ t y)) (vG m c (at_ t y)) (vM m c (at_ t y)) (vV m c (at_ t y)) := by
  have ht := lt4 t
  unfold out0_4
  canon_tiles x h
  open_payloads
  pointwise [Adam.delta, Adam.newM, Adam.newV, at_]
  blk_point [iblk, idx_val t]

theorem mom_point (c : Dev nD) (t : Fin cfg0.N) (y : S512x384.Idx) :
    out0_5 (iblk m c 0 t) (iblk m c 1 t) (iblk m c 2 t) (iblk m c 3 t) y = Adam.newM (vG m c (at_ t y)) (vM m c (at_ t y)) := by
  have ht := lt4 t
  unfold out0_5
  canon_tiles x h
  open_payloads
  pointwise [Adam.newM, at_]
  blk_point [iblk, idx_val t]

theorem sq_point (c : Dev nD) (t : Fin cfg0.N) (y : S512x384.Idx) :
    out0_6 (iblk m c 0 t) (iblk m c 1 t) (iblk m c 2 t) (iblk m c 3 t) y = Adam.newV (vG m c (at_ t y)) (vV m c (at_ t y)) := by
  have ht := lt4 t
  unfold out0_6
  canon_tiles x h
  open_payloads
  pointwise [Adam.newV, at_]
  blk_point [iblk, idx_val t]

/-- What the call leaves, in rows: the weight's change and the two moments. -/
def outD (c : Dev nD) : S2048x384.Idx → EReal := fun i => Adam.delta (vW m c i) (vG m c i) (vM m c i) (vV m c i)
def outM (c : Dev nD) : S2048x384.Idx → EReal := fun i => Adam.newM (vG m c i) (vM m c i)
def outV (c : Dev nD) : S2048x384.Idx → EReal := fun i => Adam.newV (vG m c i) (vV m c i)

theorem d_out (c : Dev nD) : (dats m 0 c).arrAt 4 (cfgs 0).N = outD m c := by
  refine (dats m 0 c).arrAt_eq_of_covers 4 _ (by decide +kernel) fun t _ y => ?_
  blk_simp
  rw [after0_4]
  refine (delta_point m c t y).trans (congrArg (outD m c) (funext fun a => Fin.ext ?_))
  have e := idx_val t
  fin_cases a
  · show 512 * t.val + (y 0).val = _
    blk_simp [e]
    exact congrArg (· + _) (Nat.mul_comm _ _)
  · show (y 1).val = _
    blk_simp [e]
    rfl

theorem m_out (c : Dev nD) : (dats m 0 c).arrAt 5 (cfgs 0).N = outM m c := by
  refine (dats m 0 c).arrAt_eq_of_covers 5 _ (by decide +kernel) fun t _ y => ?_
  blk_simp
  rw [after0_5]
  refine (mom_point m c t y).trans (congrArg (outM m c) (funext fun a => Fin.ext ?_))
  have e := idx_val t
  fin_cases a
  · show 512 * t.val + (y 0).val = _
    blk_simp [e]
    exact congrArg (· + _) (Nat.mul_comm _ _)
  · show (y 1).val = _
    blk_simp [e]
    rfl

theorem v_out (c : Dev nD) : (dats m 0 c).arrAt 6 (cfgs 0).N = outV m c := by
  refine (dats m 0 c).arrAt_eq_of_covers 6 _ (by decide +kernel) fun t _ y => ?_
  blk_simp
  rw [after0_6]
  refine (sq_point m c t y).trans (congrArg (outV m c) (funext fun a => Fin.ext ?_))
  have e := idx_val t
  fin_cases a
  · show 512 * t.val + (y 0).val = _
    blk_simp [e]
    exact congrArg (· + _) (Nat.mul_comm _ _)
  · show (y 1).val = _
    blk_simp [e]
    rfl

theorem run_model : θ_run defs (onTc (τ := τ) (main (F := Ideal))) ⟨m, fun _ => 0, ρ⟩ fun r => ∀ c : Dev nD,
      r.2.mem ((c : Thread nD τ).loc main_v4_0) = outD m c
      ∧ r.2.mem ((c : Thread nD τ).loc main_v4_1) = outM m c
      ∧ r.2.mem ((c : Thread nD τ).loc main_v4_2) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨hd, hm, hv, k⟩ := h c
  exact ⟨hd.trans (d_out m c), hm.trans (m_out m c), hv.trans (v_out m c), k⟩

/-- An argument in rows, read at the entry it holds. -/
theorem vW_eq (c : Dev nD) (i : S2048x384.Idx) : vW m c i = m ((c : Thread nD τ).loc main_arg0) (entry i) := by
  show V m c main_v0 i = _
  entry_read
  pointwise [entry]
theorem vG_eq (c : Dev nD) (i : S2048x384.Idx) : vG m c i = m ((c : Thread nD τ).loc main_arg1) (entry i) := by
  show V m c main_v1 i = _
  entry_read
  pointwise [entry]
theorem vM_eq (c : Dev nD) (i : S2048x384.Idx) : vM m c i = m ((c : Thread nD τ).loc main_arg2) (entry i) := by
  show V m c main_v2 i = _
  entry_read
  pointwise [entry]
theorem vV_eq (c : Dev nD) (i : S2048x384.Idx) : vV m c i = m ((c : Thread nD τ).loc main_arg3) (entry i) := by
  show V m c main_v3 i = _
  entry_read
  pointwise [entry]

end Cert.Kernel9Ideal.Value

namespace Cert.Reference9Ideal.Read
open Cert.Reference9Ideal Cert.Reference9Ideal.Gen
variable (w g m v : S2x1024x384.Idx → EReal)

theorem read_v25 (i : S2048x384.Idx) : val_main_v25 (F := Ideal) g m i
    = Adam.newM (g (Kernel9Ideal.Value.entry i)) (m (Kernel9Ideal.Value.entry i)) := by
  pointwise [val_main_v25, val_main_v4, val_main_v3, val_main_v2, val_main_v1, val_main_v0, val_main_cst, val_main_cst_0, Adam.newM,
    Kernel9Ideal.Value.entry]

theorem read_v26 (i : S2048x384.Idx) : val_main_v26 (F := Ideal) g v i
    = Adam.newV (g (Kernel9Ideal.Value.entry i)) (v (Kernel9Ideal.Value.entry i)) := by
  pointwise [val_main_v26, val_main_v10, val_main_v9, val_main_v8, val_main_v7, val_main_v6, val_main_v5, val_main_cst_1, val_main_cst_2,
    Adam.newV, Kernel9Ideal.Value.entry]

theorem read_v24 (i : S2048x384.Idx) : val_main_v24 (F := Ideal) w g m v i
    = Adam.delta (w (Kernel9Ideal.Value.entry i)) (g (Kernel9Ideal.Value.entry i)) (m (Kernel9Ideal.Value.entry i))
      (v (Kernel9Ideal.Value.entry i)) := by
  pointwise [val_main_v24, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_v7, val_main_v6, val_main_v5, val_main_cst_1,
    val_main_cst_2, val_main_v4, val_main_v3, val_main_v2, val_main_v1, val_main_v0, val_main_cst, val_main_cst_0,
    Adam.delta, Adam.newM, Adam.newV, Kernel9Ideal.Value.entry]

end Cert.Reference9Ideal.Read

end
-- ==== Proof.Mod.lean ====
/- The backward call of the modulation: what it leaves in its three results. -/
module
public import proofs.«01_k».proof.Proof.Gen.Kernel10Ideal.Value
public import proofs.«01_k».proof.Proof.Gate
public import proofs.«01_k».proof.Proof.Rows
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel10Ideal.Value
open Cert.Kernel10Ideal Cert.Kernel10Ideal.Gen
variable (m : (ℓ : Loc nD τ sig) → Buf (Elt Ideal) ℓ) (ρ : Dev nD → PrngReg)

/-- Every window's block is the whole of its array. -/
theorem idx_val : ∀ t : Fin cfg0.N, win0_0.index t = ![0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0] :=
  (by decide +kernel : ∀ t : Fin grid0.N, _)

/-- The condition's sixteen rows, the gradients of the modulation (whole, and a device's columns), and the weight's columns. -/
abbrev vA (c : Dev nD) : S16x1024.Idx → EReal := V m c main_v2
abbrev vDA (c : Dev nD) : S2x16x3072.Idx → EReal := V m c main_v7
abbrev vDM (c : Dev nD) : S2x16x384.Idx → EReal := V m c main_v12
abbrev aW (c : Dev nD) : S2x1024x384.Idx → EReal := m ((c : Thread nD τ).loc main_arg2)

/-- The gradient of the weight: over the sixteen rows, the condition's silu times the modulation's gradient. -/
def gw (A : S16x1024.Idx → EReal) (D : S2x16x384.Idx → EReal) (i : S2x1024x384.Idx) : EReal :=
  ∑ r : Fin 16, A (ix2 r (i 1)) * Gate.sgT (A (ix2 r (i 1))) * D (ix3 (i 0) r (i 2))

/-- The gradient of the bias: the rows' sum. -/
def gb (D : S2x16x3072.Idx → EReal) (i : S2x1x3072.Idx) : EReal := ∑ r : Fin 16, D (ix3 (i 0) r (i 2))

/-- The gradient of the context's condition, from the last eight rows. -/
def gc (A : S16x1024.Idx → EReal) (D : S2x16x384.Idx → EReal) (W : S2x1024x384.Idx → EReal) (i : S1x1024.Idx) : EReal :=
  ∑ r : Fin 8, (∑ k : Fin 384, D (ix3 (0 : Fin 2) (⟨8 + r.val, by omega⟩ : Fin 16) k) * W (ix3 (0 : Fin 2) (i 1) k))
    * (Gate.sgT (A (ix2 (⟨8 + r.val, by omega⟩ : Fin 16) (i 1)))
      * (1 + A (ix2 (⟨8 + r.val, by omega⟩ : Fin 16) (i 1)) * (1 - Gate.sgT (A (ix2 (⟨8 + r.val, by omega⟩ : Fin 16) (i 1))))))

theorem gw_point (c : Dev nD) (t : Fin cfg0.N) (y : S2x1024x384.Idx) :
    out0_4 (iblk m c 0 t) (iblk m c 1 t) (iblk m c 2 t) (iblk m c 3 t) y = gw (vA m c) (vDM m c) y := by
  unfold out0_4
  canon_tiles x h
  all_goals
    open_payloads
    pointwise [gw, Gate.sgT, Gate.hf]
    blk_point [iblk, idx_val t]

theorem gb_point (c : Dev nD) (t : Fin cfg0.N) (y : S2x1x3072.Idx) :
    out0_5 (iblk m c 0 t) (iblk m c 1 t) (iblk m c 2 t) (iblk m c 3 t) y = gb (vDA m c) y := by
  unfold out0_5
  canon_tiles x h
  all_goals
    open_payloads
    pointwise [gb]
    blk_point [iblk, idx_val t]

theorem gc_point (c : Dev nD) (t : Fin cfg0.N) (y : S1x1024.Idx) :
    out0_6 (iblk m c 0 t) (iblk m c 1 t) (iblk m c 2 t) (iblk m c 3 t) y = gc (vA m c) (vDM m c) (aW m c) y := by
  unfold out0_6
  canon_tiles x h
  all_goals
    open_payloads
    pointwise [gc, Gate.sgT, Gate.hf]
    blk_point [iblk, idx_val t]

theorem w_out (c : Dev nD) : (dats m 0 c).arrAt 4 (cfgs 0).N = gw (vA m c) (vDM m c) := by
  refine (dats m 0 c).arrAt_eq_of_covers 4 _ (by decide +kernel) fun t _ y => ?_
  blk_simp
  rw [after0_4]
  refine (gw_point m c t y).trans (congrArg (gw (vA m c) (vDM m c)) (funext fun a => Fin.ext ?_))
  have e := idx_val t
  fin_cases a <;> blk_simp [e] <;> simp

theorem b_out (c : Dev nD) : (dats m 0 c).arrAt 5 (cfgs 0).N = gb (vDA m c) := by
  refine (dats m 0 c).arrAt_eq_of_covers 5 _ (by decide +kernel) fun t _ y => ?_
  blk_simp
  rw [after0_5]
  refine (gb_point m c t y).trans (congrArg (gb (vDA m c)) (funext fun a => Fin.ext ?_))
  have e := idx_val t
  fin_cases a <;> blk_simp [e] <;> simp

theorem c_out (c : Dev nD) : (dats m 0 c).arrAt 6 (cfgs 0).N = gc (vA m c) (vDM m c) (aW m c) := by
  refine (dats m 0 c).arrAt_eq_of_covers 6 _ (by decide +kernel) fun t _ y => ?_
  blk_simp
  rw [after0_6]
  refine (gc_point m c t y).trans (congrArg (gc (vA m c) (vDM m c) (aW m c)) (funext fun a => Fin.ext ?_))
  have e := idx_val t
  fin_cases a <;> blk_simp [e] <;> simp

theorem run_model : θ_run defs (onTc (τ := τ) (main (F := Ideal))) ⟨m, fun _ => 0, ρ⟩ fun r => ∀ c : Dev nD,
      r.2.mem ((c : Thread nD τ).loc main_v13_0) = gw (vA m c) (vDM m c)
      ∧ r.2.mem ((c : Thread nD τ).loc main_v13_1) = gb (vDA m c)
      ∧ r.2.mem ((c : Thread nD τ).loc main_v13_2) = gc (vA m c) (vDM m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨hw, hb, hc, k⟩ := h c
  exact ⟨hw.trans (w_out m c), hb.trans (b_out m c), hc.trans (c_out m c), k⟩

/-- The host's sixteen rows: eight of the examples' conditions, then the context's condition eight times. -/
theorem vA_lo (c : Dev nD) (r : Fin 8) (k : Fin 1024) :
    vA m c (ix2 (⟨r.val, by omega⟩ : Fin 16) k) = m ((c : Thread nD τ).loc main_arg0) (ix2 r k) := by
  show V m c main_v2 _ = _
  entry_read
  pointwise []
theorem vA_hi (c : Dev nD) (r : Fin 8) (k : Fin 1024) :
    vA m c (ix2 (⟨8 + r.val, by omega⟩ : Fin 16) k) = m ((c : Thread nD τ).loc main_arg1) (ix1 k) := by
  show V m c main_v2 _ = _
  entry_read
  pointwise []
theorem vDA_lo (c : Dev nD) (l : Fin 2) (r : Fin 8) (k : Fin 3072) :
    vDA m c (ix3 l (⟨r.val, by omega⟩ : Fin 16) k) = m ((c : Thread nD τ).loc main_arg3) (ix3 l r k) := by
  show V m c main_v7 _ = _
  entry_read
  pointwise []
theorem vDA_hi (c : Dev nD) (l : Fin 2) (r : Fin 8) (k : Fin 3072) :
    vDA m c (ix3 l (⟨8 + r.val, by omega⟩ : Fin 16) k)
      = if l.val = 0 then m ((c : Thread nD τ).loc main_arg4) (ix2 r k) else (0 : EReal) := by
  show V m c main_v7 _ = _
  entry_read
  pointwise []
  by_cases h : l.val = 0
  · rw [dif_pos (by omega), if_pos h]
    try after_results_simp
    try after_results_loop
    try simp only [StableHlo.launchContents_devRef]
    pointwise []
  · rw [dif_neg (by omega), if_neg h]
    try after_results_simp
    try after_results_loop
    try simp only [StableHlo.launchContents_devRef]
    pointwise []
theorem vDM_lo (c : Dev nD) (l : Fin 2) (r : Fin 8) (k : Fin 384) :
    vDM m c (ix3 l (⟨r.val, by omega⟩ : Fin 16) k) = m ((c : Thread nD τ).loc main_arg5) (ix3 l r k) := by
  show V m c main_v12 _ = _
  entry_read
  pointwise []
theorem vDM_hi (c : Dev nD) (l : Fin 2) (r : Fin 8) (k : Fin 384) :
    vDM m c (ix3 l (⟨8 + r.val, by omega⟩ : Fin 16) k)
      = if l.val = 0 then m ((c : Thread nD τ).loc main_arg6) (ix2 r k) else (0 : EReal) := by
  show V m c main_v12 _ = _
  entry_read
  pointwise []
  by_cases h : l.val = 0
  · rw [dif_pos (by omega), if_pos h]
    try after_results_simp
    try after_results_loop
    try simp only [StableHlo.launchContents_devRef]
    pointwise []
  · rw [dif_neg (by omega), if_neg h]
    try after_results_simp
    try after_results_loop
    try simp only [StableHlo.launchContents_devRef]
    pointwise []

end Cert.Kernel10Ideal.Value

end
-- ==== Proof.ModRef.lean ====
/- The modulation's gradients from the arguments: what the call leaves, and what the reference leaves. -/
module
public import proofs.«01_k».proof.Proof.Mod
public import proofs.«01_k».proof.Proof.Gen.Reference10Ideal.Read
public import proofs.«01_k».proof.Proof.Real
public import Idealize.ShloMosaic.Lib.Pointwise
@[expose] public section
set_option maxRecDepth 16384
noncomputable section
open Idealize.ShloMosaic Idealize.ShloMosaic.TcCoe Idealize.SL.Sem Idealize.ShloMosaic.StableHlo

namespace Cert.ModModel
open Cert.Reference10Ideal

/-- The gradient of the weight: the examples' rows, and for layer 0 the context's. -/
def gw (C : S8x1024.Idx → EReal) (X : S1024.Idx → EReal) (D : S2x8x384.Idx → EReal) (E : S8x384.Idx → EReal)
    (i : S2x1024x384.Idx) : EReal :=
  (∑ r : Fin 8, C (ix2 r (i 1)) * Gate.sgT (C (ix2 r (i 1))) * D (ix3 (i 0) r (i 2)))
    + if (i 0).val = 0 then ∑ r : Fin 8, X (ix1 (i 1)) * Gate.sgT (X (ix1 (i 1))) * E (ix2 r (i 2)) else 0

/-- The gradient of the bias. -/
def gb (D : S2x8x3072.Idx → EReal) (E : S8x3072.Idx → EReal) (i : S2x1x3072.Idx) : EReal :=
  (∑ r : Fin 8, D (ix3 (i 0) r (i 2))) + if (i 0).val = 0 then ∑ r : Fin 8, E (ix2 r (i 2)) else 0

/-- The gradient of the context's condition. -/
def gc (X : S1024.Idx → EReal) (E : S8x384.Idx → EReal) (W : S2x1024x384.Idx → EReal) (i : S1x1024.Idx) : EReal :=
  ∑ r : Fin 8, (∑ k : Fin 384, E (ix2 r k) * W (ix3 (0 : Fin 2) (i 1) k))
    * (Gate.sgT (X (ix1 (i 1))) * (1 + X (ix1 (i 1)) * (1 - Gate.sgT (X (ix1 (i 1))))))

/-- A sum over sixteen rows is the sum over the first eight and that over the last eight. -/
theorem sum16 (f : Fin 16 → EReal) :
    ∑ r, f r = (∑ r : Fin 8, f (⟨r.val, by omega⟩ : Fin 16)) + ∑ r : Fin 8, f (⟨8 + r.val, by omega⟩ : Fin 16) :=
  Fin.sum_univ_add (a := 8) (b := 8) f

end Cert.ModModel

namespace Cert.Kernel10Ideal.Value
open Cert.Kernel10Ideal Cert.Kernel10Ideal.Gen
variable (m : (ℓ : Loc nD τ sig) → Buf (Elt Ideal) ℓ)

theorem gw_eq (c : Dev nD) (i : S2x1024x384.Idx) : gw (vA m c) (vDM m c) i
    = ModModel.gw (m ((c : Thread nD τ).loc main_arg0)) (m ((c : Thread nD τ).loc main_arg1)) (m ((c : Thread nD τ).loc main_arg5))
        (m ((c : Thread nD τ).loc main_arg6)) i := by
  unfold gw ModModel.gw
  rw [ModModel.sum16]
  refine congrArg₂ (· + ·) (Finset.sum_congr rfl fun r _ => ?_) ?_
  · rw [vA_lo m c r (i 1), vDM_lo m c (i 0) r (i 2)]
  · by_cases h : (i 0).val = 0
    · rw [if_pos h]
      refine Finset.sum_congr rfl fun r _ => ?_
      rw [vA_hi m c r (i 1), vDM_hi m c (i 0) r (i 2), if_pos h]
    · rw [if_neg h]
      refine Finset.sum_eq_zero fun r _ => ?_
      rw [vDM_hi m c (i 0) r (i 2), if_neg h, mul_zero]

theorem gb_eq (c : Dev nD) (i : S2x1x3072.Idx) : gb (vDA m c) i
    = ModModel.gb (m ((c : Thread nD τ).loc main_arg3)) (m ((c : Thread nD τ).loc main_arg4)) i := by
  unfold gb ModModel.gb
  rw [ModModel.sum16]
  refine congrArg₂ (· + ·) (Finset.sum_congr rfl fun r _ => vDA_lo m c (i 0) r (i 2)) ?_
  by_cases h : (i 0).val = 0
  · rw [if_pos h]
    exact Finset.sum_congr rfl fun r _ => by rw [vDA_hi m c (i 0) r (i 2), if_pos h]
  · rw [if_neg h]
    exact Finset.sum_eq_zero fun r _ => by rw [vDA_hi m c (i 0) r (i 2), if_neg h]

theorem gc_eq (c : Dev nD) (i : S1x1024.Idx) : gc (vA m c) (vDM m c) (aW m c) i
    = ModModel.gc (m ((c : Thread nD τ).loc main_arg1)) (m ((c : Thread nD τ).loc main_arg6)) (m ((c : Thread nD τ).loc main_arg2)) i := by
  unfold gc ModModel.gc
  refine Finset.sum_congr rfl fun r _ => ?_
  rw [vA_hi m c r (i 1)]
  refine congrArg (· * _) (Finset.sum_congr rfl fun k _ => ?_)
  rw [vDM_hi m c 0 r k, if_pos (show ((0 : Fin 2) : Nat) = 0 from rfl)]

end Cert.Kernel10Ideal.Value

namespace Cert.Reference10Ideal.Read
open Cert.Reference10Ideal Cert.Reference10Ideal.Gen
variable (x0 : S8x1024.Idx → EReal) (x1 : S1024.Idx → EReal) (x2 : S2x1024x384.Idx → EReal) (x3 : S2x8x3072.Idx → EReal)
  (x4 : S8x3072.Idx → EReal) (x5 : S2x8x384.Idx → EReal) (x6 : S8x384.Idx → EReal)

theorem read_v4 (i : S8x1024.Idx) : val_main_v4 (F := Ideal) x0 i = x0 i * Gate.sgT (x0 i) := by
  pointwise [val_main_v4, val_main_call0_v0, val_main_call0_v1, val_main_call0_cst, val_main_call0_v2, val_main_call0_v3, val_main_call0_cst_0, val_main_call0_v4, val_main_call0_v5, Gate.sgT_eq]
  simp only [Ideal.logistic]

theorem read_v8 (i : S8x1024.Idx) : val_main_v8_0 (F := Ideal) x1 i = x1 (ix1 (i 1)) * Gate.sgT (x1 (ix1 (i 1))) := by
  pointwise [val_main_v8_0, val_main_v8_2, val_main_v7, val_main_call1_v0, val_main_call1_v1, val_main_call1_cst, val_main_call1_v2, val_main_call1_v3, val_main_call1_cst_0, val_main_call1_v4, Gate.sgT_eq]
  simp only [Ideal.logistic]

theorem read_v39 (i : S2x1024x384.Idx) : val_main_v39 (F := Ideal) x0 x1 x5 x6 i = ModModel.gw x0 x1 x5 x6 i := by
  unfold ModModel.gw
  pointwise [val_main_v39, val_main_v38, val_main_v37, val_main_v23, val_main_v22, val_main_v21, val_main_v20, val_main_v19, val_main_v15, val_main_v14, val_main_v13, val_main_v12, val_main_v11, val_main_v10, read_v4, read_v8]
  by_cases h : (i 0).val = 0
  · rw [dif_pos (by omega), if_pos h]
    have e : i 0 = (0 : Fin 2) := Fin.ext h
    rw [e, add_comm]
    exact congrArg₂ (· + ·) (Finset.sum_congr rfl fun _ _ => mul_comm _ _) (Finset.sum_congr rfl fun _ _ => mul_comm _ _)
  · rw [dif_neg (by omega), if_neg h, add_zero]
    have e : i 0 = (1 : Fin 2) := Fin.ext (by have : (i 0).val < 2 := (i 0).isLt; show (i 0).val = 1; omega)
    rw [e]
    exact Finset.sum_congr rfl fun _ _ => mul_comm _ _

theorem read_v43 (i : S2x1x3072.Idx) : val_main_v43 (F := Ideal) x3 x4 i = ModModel.gb x3 x4 i := by
  unfold ModModel.gb
  pointwise [val_main_v43, val_main_v42, val_main_v41, val_main_v40, val_main_v36, val_main_v35, val_main_v34, val_main_v33, val_main_v32, val_main_v31, val_main_v30, val_main_v29, val_main_cst_2, val_main_cst_3, val_main_cst_4]
  by_cases h : (i 0).val = 0
  · rw [dif_pos (by omega), if_pos h]
    have e : i 0 = (0 : Fin 2) := Fin.ext h
    rw [e]
    exact add_comm _ _
  · rw [dif_neg (by omega), if_neg h, add_zero]
    have e : i 0 = (1 : Fin 2) := Fin.ext (by have : (i 0).val < 2 := (i 0).isLt; show (i 0).val = 1; omega)
    rw [e]

theorem read_v44 (h1 : ∀ i, Gate.Re (x1 i)) (h2 : ∀ i, Gate.Re (x2 i)) (h6 : ∀ i, Gate.Re (x6 i)) (i : S1x1024.Idx) :
    val_main_v44 (F := Ideal) x1 x2 x6 i = ModModel.gc x1 x6 x2 i := by
  unfold ModModel.gc
  pointwise [val_main_v44, val_main_v18, val_main_v17, val_main_v16, val_main_v1, val_main_v0, val_main_cst, val_main_call2_v0, val_main_call2_v1, val_main_call2_v2, val_main_v8_1, val_main_v8_2, val_main_v7, val_main_call1_v0, val_main_call1_v1, val_main_call1_cst, val_main_call1_v2, val_main_call1_v3, val_main_call1_cst_0, val_main_call1_v4, val_main_call1_cst_1, val_main_call1_v6, val_main_call1_v7, Gate.sgT_eq]
  simp only [Ideal.logistic]
  refine Finset.sum_congr rfl fun r _ => ?_
  have g := Gate.gate_grad (Gate.Re.sum Finset.univ _ fun k : Fin 384 => (h6 (ix2 r k)).mul (h2 (ix3 (0 : Fin 2) (i 1) k))) (⟨1, rfl⟩ : Gate.Re 1)
    (h1 (ix1 (i 1))) (h1 (ix1 (i 1))).logistic
  simp only [one_mul, mul_one] at g
  exact g

end Cert.Reference10Ideal.Read

end
-- ==== Proof.Pre10.lean ====
/- The tenth program's precondition read at an element: every entry of three of its arguments is a real number. -/
module

public import proofs.«01_k».proof.Proof.Gen.Pre_finite10
public import proofs.«01_k».proof.Proof.Real
public import Idealize.ShloMosaic.Lib.ReduceAll

@[expose] public section

noncomputable section

namespace Cert.Pre_finite10

open Idealize.ShloMosaic Cert.Pre_finite10.Gen

theorem real_of_fn (x0 : FVec Ideal S8x1024 .f32) (x1 : FVec Ideal S1024 .f32) (x2 : FVec Ideal S2x1024x384 .f32)
    (x3 : FVec Ideal S2x8x3072 .f32) (x4 : FVec Ideal S8x3072 .f32) (x5 : FVec Ideal S2x8x384 .f32) (x6 : FVec Ideal S8x384 .f32)
    (h : fn (F := Ideal) x0 x1 x2 x3 x4 x5 x6 = fun _ => 1#1) :
    (∀ i, Gate.Re (x1 i)) ∧ (∀ i, Gate.Re (x2 i)) ∧ (∀ i, Gate.Re (x6 i)) := by
  have e : ∀ j : S_.Idx, fn (F := Ideal) x0 x1 x2 x3 x4 x5 x6 j = 1#1 := fun j => congrFun h j
  dsimp only [fn, andi] at e
  have e := e (Shape.Idx.first h_S_)
  simp only [IntOp.andi_eq_one] at e
  obtain ⟨⟨e1, e2⟩, e6⟩ := e
  exact ⟨fun i => Gate.Re.of_abs_lt (Host.reduce_andi_all _ _ _ _ _ e1 i), fun i => Gate.Re.of_abs_lt (Host.reduce_andi_all _ _ _ _ _ e2 i),
    fun i => Gate.Re.of_abs_lt (Host.reduce_andi_all _ _ _ _ _ e6 i)⟩

end Cert.Pre_finite10

end
-- ==== Proof.lean ====
/- The proof of the certificate's claim: the frames are generated, and the value claim joins what the kernel's run leaves
   (Proof/Dd, Dg, Gwo, Gpw, Gps, joined in Proof/Run) to what the reference's run leaves (Proof/Ref), both in the formulas of
   Proof/Model; for the second program likewise Proof/In0Dx, In0Gw, In0St, In0Run, In0Ref and Proof/InModel, for the third
   Proof/In1Dx to In1Ref, for the fourth Proof/Proj and ProjRef, for the fifth Proof/Out0, Out0Run, Out0Ref and Proof/OutModel,
   for the sixth Proof/Bout0, Bout0Dx, Bout0Gw, Bout0St, Bout0Run, Bout0Ref and Proof/LnGrad and OutGrad, and for the seventh
   Proof/Out1, Out1St, Out1Run, Out1Ref and Proof/OutLoss; Proof/Adam8 and Adam9 are the optimiser's steps. Proof/Pre, Pre6 and Pre7 read the three preconditions. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite7
public import proofs.«01_k».proof.Proof.Gen.Pre_finite10
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference5Ideal.Read
public import proofs.«01_k».proof.Proof.Dd
public import proofs.«01_k».proof.Proof.Dg
public import proofs.«01_k».proof.Proof.Gwo
public import proofs.«01_k».proof.Proof.Gpw
public import proofs.«01_k».proof.Proof.Gps
public import proofs.«01_k».proof.Proof.Po
public import proofs.«01_k».proof.Proof.Run
public import proofs.«01_k».proof.Proof.Pre
public import proofs.«01_k».proof.Proof.Ref
public import proofs.«01_k».proof.Proof.In0Run
public import proofs.«01_k».proof.Proof.In0Ref
public import proofs.«01_k».proof.Proof.In1Run
public import proofs.«01_k».proof.Proof.In1Ref
public import proofs.«01_k».proof.Proof.Proj
public import proofs.«01_k».proof.Proof.ProjRef
public import proofs.«01_k».proof.Proof.Out0Run
public import proofs.«01_k».proof.Proof.Out0Ref
public import proofs.«01_k».proof.Proof.Bout0Run
public import proofs.«01_k».proof.Proof.Bout0Ref
public import proofs.«01_k».proof.Proof.Pre6
public import proofs.«01_k».proof.Proof.Out1Run
public import proofs.«01_k».proof.Proof.Out1Ref
public import proofs.«01_k».proof.Proof.Pre7
public import proofs.«01_k».proof.Proof.Adam8
public import proofs.«01_k».proof.Proof.Adam9
public import proofs.«01_k».proof.Proof.Mod
public import proofs.«01_k».proof.Proof.ModRef
public import proofs.«01_k».proof.Proof.Pre10
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

open Cert.KernelIdeal.Value Cert.ReferenceIdeal.Read in
set_option maxRecDepth 16384 in
theorem algebraic : Cert.algebraic_KernelIdeal_ReferenceIdeal_pre_finite := by
  pair_intro
  · exact run_model m g
  · refine (θ_run Cert.ReferenceIdeal.defs _ _).mono (fun r h c => ?_) (Cert.ReferenceIdeal.Value.run (F := Ideal) m' g')
    obtain ⟨a0, a1, a2, a3, a4, a5, a6⟩ := hagree c
    have k := (h c).2.2.2.2.2
    have h := h c
    simp only [a0, a1, a2, a3, a4, a5, a6] at h
    obtain ⟨e33, e34, e17, e32, e35, -⟩ := h
    obtain ⟨f0, f1, f2, f3, f4, f5, f6⟩ := Cert.Pre_finite.real_of_fn _ _ _ _ _ _ _ (hpre c)
    refine ⟨e33.trans ?_, e34.trans ?_, e17.trans ?_, e32.trans ?_, e35.trans ?_, k⟩
    · exact (val_main_v33_eq ..).trans (funext fun i => read_v33 ..)
    · exact (val_main_v34_eq ..).trans (funext fun i => read_v34 _ _ _ _ _ _ _ f0 f1 f2 f3 f4 f5 f6 i)
    · exact (val_main_v17_eq ..).trans (funext fun i => read_v17 ..)
    · exact (val_main_v32_eq ..).trans (funext fun i => read_v32 ..)
    · exact (val_main_v35_eq ..).trans (funext fun i => read_v35 ..)

theorem frame_reference2 : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run (F := Ideal) m g)

open Cert.Kernel2Ideal.Value Cert.Reference2Ideal.Read in
set_option maxRecDepth 16384 in
theorem algebraic2 : Cert.algebraic_Kernel2Ideal_Reference2Ideal := by
  pair_intro
  · exact run_model m g
  · refine (θ_run Cert.Reference2Ideal.defs _ _).mono (fun r h c => ?_) (Cert.Reference2Ideal.Value.run (F := Ideal) m' g')
    obtain ⟨a0, a1, a2, a3, a4, a5, a6, a7⟩ := hagree c
    obtain ⟨e22, e26, e28, k⟩ := h c
    refine ⟨e22.trans ?_, e26.trans ?_, e28.trans ?_, k⟩
    · refine (val_main_v22_eq ..).trans (funext fun i => (read_v22 ..).trans ?_)
      rw [a0, a1, a3, a4, a6]
      rfl
    · refine (val_main_v26_eq ..).trans (funext fun i => (read_v26 ..).trans ?_)
      rw [a0, a1, a2, a4, a5, a7]
      rfl
    · refine (val_main_v28_eq ..).trans (funext fun i => (read_v28 ..).trans ?_)
      rw [a0, a1, a2, a6]
      rfl

theorem frame_reference3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run (F := Ideal) m g)

open Cert.Kernel3Ideal.Value Cert.Reference3Ideal.Read in
set_option maxRecDepth 16384 in
theorem algebraic3 : Cert.algebraic_Kernel3Ideal_Reference3Ideal := by
  pair_intro
  · exact run_model m g
  · refine (θ_run Cert.Reference3Ideal.defs _ _).mono (fun r h c => ?_) (Cert.Reference3Ideal.Value.run (F := Ideal) m' g')
    obtain ⟨a0, a1, a2, a3, a4, a5, a6⟩ := hagree c
    obtain ⟨e22, e24, e26, k⟩ := h c
    refine ⟨e22.trans ?_, e24.trans ?_, e26.trans ?_, k⟩
    · refine (val_main_v22_eq ..).trans (funext fun i => (read_v22 ..).trans ?_)
      rw [a0, a1, a3, a4, a6]
      rfl
    · refine (val_main_v24_eq ..).trans (funext fun i => (read_v24 ..).trans ?_)
      rw [a0, a1, a2, a4, a5]
      rfl
    · refine (val_main_v26_eq ..).trans (funext fun i => (read_v26 ..).trans ?_)
      rw [a0, a1, a2, a6]
      rfl

theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

open Cert.Kernel4Ideal.Value Cert.Reference4Ideal.Read in
set_option maxRecDepth 16384 in
theorem algebraic4 : Cert.algebraic_Kernel4Ideal_Reference4Ideal := by
  pair_intro
  · exact run_model m g
  · refine (θ_run Cert.Reference4Ideal.defs _ _).mono (fun r h c => ?_) (Cert.Reference4Ideal.Value.run (F := Ideal) m' g')
    obtain ⟨a0, a1, a2, a3⟩ := hagree c
    obtain ⟨e9, e11, k⟩ := h c
    refine ⟨e9.trans ?_, e11.trans ?_, k⟩
    · refine (val_main_v9_eq ..).trans (funext fun i => (read_v9 ..).trans ?_)
      rw [a0, a1, a2, a3]
      rfl
    · refine (val_main_v11_eq ..).trans (funext fun i => (read_v11 ..).trans ?_)
      rw [a0, a1, a2, a3]
      rfl

theorem frame_reference5 : Cert.quiescent_Reference5Ideal := fun m g _ =>
  (θ_run Cert.Reference5Ideal.defs _ _).mono (fun r h => ⟨fun c => (h c).2.2.2.2, sem_eq_zero_of_no_sems (by decide) r.2⟩)
    (Cert.Reference5Ideal.Value.run (F := Ideal) m g)

open Cert.Kernel5Ideal.Value Cert.Reference5Ideal.Read in
set_option maxRecDepth 16384 in
theorem algebraic5 : Cert.algebraic_Kernel5Ideal_Reference5Ideal := by
  pair_intro
  · exact run_model m g
  · refine (θ_run Cert.Reference5Ideal.defs _ _).mono (fun r h c => ?_) (Cert.Reference5Ideal.Value.run (F := Ideal) m' g')
    obtain ⟨a0, a1, a2, a3, a4, a5, a6, a7, a8, a9, a10⟩ := hagree c
    obtain ⟨e30, e42, e43, e44, k⟩ := h c
    refine ⟨e30.trans ?_, e42.trans ?_, e43.trans ?_, e44.trans ?_, k⟩
    · refine (val_main_v30_eq ..).trans (funext fun i => (read_v30 ..).trans ?_)
      rw [a0, a1, a2, a3, a4, a5, a6, a7]
      rfl
    · refine (val_main_v42_eq ..).trans (funext fun i => (read_v42 ..).trans ?_)
      rw [a0, a1, a2, a5]
      rfl
    · refine (val_main_v43_eq ..).trans (funext fun i => (read_v43 ..).trans ?_)
      rw [a0, a1, a2, a3, a4, a5, a6, a7, a8, a9, a10]
      rfl
    · refine (val_main_v44_eq ..).trans (funext fun i => (read_v44 ..).trans ?_)
      rw [a0, a1, a2, a3, a4, a5, a6, a7, a8, a9, a10]
      rfl

theorem frame_reference6 : Cert.quiescent_Reference6Ideal := fun m g _ =>
  (θ_run Cert.Reference6Ideal.defs _ _).mono (fun r h => ⟨fun c => (h c).2.2.2.2.2, sem_eq_zero_of_no_sems (by decide) r.2⟩)
    (Cert.Reference6Ideal.Value.run (F := Ideal) m g)

open Cert.Kernel6Ideal.Value Cert.Reference6Ideal.Read in
set_option maxRecDepth 16384 in
theorem algebraic6 : Cert.algebraic_Kernel6Ideal_Reference6Ideal_pre_finite6 := by
  pair_intro
  · exact run_model m g
  · refine (θ_run Cert.Reference6Ideal.defs _ _).mono (fun r h c => ?_) (Cert.Reference6Ideal.Value.run (F := Ideal) m' g')
    obtain ⟨a0, a1, a2, a3, a4, a5, a6, a7, a8⟩ := hagree c
    obtain ⟨e67, e84, e85, e74, e83, k⟩ := h c
    have f := Cert.Pre_finite6.real_of_fn _ _ _ _ _ _ _ _ _ (hpre c)
    rw [← a0, ← a1, ← a2, ← a4, ← a5, ← a6, ← a7, ← a8] at f
    obtain ⟨f0, f1, f2, f4, f5, f6, f7, f8⟩ := f
    have hz := read_dz _ _ _ _ _ _ _ _ f0 f1 f2 f4 f5 f6 f7 f8
    have hd := fun R j => OutModel.dz_real (OutModel.z_real f1 f4 f5 f6 f7 f8 R) (OutModel.dn_real f0 f2 R) j
    refine ⟨e67.trans ?_, e84.trans ?_, e85.trans ?_, e74.trans ?_, e83.trans ?_, k⟩
    · refine (val_main_v67_eq ..).trans (funext fun i => (hz i).trans ?_)
      rw [a0, a1, a2, a4, a5, a6, a7, a8]
      rfl
    · refine (val_main_v84_eq ..).trans (funext fun i => (read_v84 hz i).trans ?_)
      rw [a0, a1, a2, a4, a5, a6, a7, a8]
      rfl
    · refine (val_main_v85_eq ..).trans (funext fun i => (read_v85 hz hd f4 f5 f6 f7 f8 i).trans ?_)
      rw [a0, a1, a2, a4, a5, a6, a7, a8]
      rfl
    · refine (val_main_v74_eq ..).trans (funext fun i => (read_v74 hz i).trans ?_)
      rw [a0, a1, a2, a4, a5, a6, a7, a8]
      rfl
    · refine (val_main_v83_eq ..).trans (funext fun i => (read_v83 hz i).trans ?_)
      rw [a0, a1, a2, a4, a5, a6, a7, a8]
      rfl

theorem frame_reference7 : Cert.quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

open Cert.Kernel7Ideal.Value Cert.Reference7Ideal.Read in
set_option maxRecDepth 16384 in
theorem algebraic7 : Cert.algebraic_Kernel7Ideal_Reference7Ideal_pre_finite7 := by
  pair_intro
  · exact run_model m g
  · refine (θ_run Cert.Reference7Ideal.defs _ _).mono (fun r h c => ?_) (Cert.Reference7Ideal.Value.run (F := Ideal) m' g')
    obtain ⟨a0, a1, a2, a3, a4, a5, a6, a7, a8, a9⟩ := hagree c
    obtain ⟨e91, e96, e97, k⟩ := h c
    have f := Cert.Pre_finite7.real_of_fn _ _ _ _ _ _ _ _ _ _ (hpre c)
    rw [← a0, ← a1, ← a2, ← a3, ← a4, ← a5, ← a6, ← a7, ← a8, ← a9] at f
    obtain ⟨f0, f1, f2, f3, f4, f5, f6, f7, f8, f9⟩ := f
    have hz := read_dz _ _ _ _ _ _ _ _ _ _ f0 f1 f2 f3 f4 f5 f6 f7 f8 f9
    refine ⟨e91.trans ?_, e96.trans ?_, e97.trans ?_, k⟩
    · refine (val_main_v91_eq ..).trans (funext fun i => (hz i).trans ?_)
      rw [a0, a1, a2, a3, a4, a5, a6, a7, a8, a9]
      rfl
    · refine (val_main_v96_eq ..).trans (funext fun i => (read_v96 hz i).trans ?_)
      rw [a0, a1, a2, a3, a4, a5, a6, a7, a8, a9]
      rfl
    · refine (val_main_v97_eq ..).trans (funext fun i => (read_v97 (m' ((c.tc : Thread Cert.Reference7Ideal.nD Cert.Reference7Ideal.τ).loc
        Cert.Reference7Ideal.main_arg0)) (m' ((c.tc : Thread Cert.Reference7Ideal.nD Cert.Reference7Ideal.τ).loc
        Cert.Reference7Ideal.main_arg1)) i).trans ?_)
      rw [a0, a1]
      rfl

theorem frame_reference8 : Cert.quiescent_Reference8Ideal := fun m g _ =>
  (θ_run Cert.Reference8Ideal.defs _ _).mono (fun r h => ⟨fun c => (h c).2.2.2, sem_eq_zero_of_no_sems (by decide) r.2⟩)
    (Cert.Reference8Ideal.Value.run (F := Ideal) m g)

open Cert.Kernel8Ideal.Value Cert.Reference8Ideal.Read in
set_option maxRecDepth 16384 in
theorem algebraic8 : Cert.algebraic_Kernel8Ideal_Reference8Ideal := by
  pair_intro
  · exact run_model m g
  · refine (θ_run Cert.Reference8Ideal.defs _ _).mono (fun r h c => ?_) (Cert.Reference8Ideal.Value.run (F := Ideal) m' g')
    obtain ⟨a0, a1, a2, a3⟩ := hagree c
    obtain ⟨e24, e25, e26, k⟩ := h c
    refine ⟨e24.trans ?_, e25.trans ?_, e26.trans ?_, k⟩
    · refine (val_main_v24_eq ..).trans (funext fun i => (read_v24 ..).trans ?_)
      rw [a0, a1, a2, a3, ← vW_eq m c, ← vG_eq m c, ← vM_eq m c, ← vV_eq m c]
      rfl
    · refine (val_main_v25_eq ..).trans (funext fun i => (read_v25 ..).trans ?_)
      rw [a1, a2, ← vG_eq m c, ← vM_eq m c]
      rfl
    · refine (val_main_v26_eq ..).trans (funext fun i => (read_v26 ..).trans ?_)
      rw [a1, a3, ← vG_eq m c, ← vV_eq m c]
      rfl

theorem frame_reference9 : Cert.quiescent_Reference9Ideal := fun m g _ =>
  (θ_run Cert.Reference9Ideal.defs _ _).mono (fun r h => ⟨fun c => (h c).2.2.2, sem_eq_zero_of_no_sems (by decide) r.2⟩)
    (Cert.Reference9Ideal.Value.run (F := Ideal) m g)

open Cert.Kernel9Ideal.Value Cert.Reference9Ideal.Read in
set_option maxRecDepth 16384 in
theorem algebraic9 : Cert.algebraic_Kernel9Ideal_Reference9Ideal := by
  pair_intro
  · exact run_model m g
  · refine (θ_run Cert.Reference9Ideal.defs _ _).mono (fun r h c => ?_) (Cert.Reference9Ideal.Value.run (F := Ideal) m' g')
    obtain ⟨a0, a1, a2, a3⟩ := hagree c
    obtain ⟨e24, e25, e26, k⟩ := h c
    refine ⟨e24.trans ?_, e25.trans ?_, e26.trans ?_, k⟩
    · refine (val_main_v24_eq ..).trans (funext fun i => (read_v24 ..).trans ?_)
      rw [a0, a1, a2, a3, ← vW_eq m c, ← vG_eq m c, ← vM_eq m c, ← vV_eq m c]
      rfl
    · refine (val_main_v25_eq ..).trans (funext fun i => (read_v25 ..).trans ?_)
      rw [a1, a2, ← vG_eq m c, ← vM_eq m c]
      rfl
    · refine (val_main_v26_eq ..).trans (funext fun i => (read_v26 ..).trans ?_)
      rw [a1, a3, ← vG_eq m c, ← vV_eq m c]
      rfl

theorem frame_reference10 : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run (F := Ideal) m g)

open Cert.Kernel10Ideal.Value Cert.Reference10Ideal.Read in
set_option maxRecDepth 16384 in
theorem algebraic10 : Cert.algebraic_Kernel10Ideal_Reference10Ideal_pre_finite10 := by
  pair_intro
  · exact run_model m g
  · refine (θ_run Cert.Reference10Ideal.defs _ _).mono (fun r h c => ?_) (Cert.Reference10Ideal.Value.run (F := Ideal) m' g')
    obtain ⟨a0, a1, a2, a3, a4, a5, a6⟩ := hagree c
    obtain ⟨e39, e43, e44, k⟩ := h c
    have f := Cert.Pre_finite10.real_of_fn _ _ _ _ _ _ _ (hpre c)
    rw [← a1, ← a2, ← a6] at f
    obtain ⟨f1, f2, f6⟩ := f
    refine ⟨e39.trans ?_, e43.trans ?_, e44.trans ?_, k⟩
    · refine (val_main_v39_eq ..).trans (funext fun i => (read_v39 _ _ _ _ i).trans ?_)
      rw [a0, a1, a5, a6]
      exact (gw_eq m c i).symm
    · refine (val_main_v43_eq ..).trans (funext fun i => (read_v43 _ _ i).trans ?_)
      rw [a3, a4]
      exact (gb_eq m c i).symm
    · refine (val_main_v44_eq ..).trans (funext fun i => (read_v44 _ _ _ f1 f2 f6 i).trans ?_)
      rw [a1, a2, a6]
      exact (gc_eq m c i).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts, Cert.Pre_finite6.Gen.facts, Cert.Pre_finite7.Gen.facts, Cert.Pre_finite10.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial,
    fun m ρ _ => Cert.Kernel7.Gen.frame m ρ, fun m ρ _ => Cert.Kernel7Ideal.Gen.frame m ρ, fun m ρ _ => Cert.Kernel7Ideal.Gen.frame m ρ,
    frame_reference7, fun m ρ _ => frame_reference7 m ρ trivial,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, fun m ρ _ => Cert.Kernel10Ideal.Gen.frame m ρ,
    frame_reference10, fun m ρ _ => frame_reference10 m ρ trivial,
    trivial, algebraic, trivial, algebraic2, trivial, algebraic3, trivial, algebraic4, trivial, algebraic5, trivial, algebraic6,
    trivial, algebraic7, trivial, algebraic8, trivial, algebraic9, trivial, algebraic10⟩

end Cert.Proof

end
